-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QIdeal_finite_sums [hPre_finite_sums : Cert.Pre_finite_sums.Facts] (m : (ℓ : Loc Cert.QIdeal.nD Cert.QIdeal.τ Cert.QIdeal.sig) → Buf (Elt Ideal) ℓ) : Prop :=
  ∀ c : Dev Cert.QIdeal.nD,
    (Cert.Pre_finite_sums.fn (F := Ideal) (m ((c.tc : Thread Cert.QIdeal.nD Cert.QIdeal.τ).loc Cert.QIdeal.main_arg0)) (m ((c.tc : Thread Cert.QIdeal.nD Cert.QIdeal.τ).loc Cert.QIdeal.main_arg1)) (m ((c.tc : Thread Cert.QIdeal.nD Cert.QIdeal.τ).loc Cert.QIdeal.main_arg2)) (m ((c.tc : Thread Cert.QIdeal.nD Cert.QIdeal.τ).loc Cert.QIdeal.main_arg3))) = (fun _ => 1#1)

def Pre_QReferenceIdeal (m : (ℓ : Loc Cert.QReferenceIdeal.nD Cert.QReferenceIdeal.τ Cert.QReferenceIdeal.sig) → Buf (Elt Ideal) ℓ) : Prop :=
  True

def Pre_QReferenceIdeal_finite_sums [hPre_finite_sums : Cert.Pre_finite_sums.Facts] (m : (ℓ : Loc Cert.QReferenceIdeal.nD Cert.QReferenceIdeal.τ Cert.QReferenceIdeal.sig) → Buf (Elt Ideal) ℓ) : Prop :=
  ∀ c : Dev Cert.QReferenceIdeal.nD,
    (Cert.Pre_finite_sums.fn (F := Ideal) (m ((c.tc : Thread Cert.QReferenceIdeal.nD Cert.QReferenceIdeal.τ).loc Cert.QReferenceIdeal.main_arg0)) (m ((c.tc : Thread Cert.QReferenceIdeal.nD Cert.QReferenceIdeal.τ).loc Cert.QReferenceIdeal.main_arg1)) (m ((c.tc : Thread Cert.QReferenceIdeal.nD Cert.QReferenceIdeal.τ).loc Cert.QReferenceIdeal.main_arg2)) (m ((c.tc : Thread Cert.QReferenceIdeal.nD Cert.QReferenceIdeal.τ).loc Cert.QReferenceIdeal.main_arg3))) = (fun _ => 1#1)

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvIdeal_open_gates [hPre_open_gates : Cert.Pre_open_gates.Facts] (m : (ℓ : Loc Cert.KvIdeal.nD Cert.KvIdeal.τ Cert.KvIdeal.sig) → Buf (Elt Ideal) ℓ) : Prop :=
  ∀ c : Dev Cert.KvIdeal.nD,
    (Cert.Pre_open_gates.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3))) = (fun _ => 1#1)

def Pre_KvReferenceIdeal (m : (ℓ : Loc Cert.KvReferenceIdeal.nD Cert.KvReferenceIdeal.τ Cert.KvReferenceIdeal.sig) → Buf (Elt Ideal) ℓ) : Prop :=
  True

def Pre_KvReferenceIdeal_open_gates [hPre_open_gates : Cert.Pre_open_gates.Facts] (m : (ℓ : Loc Cert.KvReferenceIdeal.nD Cert.KvReferenceIdeal.τ Cert.KvReferenceIdeal.sig) → Buf (Elt Ideal) ℓ) : Prop :=
  ∀ c : Dev Cert.KvReferenceIdeal.nD,
    (Cert.Pre_open_gates.fn (F := Ideal) (m ((c.tc : Thread Cert.KvReferenceIdeal.nD Cert.KvReferenceIdeal.τ).loc Cert.KvReferenceIdeal.main_arg0)) (m ((c.tc : Thread Cert.KvReferenceIdeal.nD Cert.KvReferenceIdeal.τ).loc Cert.KvReferenceIdeal.main_arg1)) (m ((c.tc : Thread Cert.KvReferenceIdeal.nD Cert.KvReferenceIdeal.τ).loc Cert.KvReferenceIdeal.main_arg2)) (m ((c.tc : Thread Cert.KvReferenceIdeal.nD Cert.KvReferenceIdeal.τ).loc Cert.KvReferenceIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Summary (m : (ℓ : Loc Cert.Summary.nD Cert.Summary.τ Cert.Summary.sig) → Buf (Elt Bits) ℓ) : Prop :=
  True

def Pre_SummaryIdeal (m : (ℓ : Loc Cert.SummaryIdeal.nD Cert.SummaryIdeal.τ Cert.SummaryIdeal.sig) → Buf (Elt Ideal) ℓ) : Prop :=
  True

def Pre_SummaryReferenceIdeal (m : (ℓ : Loc Cert.SummaryReferenceIdeal.nD Cert.SummaryReferenceIdeal.τ Cert.SummaryReferenceIdeal.sig) → Buf (Elt Ideal) ℓ) : Prop :=
  True

def Pre_Chunk (m : (ℓ : Loc Cert.Chunk.nD Cert.Chunk.τ Cert.Chunk.sig) → Buf (Elt Bits) ℓ) : Prop :=
  True

def Pre_ChunkIdeal (m : (ℓ : Loc Cert.ChunkIdeal.nD Cert.ChunkIdeal.τ Cert.ChunkIdeal.sig) → Buf (Elt Ideal) ℓ) : Prop :=
  True

def Pre_ChunkReferenceIdeal (m : (ℓ : Loc Cert.ChunkReferenceIdeal.nD Cert.ChunkReferenceIdeal.τ Cert.ChunkReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2)
      ∧ r.2.mem ((c.tc : Thread Cert.Q.nD Cert.Q.τ).loc Cert.Q.main_arg3) = m ((c.tc : Thread Cert.Q.nD Cert.Q.τ).loc Cert.Q.main_arg3))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2)
      ∧ r.2.mem ((c.tc : Thread Cert.QIdeal.nD Cert.QIdeal.τ).loc Cert.QIdeal.main_arg3) = m ((c.tc : Thread Cert.QIdeal.nD Cert.QIdeal.τ).loc Cert.QIdeal.main_arg3))
      ∧ r.2.sem = fun _ => 0)

def quiescent_QIdeal_pre_finite_sums [hQIdeal : Cert.QIdeal.Facts] [hPre_finite_sums : Cert.Pre_finite_sums.Facts] : Prop :=
  ∀ (m : (ℓ : Loc Cert.QIdeal.nD Cert.QIdeal.τ Cert.QIdeal.sig) → Buf (Elt Ideal) ℓ) (g : Dev Cert.QIdeal.nD → PrngReg), Pre_QIdeal_finite_sums m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2)
      ∧ r.2.mem ((c.tc : Thread Cert.QIdeal.nD Cert.QIdeal.τ).loc Cert.QIdeal.main_arg3) = m ((c.tc : Thread Cert.QIdeal.nD Cert.QIdeal.τ).loc Cert.QIdeal.main_arg3))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2)
      ∧ r.2.mem ((c.tc : Thread Cert.QReferenceIdeal.nD Cert.QReferenceIdeal.τ).loc Cert.QReferenceIdeal.main_arg3) = m ((c.tc : Thread Cert.QReferenceIdeal.nD Cert.QReferenceIdeal.τ).loc Cert.QReferenceIdeal.main_arg3))
      ∧ r.2.sem = fun _ => 0)

def quiescent_QReferenceIdeal_pre_finite_sums [hQReferenceIdeal : Cert.QReferenceIdeal.Facts] [hPre_finite_sums : Cert.Pre_finite_sums.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal_finite_sums m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2)
      ∧ r.2.mem ((c.tc : Thread Cert.QReferenceIdeal.nD Cert.QReferenceIdeal.τ).loc Cert.QReferenceIdeal.main_arg3) = m ((c.tc : Thread Cert.QReferenceIdeal.nD Cert.QReferenceIdeal.τ).loc Cert.QReferenceIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvIdeal_pre_open_gates [hKvIdeal : Cert.KvIdeal.Facts] [hPre_open_gates : Cert.Pre_open_gates.Facts] : Prop :=
  ∀ (m : (ℓ : Loc Cert.KvIdeal.nD Cert.KvIdeal.τ Cert.KvIdeal.sig) → Buf (Elt Ideal) ℓ) (g : Dev Cert.KvIdeal.nD → PrngReg), Pre_KvIdeal_open_gates m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3))
      ∧ r.2.sem = fun _ => 0)

def quiescent_KvReferenceIdeal_pre_open_gates [hKvReferenceIdeal : Cert.KvReferenceIdeal.Facts] [hPre_open_gates : Cert.Pre_open_gates.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal_open_gates m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Summary [hSummary : Cert.Summary.Facts] : Prop :=
  ∀ (m : (ℓ : Loc Cert.Summary.nD Cert.Summary.τ Cert.Summary.sig) → Buf (Elt Bits) ℓ) (g : Dev Cert.Summary.nD → PrngReg), Pre_Summary m →
    θ_run (Cert.Summary.defs (F := Bits)) (onTc (τ := Cert.Summary.τ) (Cert.Summary.main (F := Bits))) ⟨m, fun _ => 0, g⟩ (fun r => (∀ c : Dev Cert.Summary.nD,
      r.2.mem ((c.tc : Thread Cert.Summary.nD Cert.Summary.τ).loc Cert.Summary.main_arg0) = m ((c.tc : Thread Cert.Summary.nD Cert.Summary.τ).loc Cert.Summary.main_arg0)
      ∧ r.2.mem ((c.tc : Thread Cert.Summary.nD Cert.Summary.τ).loc Cert.Summary.main_arg1) = m ((c.tc : Thread Cert.Summary.nD Cert.Summary.τ).loc Cert.Summary.main_arg1))
      ∧ r.2.sem = fun _ => 0)

def quiescent_SummaryIdeal [hSummaryIdeal : Cert.SummaryIdeal.Facts] : Prop :=
  ∀ (m : (ℓ : Loc Cert.SummaryIdeal.nD Cert.SummaryIdeal.τ Cert.SummaryIdeal.sig) → Buf (Elt Ideal) ℓ) (g : Dev Cert.SummaryIdeal.nD → PrngReg), Pre_SummaryIdeal m →
    θ_run (Cert.SummaryIdeal.defs (F := Ideal)) (onTc (τ := Cert.SummaryIdeal.τ) (Cert.SummaryIdeal.main (F := Ideal))) ⟨m, fun _ => 0, g⟩ (fun r => (∀ c : Dev Cert.SummaryIdeal.nD,
      r.2.mem ((c.tc : Thread Cert.SummaryIdeal.nD Cert.SummaryIdeal.τ).loc Cert.SummaryIdeal.main_arg0) = m ((c.tc : Thread Cert.SummaryIdeal.nD Cert.SummaryIdeal.τ).loc Cert.SummaryIdeal.main_arg0)
      ∧ r.2.mem ((c.tc : Thread Cert.SummaryIdeal.nD Cert.SummaryIdeal.τ).loc Cert.SummaryIdeal.main_arg1) = m ((c.tc : Thread Cert.SummaryIdeal.nD Cert.SummaryIdeal.τ).loc Cert.SummaryIdeal.main_arg1))
      ∧ r.2.sem = fun _ => 0)

def quiescent_SummaryReferenceIdeal [hSummaryReferenceIdeal : Cert.SummaryReferenceIdeal.Facts] : Prop :=
  ∀ (m : (ℓ : Loc Cert.SummaryReferenceIdeal.nD Cert.SummaryReferenceIdeal.τ Cert.SummaryReferenceIdeal.sig) → Buf (Elt Ideal) ℓ) (g : Dev Cert.SummaryReferenceIdeal.nD → PrngReg), Pre_SummaryReferenceIdeal m →
    θ_run (Cert.SummaryReferenceIdeal.defs (F := Ideal)) (onTc (τ := Cert.SummaryReferenceIdeal.τ) (Cert.SummaryReferenceIdeal.main (F := Ideal))) ⟨m, fun _ => 0, g⟩ (fun r => (∀ c : Dev Cert.SummaryReferenceIdeal.nD,
      r.2.mem ((c.tc : Thread Cert.SummaryReferenceIdeal.nD Cert.SummaryReferenceIdeal.τ).loc Cert.SummaryReferenceIdeal.main_arg0) = m ((c.tc : Thread Cert.SummaryReferenceIdeal.nD Cert.SummaryReferenceIdeal.τ).loc Cert.SummaryReferenceIdeal.main_arg0)
      ∧ r.2.mem ((c.tc : Thread Cert.SummaryReferenceIdeal.nD Cert.SummaryReferenceIdeal.τ).loc Cert.SummaryReferenceIdeal.main_arg1) = m ((c.tc : Thread Cert.SummaryReferenceIdeal.nD Cert.SummaryReferenceIdeal.τ).loc Cert.SummaryReferenceIdeal.main_arg1))
      ∧ r.2.sem = fun _ => 0)

def quiescent_Chunk [hChunk : Cert.Chunk.Facts] : Prop :=
  ∀ (m : (ℓ : Loc Cert.Chunk.nD Cert.Chunk.τ Cert.Chunk.sig) → Buf (Elt Bits) ℓ) (g : Dev Cert.Chunk.nD → PrngReg), Pre_Chunk m →
    θ_run (Cert.Chunk.defs (F := Bits)) (onTc (τ := Cert.Chunk.τ) (Cert.Chunk.main (F := Bits))) ⟨m, fun _ => 0, g⟩ (fun r => (∀ c : Dev Cert.Chunk.nD,
      r.2.mem ((c.tc : Thread Cert.Chunk.nD Cert.Chunk.τ).loc Cert.Chunk.main_arg0) = m ((c.tc : Thread Cert.Chunk.nD Cert.Chunk.τ).loc Cert.Chunk.main_arg0)
      ∧ r.2.mem ((c.tc : Thread Cert.Chunk.nD Cert.Chunk.τ).loc Cert.Chunk.main_arg1) = m ((c.tc : Thread Cert.Chunk.nD Cert.Chunk.τ).loc Cert.Chunk.main_arg1)
      ∧ r.2.mem ((c.tc : Thread Cert.Chunk.nD Cert.Chunk.τ).loc Cert.Chunk.main_arg2) = m ((c.tc : Thread Cert.Chunk.nD Cert.Chunk.τ).loc Cert.Chunk.main_arg2)
      ∧ r.2.mem ((c.tc : Thread Cert.Chunk.nD Cert.Chunk.τ).loc Cert.Chunk.main_arg3) = m ((c.tc : Thread Cert.Chunk.nD Cert.Chunk.τ).loc Cert.Chunk.main_arg3)
      ∧ r.2.mem ((c.tc : Thread Cert.Chunk.nD Cert.Chunk.τ).loc Cert.Chunk.main_arg4) = m ((c.tc : Thread Cert.Chunk.nD Cert.Chunk.τ).loc Cert.Chunk.main_arg4))
      ∧ r.2.sem = fun _ => 0)

def quiescent_ChunkIdeal [hChunkIdeal : Cert.ChunkIdeal.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1)
      ∧ r.2.mem ((c.tc : Thread Cert.ChunkIdeal.nD Cert.ChunkIdeal.τ).loc Cert.ChunkIdeal.main_arg2) = m ((c.tc : Thread Cert.ChunkIdeal.nD Cert.ChunkIdeal.τ).loc Cert.ChunkIdeal.main_arg2)
      ∧ r.2.mem ((c.tc : Thread Cert.ChunkIdeal.nD Cert.ChunkIdeal.τ).loc Cert.ChunkIdeal.main_arg3) = m ((c.tc : Thread Cert.ChunkIdeal.nD Cert.ChunkIdeal.τ).loc Cert.ChunkIdeal.main_arg3)
      ∧ r.2.mem ((c.tc : Thread Cert.ChunkIdeal.nD Cert.ChunkIdeal.τ).loc Cert.ChunkIdeal.main_arg4) = m ((c.tc : Thread Cert.ChunkIdeal.nD Cert.ChunkIdeal.τ).loc Cert.ChunkIdeal.main_arg4))
      ∧ r.2.sem = fun _ => 0)

def quiescent_ChunkReferenceIdeal [hChunkReferenceIdeal : Cert.ChunkReferenceIdeal.Facts] : Prop :=
  ∀ (m : (ℓ : Loc Cert.ChunkReferenceIdeal.nD Cert.ChunkReferenceIdeal.τ Cert.ChunkReferenceIdeal.sig) → Buf (Elt Ideal) ℓ) (g : Dev Cert.ChunkReferenceIdeal.nD → PrngReg), Pre_ChunkReferenceIdeal m →
    θ_run (Cert.ChunkReferenceIdeal.defs (F := Ideal)) (onTc (τ := Cert.ChunkReferenceIdeal.τ) (Cert.ChunkReferenceIdeal.main (F := Ideal))) ⟨m, fun _ => 0, g⟩ (fun r => (∀ c : Dev Cert.ChunkReferenceIdeal.nD,
      r.2.mem ((c.tc : Thread Cert.ChunkReferenceIdeal.nD Cert.ChunkReferenceIdeal.τ).loc Cert.ChunkReferenceIdeal.main_arg0) = m ((c.tc : Thread Cert.ChunkReferenceIdeal.nD Cert.ChunkReferenceIdeal.τ).loc Cert.ChunkReferenceIdeal.main_arg0)
      ∧ r.2.mem ((c.tc : Thread Cert.ChunkReferenceIdeal.nD Cert.ChunkReferenceIdeal.τ).loc Cert.ChunkReferenceIdeal.main_arg1) = m ((c.tc : Thread Cert.ChunkReferenceIdeal.nD Cert.ChunkReferenceIdeal.τ).loc Cert.ChunkReferenceIdeal.main_arg1)
      ∧ r.2.mem ((c.tc : Thread Cert.ChunkReferenceIdeal.nD Cert.ChunkReferenceIdeal.τ).loc Cert.ChunkReferenceIdeal.main_arg2) = m ((c.tc : Thread Cert.ChunkReferenceIdeal.nD Cert.ChunkReferenceIdeal.τ).loc Cert.ChunkReferenceIdeal.main_arg2)
      ∧ r.2.mem ((c.tc : Thread Cert.ChunkReferenceIdeal.nD Cert.ChunkReferenceIdeal.τ).loc Cert.ChunkReferenceIdeal.main_arg3) = m ((c.tc : Thread Cert.ChunkReferenceIdeal.nD Cert.ChunkReferenceIdeal.τ).loc Cert.ChunkReferenceIdeal.main_arg3)
      ∧ r.2.mem ((c.tc : Thread Cert.ChunkReferenceIdeal.nD Cert.ChunkReferenceIdeal.τ).loc Cert.ChunkReferenceIdeal.main_arg4) = m ((c.tc : Thread Cert.ChunkReferenceIdeal.nD Cert.ChunkReferenceIdeal.τ).loc Cert.ChunkReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v17) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v6)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v6) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v30) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v11) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_Q_QIdeal : Prop :=
  True

def algebraic_QIdeal_QReferenceIdeal_pre_finite_sums [hQIdeal : Cert.QIdeal.Facts] [hQReferenceIdeal : Cert.QReferenceIdeal.Facts] [hPre_finite_sums : Cert.Pre_finite_sums.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QIdeal_finite_sums m →
    (∀ c : Dev Cert.QIdeal.nD,
      m' ((c.tc : Thread Cert.QReferenceIdeal.nD Cert.QReferenceIdeal.τ).loc Cert.QReferenceIdeal.main_arg0) = m ((c.tc : Thread Cert.QIdeal.nD Cert.QIdeal.τ).loc Cert.QIdeal.main_arg0)
      ∧ m' ((c.tc : Thread Cert.QReferenceIdeal.nD Cert.QReferenceIdeal.τ).loc Cert.QReferenceIdeal.main_arg1) = m ((c.tc : Thread Cert.QIdeal.nD Cert.QIdeal.τ).loc Cert.QIdeal.main_arg1)
      ∧ m' ((c.tc : Thread Cert.QReferenceIdeal.nD Cert.QReferenceIdeal.τ).loc Cert.QReferenceIdeal.main_arg2) = m ((c.tc : Thread Cert.QIdeal.nD Cert.QIdeal.τ).loc Cert.QIdeal.main_arg2)
      ∧ m' ((c.tc : Thread Cert.QReferenceIdeal.nD Cert.QReferenceIdeal.τ).loc Cert.QReferenceIdeal.main_arg3) = m ((c.tc : Thread Cert.QIdeal.nD Cert.QIdeal.τ).loc Cert.QIdeal.main_arg3)) →
    ∃ (v0 : (c : Dev Cert.QIdeal.nD) → Buf (Elt Ideal) ((c.tc : Thread Cert.QIdeal.nD Cert.QIdeal.τ).loc Cert.QIdeal.main_v23)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v23) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2)
          ∧ r.2.mem ((c.tc : Thread Cert.QIdeal.nD Cert.QIdeal.τ).loc Cert.QIdeal.main_arg3) = m ((c.tc : Thread Cert.QIdeal.nD Cert.QIdeal.τ).loc Cert.QIdeal.main_arg3))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v25) = v0 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1)
          ∧ r.2.mem ((c.tc : Thread Cert.QReferenceIdeal.nD Cert.QReferenceIdeal.τ).loc Cert.QReferenceIdeal.main_arg2) = m' ((c.tc : Thread Cert.QReferenceIdeal.nD Cert.QReferenceIdeal.τ).loc Cert.QReferenceIdeal.main_arg2)
          ∧ r.2.mem ((c.tc : Thread Cert.QReferenceIdeal.nD Cert.QReferenceIdeal.τ).loc Cert.QReferenceIdeal.main_arg3) = m' ((c.tc : Thread Cert.QReferenceIdeal.nD Cert.QReferenceIdeal.τ).loc Cert.QReferenceIdeal.main_arg3))

def preserves_Kv_KvIdeal : Prop :=
  True

def algebraic_KvIdeal_KvReferenceIdeal_pre_open_gates [hKvIdeal : Cert.KvIdeal.Facts] [hKvReferenceIdeal : Cert.KvReferenceIdeal.Facts] [hPre_open_gates : Cert.Pre_open_gates.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal_open_gates m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)
      ∧ m' ((c.tc : Thread Cert.KvReferenceIdeal.nD Cert.KvReferenceIdeal.τ).loc Cert.KvReferenceIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v29_0)) (v1 : (c : Dev Cert.KvIdeal.nD) → Buf (Elt Ideal) ((c.tc : Thread Cert.KvIdeal.nD Cert.KvIdeal.τ).loc Cert.KvIdeal.main_v29_1)) (v2 : (c : Dev Cert.KvIdeal.nD) → Buf (Elt Ideal) ((c.tc : Thread Cert.KvIdeal.nD Cert.KvIdeal.τ).loc Cert.KvIdeal.main_v29_2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v29_0) = v0 c
          ∧ r.2.mem ((c.tc : Thread Cert.KvIdeal.nD Cert.KvIdeal.τ).loc Cert.KvIdeal.main_v29_1) = v1 c
          ∧ r.2.mem ((c.tc : Thread Cert.KvIdeal.nD Cert.KvIdeal.τ).loc Cert.KvIdeal.main_v29_2) = v2 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v29) = v0 c
          ∧ r.2.mem ((c.tc : Thread Cert.KvReferenceIdeal.nD Cert.KvReferenceIdeal.τ).loc Cert.KvReferenceIdeal.main_v31) = v1 c
          ∧ r.2.mem ((c.tc : Thread Cert.KvReferenceIdeal.nD Cert.KvReferenceIdeal.τ).loc Cert.KvReferenceIdeal.main_v32) = v2 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Summary_SummaryIdeal : Prop :=
  True

def algebraic_SummaryIdeal_SummaryReferenceIdeal [hSummaryIdeal : Cert.SummaryIdeal.Facts] [hSummaryReferenceIdeal : Cert.SummaryReferenceIdeal.Facts] : Prop :=
  ∀ (m : (ℓ : Loc Cert.SummaryIdeal.nD Cert.SummaryIdeal.τ Cert.SummaryIdeal.sig) → Buf (Elt Ideal) ℓ) (g : Dev Cert.SummaryIdeal.nD → PrngReg)
    (m' : (ℓ : Loc Cert.SummaryReferenceIdeal.nD Cert.SummaryReferenceIdeal.τ Cert.SummaryReferenceIdeal.sig) → Buf (Elt Ideal) ℓ) (g' : Dev Cert.SummaryReferenceIdeal.nD → PrngReg), Pre_SummaryIdeal m →
    (∀ c : Dev Cert.SummaryIdeal.nD,
      m' ((c.tc : Thread Cert.SummaryReferenceIdeal.nD Cert.SummaryReferenceIdeal.τ).loc Cert.SummaryReferenceIdeal.main_arg0) = m ((c.tc : Thread Cert.SummaryIdeal.nD Cert.SummaryIdeal.τ).loc Cert.SummaryIdeal.main_arg0)
      ∧ m' ((c.tc : Thread Cert.SummaryReferenceIdeal.nD Cert.SummaryReferenceIdeal.τ).loc Cert.SummaryReferenceIdeal.main_arg1) = m ((c.tc : Thread Cert.SummaryIdeal.nD Cert.SummaryIdeal.τ).loc Cert.SummaryIdeal.main_arg1)) →
    ∃ (v0 : (c : Dev Cert.SummaryIdeal.nD) → Buf (Elt Ideal) ((c.tc : Thread Cert.SummaryIdeal.nD Cert.SummaryIdeal.τ).loc Cert.SummaryIdeal.main_v0)),
      θ_run (Cert.SummaryIdeal.defs (F := Ideal)) (onTc (τ := Cert.SummaryIdeal.τ) (Cert.SummaryIdeal.main (F := Ideal))) ⟨m, fun _ => 0, g⟩ (fun r => ∀ c : Dev Cert.SummaryIdeal.nD,
          r.2.mem ((c.tc : Thread Cert.SummaryIdeal.nD Cert.SummaryIdeal.τ).loc Cert.SummaryIdeal.main_v0) = v0 c
          ∧ r.2.mem ((c.tc : Thread Cert.SummaryIdeal.nD Cert.SummaryIdeal.τ).loc Cert.SummaryIdeal.main_arg0) = m ((c.tc : Thread Cert.SummaryIdeal.nD Cert.SummaryIdeal.τ).loc Cert.SummaryIdeal.main_arg0)
          ∧ r.2.mem ((c.tc : Thread Cert.SummaryIdeal.nD Cert.SummaryIdeal.τ).loc Cert.SummaryIdeal.main_arg1) = m ((c.tc : Thread Cert.SummaryIdeal.nD Cert.SummaryIdeal.τ).loc Cert.SummaryIdeal.main_arg1))
      ∧ θ_run (Cert.SummaryReferenceIdeal.defs (F := Ideal)) (onTc (τ := Cert.SummaryReferenceIdeal.τ) (Cert.SummaryReferenceIdeal.main (F := Ideal))) ⟨m', fun _ => 0, g'⟩ (fun r => ∀ c : Dev Cert.SummaryReferenceIdeal.nD,
          r.2.mem ((c.tc : Thread Cert.SummaryReferenceIdeal.nD Cert.SummaryReferenceIdeal.τ).loc Cert.SummaryReferenceIdeal.main_v3) = v0 c
          ∧ r.2.mem ((c.tc : Thread Cert.SummaryReferenceIdeal.nD Cert.SummaryReferenceIdeal.τ).loc Cert.SummaryReferenceIdeal.main_arg0) = m' ((c.tc : Thread Cert.SummaryReferenceIdeal.nD Cert.SummaryReferenceIdeal.τ).loc Cert.SummaryReferenceIdeal.main_arg0)
          ∧ r.2.mem ((c.tc : Thread Cert.SummaryReferenceIdeal.nD Cert.SummaryReferenceIdeal.τ).loc Cert.SummaryReferenceIdeal.main_arg1) = m' ((c.tc : Thread Cert.SummaryReferenceIdeal.nD Cert.SummaryReferenceIdeal.τ).loc Cert.SummaryReferenceIdeal.main_arg1))

def preserves_Chunk_ChunkIdeal : Prop :=
  True

def algebraic_ChunkIdeal_ChunkReferenceIdeal [hChunkIdeal : Cert.ChunkIdeal.Facts] [hChunkReferenceIdeal : Cert.ChunkReferenceIdeal.Facts] : Prop :=
  ∀ (m : (ℓ : Loc Cert.ChunkIdeal.nD Cert.ChunkIdeal.τ Cert.ChunkIdeal.sig) → Buf (Elt Ideal) ℓ) (g : Dev Cert.ChunkIdeal.nD → PrngReg)
    (m' : (ℓ : Loc Cert.ChunkReferenceIdeal.nD Cert.ChunkReferenceIdeal.τ Cert.ChunkReferenceIdeal.sig) → Buf (Elt Ideal) ℓ) (g' : Dev Cert.ChunkReferenceIdeal.nD → PrngReg), Pre_ChunkIdeal m →
    (∀ c : Dev Cert.ChunkIdeal.nD,
      m' ((c.tc : Thread Cert.ChunkReferenceIdeal.nD Cert.ChunkReferenceIdeal.τ).loc Cert.ChunkReferenceIdeal.main_arg0) = m ((c.tc : Thread Cert.ChunkIdeal.nD Cert.ChunkIdeal.τ).loc Cert.ChunkIdeal.main_arg0)
      ∧ m' ((c.tc : Thread Cert.ChunkReferenceIdeal.nD Cert.ChunkReferenceIdeal.τ).loc Cert.ChunkReferenceIdeal.main_arg1) = m ((c.tc : Thread Cert.ChunkIdeal.nD Cert.ChunkIdeal.τ).loc Cert.ChunkIdeal.main_arg1)
      ∧ m' ((c.tc : Thread Cert.ChunkReferenceIdeal.nD Cert.ChunkReferenceIdeal.τ).loc Cert.ChunkReferenceIdeal.main_arg2) = m ((c.tc : Thread Cert.ChunkIdeal.nD Cert.ChunkIdeal.τ).loc Cert.ChunkIdeal.main_arg2)
      ∧ m' ((c.tc : Thread Cert.ChunkReferenceIdeal.nD Cert.ChunkReferenceIdeal.τ).loc Cert.ChunkReferenceIdeal.main_arg3) = m ((c.tc : Thread Cert.ChunkIdeal.nD Cert.ChunkIdeal.τ).loc Cert.ChunkIdeal.main_arg3)
      ∧ m' ((c.tc : Thread Cert.ChunkReferenceIdeal.nD Cert.ChunkReferenceIdeal.τ).loc Cert.ChunkReferenceIdeal.main_arg4) = m ((c.tc : Thread Cert.ChunkIdeal.nD Cert.ChunkIdeal.τ).loc Cert.ChunkIdeal.main_arg4)) →
    ∃ (v0 : (c : Dev Cert.ChunkIdeal.nD) → Buf (Elt Ideal) ((c.tc : Thread Cert.ChunkIdeal.nD Cert.ChunkIdeal.τ).loc Cert.ChunkIdeal.main_v0)),
      θ_run (Cert.ChunkIdeal.defs (F := Ideal)) (onTc (τ := Cert.ChunkIdeal.τ) (Cert.ChunkIdeal.main (F := Ideal))) ⟨m, fun _ => 0, g⟩ (fun r => ∀ c : Dev Cert.ChunkIdeal.nD,
          r.2.mem ((c.tc : Thread Cert.ChunkIdeal.nD Cert.ChunkIdeal.τ).loc Cert.ChunkIdeal.main_v0) = v0 c
          ∧ r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
          ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1)
          ∧ r.2.mem ((c.tc : Thread Cert.ChunkIdeal.nD Cert.ChunkIdeal.τ).loc Cert.ChunkIdeal.main_arg2) = m ((c.tc : Thread Cert.ChunkIdeal.nD Cert.ChunkIdeal.τ).loc Cert.ChunkIdeal.main_arg2)
          ∧ r.2.mem ((c.tc : Thread Cert.ChunkIdeal.nD Cert.ChunkIdeal.τ).loc Cert.ChunkIdeal.main_arg3) = m ((c.tc : Thread Cert.ChunkIdeal.nD Cert.ChunkIdeal.τ).loc Cert.ChunkIdeal.main_arg3)
          ∧ r.2.mem ((c.tc : Thread Cert.ChunkIdeal.nD Cert.ChunkIdeal.τ).loc Cert.ChunkIdeal.main_arg4) = m ((c.tc : Thread Cert.ChunkIdeal.nD Cert.ChunkIdeal.τ).loc Cert.ChunkIdeal.main_arg4))
      ∧ θ_run (Cert.ChunkReferenceIdeal.defs (F := Ideal)) (onTc (τ := Cert.ChunkReferenceIdeal.τ) (Cert.ChunkReferenceIdeal.main (F := Ideal))) ⟨m', fun _ => 0, g'⟩ (fun r => ∀ c : Dev Cert.ChunkReferenceIdeal.nD,
          r.2.mem ((c.tc : Thread Cert.ChunkReferenceIdeal.nD Cert.ChunkReferenceIdeal.τ).loc Cert.ChunkReferenceIdeal.main_v40) = v0 c
          ∧ r.2.mem ((c.tc : Thread Cert.ChunkReferenceIdeal.nD Cert.ChunkReferenceIdeal.τ).loc Cert.ChunkReferenceIdeal.main_arg0) = m' ((c.tc : Thread Cert.ChunkReferenceIdeal.nD Cert.ChunkReferenceIdeal.τ).loc Cert.ChunkReferenceIdeal.main_arg0)
          ∧ r.2.mem ((c.tc : Thread Cert.ChunkReferenceIdeal.nD Cert.ChunkReferenceIdeal.τ).loc Cert.ChunkReferenceIdeal.main_arg1) = m' ((c.tc : Thread Cert.ChunkReferenceIdeal.nD Cert.ChunkReferenceIdeal.τ).loc Cert.ChunkReferenceIdeal.main_arg1)
          ∧ r.2.mem ((c.tc : Thread Cert.ChunkReferenceIdeal.nD Cert.ChunkReferenceIdeal.τ).loc Cert.ChunkReferenceIdeal.main_arg2) = m' ((c.tc : Thread Cert.ChunkReferenceIdeal.nD Cert.ChunkReferenceIdeal.τ).loc Cert.ChunkReferenceIdeal.main_arg2)
          ∧ r.2.mem ((c.tc : Thread Cert.ChunkReferenceIdeal.nD Cert.ChunkReferenceIdeal.τ).loc Cert.ChunkReferenceIdeal.main_arg3) = m' ((c.tc : Thread Cert.ChunkReferenceIdeal.nD Cert.ChunkReferenceIdeal.τ).loc Cert.ChunkReferenceIdeal.main_arg3)
          ∧ r.2.mem ((c.tc : Thread Cert.ChunkReferenceIdeal.nD Cert.ChunkReferenceIdeal.τ).loc Cert.ChunkReferenceIdeal.main_arg4) = m' ((c.tc : Thread Cert.ChunkReferenceIdeal.nD Cert.ChunkReferenceIdeal.τ).loc Cert.ChunkReferenceIdeal.main_arg4))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hLast : Cert.Last.Facts) (hLastIdeal : Cert.LastIdeal.Facts) (hLastReferenceIdeal : Cert.LastReferenceIdeal.Facts) (hOut : Cert.Out.Facts) (hOutIdeal : Cert.OutIdeal.Facts) (hOutReferenceIdeal : Cert.OutReferenceIdeal.Facts) (hGlu : Cert.Glu.Facts) (hGluIdeal : Cert.GluIdeal.Facts) (hGluReferenceIdeal : Cert.GluReferenceIdeal.Facts) (hQ : Cert.Q.Facts) (hQIdeal : Cert.QIdeal.Facts) (hQReferenceIdeal : Cert.QReferenceIdeal.Facts) (hKv : Cert.Kv.Facts) (hKvIdeal : Cert.KvIdeal.Facts) (hKvReferenceIdeal : Cert.KvReferenceIdeal.Facts) (hNorm : Cert.Norm.Facts) (hNormIdeal : Cert.NormIdeal.Facts) (hNormReferenceIdeal : Cert.NormReferenceIdeal.Facts) (hSummary : Cert.Summary.Facts) (hSummaryIdeal : Cert.SummaryIdeal.Facts) (hSummaryReferenceIdeal : Cert.SummaryReferenceIdeal.Facts) (hChunk : Cert.Chunk.Facts) (hChunkIdeal : Cert.ChunkIdeal.Facts) (hChunkReferenceIdeal : Cert.ChunkReferenceIdeal.Facts) (hPre_finite_queries_keys : Cert.Pre_finite_queries_keys.Facts) (hPre_finite_sums : Cert.Pre_finite_sums.Facts) (hPre_open_gates : Cert.Pre_open_gates.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Last (hLast := hLast)
    ∧ quiescent_LastIdeal (hLastIdeal := hLastIdeal)
    ∧ quiescent_LastReferenceIdeal (hLastReferenceIdeal := hLastReferenceIdeal)
    ∧ quiescent_Out (hOut := hOut)
    ∧ quiescent_OutIdeal (hOutIdeal := hOutIdeal)
    ∧ quiescent_OutReferenceIdeal (hOutReferenceIdeal := hOutReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Q (hQ := hQ)
    ∧ quiescent_QIdeal (hQIdeal := hQIdeal)
    ∧ quiescent_QIdeal_pre_finite_sums (hQIdeal := hQIdeal) (hPre_finite_sums := hPre_finite_sums)
    ∧ quiescent_QReferenceIdeal (hQReferenceIdeal := hQReferenceIdeal)
    ∧ quiescent_QReferenceIdeal_pre_finite_sums (hQReferenceIdeal := hQReferenceIdeal) (hPre_finite_sums := hPre_finite_sums)
    ∧ quiescent_Kv (hKv := hKv)
    ∧ quiescent_KvIdeal (hKvIdeal := hKvIdeal)
    ∧ quiescent_KvIdeal_pre_open_gates (hKvIdeal := hKvIdeal) (hPre_open_gates := hPre_open_gates)
    ∧ quiescent_KvReferenceIdeal (hKvReferenceIdeal := hKvReferenceIdeal)
    ∧ quiescent_KvReferenceIdeal_pre_open_gates (hKvReferenceIdeal := hKvReferenceIdeal) (hPre_open_gates := hPre_open_gates)
    ∧ quiescent_Norm (hNorm := hNorm)
    ∧ quiescent_NormIdeal (hNormIdeal := hNormIdeal)
    ∧ quiescent_NormReferenceIdeal (hNormReferenceIdeal := hNormReferenceIdeal)
    ∧ quiescent_Summary (hSummary := hSummary)
    ∧ quiescent_SummaryIdeal (hSummaryIdeal := hSummaryIdeal)
    ∧ quiescent_SummaryReferenceIdeal (hSummaryReferenceIdeal := hSummaryReferenceIdeal)
    ∧ quiescent_Chunk (hChunk := hChunk)
    ∧ quiescent_ChunkIdeal (hChunkIdeal := hChunkIdeal)
    ∧ quiescent_ChunkReferenceIdeal (hChunkReferenceIdeal := hChunkReferenceIdeal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Mlp_MlpIdeal
    ∧ algebraic_MlpIdeal_MlpReferenceIdeal (hMlpIdeal := hMlpIdeal) (hMlpReferenceIdeal := hMlpReferenceIdeal)
    ∧ preserves_Last_LastIdeal
    ∧ algebraic_LastIdeal_LastReferenceIdeal (hLastIdeal := hLastIdeal) (hLastReferenceIdeal := hLastReferenceIdeal)
    ∧ preserves_Out_OutIdeal
    ∧ algebraic_OutIdeal_OutReferenceIdeal (hOutIdeal := hOutIdeal) (hOutReferenceIdeal := hOutReferenceIdeal)
    ∧ preserves_Glu_GluIdeal
    ∧ algebraic_GluIdeal_GluReferenceIdeal (hGluIdeal := hGluIdeal) (hGluReferenceIdeal := hGluReferenceIdeal)
    ∧ preserves_Q_QIdeal
    ∧ algebraic_QIdeal_QReferenceIdeal_pre_finite_sums (hQIdeal := hQIdeal) (hQReferenceIdeal := hQReferenceIdeal) (hPre_finite_sums := hPre_finite_sums)
    ∧ preserves_Kv_KvIdeal
    ∧ algebraic_KvIdeal_KvReferenceIdeal_pre_open_gates (hKvIdeal := hKvIdeal) (hKvReferenceIdeal := hKvReferenceIdeal) (hPre_open_gates := hPre_open_gates)
    ∧ preserves_Norm_NormIdeal
    ∧ algebraic_NormIdeal_NormReferenceIdeal (hNormIdeal := hNormIdeal) (hNormReferenceIdeal := hNormReferenceIdeal)
    ∧ preserves_Summary_SummaryIdeal
    ∧ algebraic_SummaryIdeal_SummaryReferenceIdeal (hSummaryIdeal := hSummaryIdeal) (hSummaryReferenceIdeal := hSummaryReferenceIdeal)
    ∧ preserves_Chunk_ChunkIdeal
    ∧ algebraic_ChunkIdeal_ChunkReferenceIdeal (hChunkIdeal := hChunkIdeal) (hChunkReferenceIdeal := hChunkReferenceIdeal)
-- ==== Pre_finite_queries_keys.lean ====
abbrev S2x16x8192x128 : Shape := ⟨4, ![2, 16, 8192, 128]⟩
abbrev S2x8192x1024 : Shape := ⟨3, ![2, 8192, 1024]⟩
abbrev S_ : Shape := ⟨0, ![]⟩

class Facts : Prop where
  bitsLt_bf16_f32 : FTy.bits .bf16 < FTy.bits .f32
  bcast_S_S2x16x8192x128 : S_.BroadcastsInDim S2x16x8192x128 (![] : Fin 0 → Fin S2x16x8192x128.rank)

variable [Facts]

def fn {F : FTy → Type} [FloatOps F] (main_arg0 : FVec F S2x16x8192x128 .bf16) (main_arg1 : FVec F S2x16x8192x128 .bf16) (main_arg2 : FVec F S2x8192x1024 .bf16) : IVec S2x16x8192x128 1 :=
  let main_v0 : FVec F S2x16x8192x128 .f32 := (extf .f32 · bitsLt_bf16_f32) main_arg0
  let main_v1 : FVec F S2x16x8192x128 .f32 := Host.absf main_v0
  let main_cst : FVec F S_ .f32 := constant S_ .f32 0x7F800000#32
  let main_v2 : FVec F S2x16x8192x128 .f32 := broadcastInDim S2x16x8192x128 ![] bcast_S_S2x16x8192x128 main_cst
  let main_v3 : IVec S2x16x8192x128 1 := cmpf .olt main_v1 main_v2
  let main_v4 : FVec F S2x16x8192x128 .f32 := (extf .f32 · bitsLt_bf16_f32) main_arg1
  let main_v5 : FVec F S2x16x8192x128 .f32 := Host.absf main_v4
  let main_cst_0 : FVec F S_ .f32 := constant S_ .f32 0x7F800000#32
  let main_v6 : FVec F S2x16x8192x128 .f32 := broadcastInDim S2x16x8192x128 ![] bcast_S_S2x16x8192x128 main_cst_0
  let main_v7 : IVec S2x16x8192x128 1 := cmpf .olt main_v5 main_v6
  let main_v8 : IVec S2x16x8192x128 1 := andi main_v3 main_v7
  main_v8
-- ==== Pre_finite_sums.lean ====
abbrev S2x8192x1024 : Shape := ⟨3, ![2, 8192, 1024]⟩
abbrev S1024 : Shape := ⟨1, ![1024]⟩
abbrev S1024x1024 : Shape := ⟨2, ![1024, 1024]⟩
abbrev S2x8192x128 : Shape := ⟨3, ![2, 8192, 128]⟩
abbrev S_ : Shape := ⟨0, ![]⟩

class Facts : Prop where
  bcast_S_S2x8192x128 : S_.BroadcastsInDim S2x8192x128 (![] : Fin 0 → Fin S2x8192x128.rank)

variable [Facts]

def fn {F : FTy → Type} [FloatOps F] (main_arg0 : FVec F S2x8192x1024 .f32) (main_arg1 : FVec F S1024 .f32) (main_arg2 : FVec F S1024x1024 .f32) (main_arg3 : FVec F S2x8192x128 .f32) : IVec S2x8192x128 1 :=
  let main_v0 : FVec F S2x8192x128 .f32 := Host.absf main_arg3
  let main_cst : FVec F S_ .f32 := constant S_ .f32 0x7F800000#32
  let main_v1 : FVec F S2x8192x128 .f32 := broadcastInDim S2x8192x128 ![] bcast_S_S2x8192x128 main_cst
  let main_v2 : IVec S2x8192x128 1 := cmpf .olt main_v0 main_v1
  main_v2
-- ==== Pre_open_gates.lean ====
abbrev S2x8192x1024 : Shape := ⟨3, ![2, 8192, 1024]⟩
abbrev S1024 : Shape := ⟨1, ![1024]⟩
abbrev S1024x2064 : Shape := ⟨2, ![1024, 2064]⟩
abbrev S16 : Shape := ⟨1, ![16]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x16 : Shape := ⟨2, ![1024, 16]⟩
abbrev S2x8192x16 : Shape := ⟨3, ![2, 8192, 16]⟩
abbrev S1x1x16 : Shape := ⟨3, ![1, 1, 16]⟩

class Facts : Prop where
  reducesTo_S2x8192x1024_S2x8192_d2 : S2x8192x1024.ReducesTo [2] S2x8192
  h_S_ : 0 < S_.numel
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S2x8192x1_S2x8192x1024_0_1_2 : S2x8192x1.BroadcastsInDim S2x8192x1024 (![0, 1, 2] : Fin 3 → Fin S2x8192x1024.rank)
  bcast_S1024_S1x1x1024_2 : S1024.BroadcastsInDim S1x1x1024 (![2] : Fin 1 → Fin S1x1x1024.rank)
  bcast_S1x1x1024_S2x8192x1024_0_1_2 : S1x1x1024.BroadcastsInDim S2x8192x1024 (![0, 1, 2] : Fin 3 → Fin S2x8192x1024.rank)
  slices_S1024x2064_S1024x16_0_2048 : S1024x2064.Slices ![0, 2048] S1024x16
  bcast_S16_S1x1x16_2 : S16.BroadcastsInDim S1x1x16 (![2] : Fin 1 → Fin S1x1x16.rank)
  bcast_S1x1x16_S2x8192x16_0_1_2 : S1x1x16.BroadcastsInDim S2x8192x16 (![0, 1, 2] : Fin 3 → Fin S2x8192x16.rank)
  bcast_S_S2x8192x16 : S_.BroadcastsInDim S2x8192x16 (![] : Fin 0 → Fin S2x8192x16.rank)
  dot_S2x8192x1024_S1024x16_S2x8192x16_2_0_01_1_n_n_wf : DotDims.WF S2x8192x1024 S1024x16 S2x8192x16 [2] [0] [0, 1] [1] [] []

variable [Facts]

def dot_S2x8192x1024_S1024x16_S2x8192x16_2_0_01_1_n_n : DotDims S2x8192x1024 S1024x16 S2x8192x16 where
  lhsContracting := [2]
  rhsContracting := [0]
  lhsNonContracting := [0, 1]
  rhsNonContracting := [1]
  lhsBatch := []
  rhsBatch := []
  wf := dot_S2x8192x1024_S1024x16_S2x8192x16_2_0_01_1_n_n_wf
def fn {F : FTy → Type} [FloatOps F] (main_arg0 : FVec F S2x8192x1024 .f32) (main_arg1 : FVec F S1024 .f32) (main_arg2 : FVec F S1024x2064 .f32) (main_arg3 : FVec F S16 .f32) : IVec S2x8192x16 1 :=
  let main_v0 : FVec F S2x8192x1024 .f32 := mulf main_arg0 main_arg0
  let main_cst : FVec F S_ .f32 := constant S_ .f32 0x00000000#32
  let main_v1 : FVec F S2x8192 .f32 := (fun x v => Host.reduceAdd x v reducesTo_S2x8192x1024_S2x8192_d2 h_S_) main_v0 main_cst
  let main_v2 : FVec F S2x8192x1 .f32 := broadcastInDim S2x8192x1 ![0, 1] bcast_S2x8192_S2x8192x1_0_1 main_v1
  let main_cst_0 : FVec F S_ .f32 := constant S_ .f32 0x44800000#32
  let main_v3 : FVec F S2x8192x1 .f32 := broadcastInDim S2x8192x1 ![] bcast_S_S2x8192x1 main_cst_0
  let main_v4 : FVec F S2x8192x1 .f32 := Host.divf main_v2 main_v3
  let main_cst_1 : FVec F S_ .f32 := constant S_ .f32 0x358637BD#32
  let main_v5 : FVec F S2x8192x1 .f32 := broadcastInDim S2x8192x1 ![] bcast_S_S2x8192x1 main_cst_1
  let main_v6 : FVec F S2x8192x1 .f32 := addf main_v4 main_v5
  let main_v7 : FVec F S2x8192x1 .f32 := Host.rsqrt main_v6
  let main_v8 : FVec F S2x8192x1024 .f32 := broadcastInDim S2x8192x1024 ![0, 1, 2] bcast_S2x8192x1_S2x8192x1024_0_1_2 main_v7
  let main_v9 : FVec F S2x8192x1024 .f32 := mulf main_arg0 main_v8
  let main_v10 : FVec F S1x1x1024 .f32 := broadcastInDim S1x1x1024 ![2] bcast_S1024_S1x1x1024_2 main_arg1
  let main_v11 : FVec F S2x8192x1024 .f32 := broadcastInDim S2x8192x1024 ![0, 1, 2] bcast_S1x1x1024_S2x8192x1024_0_1_2 main_v10
  let main_v12 : FVec F S2x8192x1024 .f32 := mulf main_v9 main_v11
  let main_v13 : FVec F S1024x16 .f32 := (extractStridedSlice S1024x16 ![0, 2048] · slices_S1024x2064_S1024x16_0_2048) main_arg2
  let main_v14 : FVec F S2x8192x16 .f32 := (fun l r => Host.dotGeneral dot_S2x8192x1024_S1024x16_S2x8192x16_2_0_01_1_n_n none l r) main_v12 main_v13
  let main_v15 : FVec F S1x1x16 .f32 := broadcastInDim S1x1x16 ![2] bcast_S16_S1x1x16_2 main_arg3
  let main_v16 : FVec F S2x8192x16 .f32 := broadcastInDim S2x8192x16 ![0, 1, 2] bcast_S1x1x16_S2x8192x16_0_1_2 main_v15
  let main_v17 : FVec F S2x8192x16 .f32 := addf main_v14 main_v16
  let main_cst_2 : FVec F S_ .f32 := constant S_ .f32 0xFF800000#32
  let main_v18 : FVec F S2x8192x16 .f32 := broadcastInDim S2x8192x16 ![] bcast_S_S2x8192x16 main_cst_2
  let main_v19 : IVec S2x8192x16 1 := cmpf .ogt main_v17 main_v18
  main_v19
-- ==== Kernel.lean ====
abbrev S2x16x8192x128 : Shape := ⟨4, ![2, 16, 8192, 128]⟩
abbrev S2x8192x1024 : Shape := ⟨3, ![2, 8192, 1024]⟩
abbrev S1x2x256x128 : Shape := ⟨4, ![1, 2, 256, 128]⟩
abbrev S1x2x8192x128 : Shape := ⟨4, ![1, 2, 8192, 128]⟩
abbrev S1x8192x128 : Shape := ⟨3, ![1, 8192, 128]⟩
abbrev S1x256x128 : Shape := ⟨3, ![1, 256, 128]⟩
abbrev S256x128 : Shape := ⟨2, ![256, 128]⟩
abbrev S256x1 : Shape := ⟨2, ![256, 1]⟩
abbrev S1x1x512x128 : Shape := ⟨4, ![1, 1, 512, 128]⟩
abbrev S512x128 : Shape := ⟨2, ![512, 128]⟩
abbrev S1x1x256x128 : Shape := ⟨4, ![1, 1, 256, 128]⟩
abbrev S256x512 : Shape := ⟨2, ![256, 512]⟩
abbrev S256 : Shape := ⟨1, ![256]⟩
abbrev S1x512x128 : Shape := ⟨3, ![1, 512, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x16x8192x128, .bf16⟩
  | .hbm, ⟨1, _⟩ => ⟨S2x16x8192x128, .bf16⟩
  | .hbm, ⟨2, _⟩ => ⟨S2x8192x1024, .bf16⟩
  | .hbm, ⟨3, _⟩ => ⟨S2x8192x1024, .bf16⟩
  | .local _ .vmem, ⟨0, _⟩ => ⟨S1x2x256x128, .bf16⟩
  | .local _ .vmem, ⟨1, _⟩ => ⟨S1x2x256x128, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | _, _ => ⟨S2x16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

@[reducible] def k0_t1_loop (i : grid0.Coords) : Scf.Loop 32 :=
  let c0_i32_9 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v25 : BitVec 32 := Scalar.subi v17 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_11 : BitVec 32 := 1#32
  ⟨c0_i32_9, v29, c1_i32_11⟩
def k0_off1 (i : grid0.Coords) (k0_t1 : Fin (k0_t1_loop i).trips) : Fin 4 → Nat :=
  let c0_51 : Index := 0#32
  let c0_52 : Index := 0#32
  let c0_i32_9 : BitVec 32 := 0#32
  let c1_i32_11 : BitVec 32 := 1#32
  let arg7 : BitVec 32 := Scf.iv c0_i32_9 c1_i32_11 k0_t1
  let c512_i32_50 : BitVec 32 := 512#32
  let v121 : BitVec 32 := Scalar.muli arg7 c512_i32_50
  let v122 : Index := Scalar.indexCast v121
  let c0_53 : Index := 0#32
  ![0, 0, v122.toNat, 0]
def k0_off2 (i : grid0.Coords) (k0_t1 : Fin (k0_t1_loop i).trips) : Fin 3 → Nat :=
  let c0_62 : Index := 0#32
  let c0_i32_9 : BitVec 32 := 0#32
  let c1_i32_11 : BitVec 32 := 1#32
  let arg7 : BitVec 32 := Scf.iv c0_i32_9 c1_i32_11 k0_t1
  let c512_i32_61 : BitVec 32 := 512#32
  let v140 : BitVec 32 := Scalar.muli arg7 c512_i32_61
  let v141 : Index := Scalar.indexCast v140
  let c0_63 : Index := 0#32
  ![0, v141.toNat, 0]
def k0_off3 (i : grid0.Coords) (k0_t1 : Fin (k0_t1_loop i).trips) : Fin 4 → Nat :=
  let c0_66 : Index := 0#32
  let c1_67 : Index := 1#32
  let c0_i32_9 : BitVec 32 := 0#32
  let c1_i32_11 : BitVec 32 := 1#32
  let arg7 : BitVec 32 := Scf.iv c0_i32_9 c1_i32_11 k0_t1
  let c512_i32_65 : BitVec 32 := 512#32
  let v149 : BitVec 32 := Scalar.muli arg7 c512_i32_65
  let v150 : Index := Scalar.indexCast v149
  let c0_68 : Index := 0#32
  ![0, 1, v150.toNat, 0]
@[reducible] def k0_t2_loop (i : grid0.Coords) : Scf.Loop 32 :=
  let c0_i32_9 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v25 : BitVec 32 := Scalar.subi v17 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let v26 : BitVec 32 := Scalar.addi c0_i32_9 v25
  let c1_i32_12 : BitVec 32 := 1#32
  ⟨v29, v26, c1_i32_12⟩
def k0_off4 (i : grid0.Coords) (k0_t2 : Fin (k0_t2_loop i).trips) : Fin 4 → Nat :=
  let c0_51 : Index := 0#32
  let c0_52 : Index := 0#32
  let c0_i32_9 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v25 : BitVec 32 := Scalar.subi v17 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg7 : BitVec 32 := Scf.iv v29 c1_i32_12 k0_t2
  let c512_i32_50 : BitVec 32 := 512#32
  let v121 : BitVec 32 := Scalar.muli arg7 c512_i32_50
  let v122 : Index := Scalar.indexCast v121
  let c0_53 : Index := 0#32
  ![0, 0, v122.toNat, 0]
def k0_off5 (i : grid0.Coords) (k0_t2 : Fin (k0_t2_loop i).trips) : Fin 3 → Nat :=
  let c0_62 : Index := 0#32
  let c0_i32_9 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v25 : BitVec 32 := Scalar.subi v17 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg7 : BitVec 32 := Scf.iv v29 c1_i32_12 k0_t2
  let c512_i32_61 : BitVec 32 := 512#32
  let v140 : BitVec 32 := Scalar.muli arg7 c512_i32_61
  let v141 : Index := Scalar.indexCast v140
  let c0_63 : Index := 0#32
  ![0, v141.toNat, 0]
def k0_off6 (i : grid0.Coords) (k0_t2 : Fin (k0_t2_loop i).trips) : Fin 4 → Nat :=
  let c0_66 : Index := 0#32
  let c1_67 : Index := 1#32
  let c0_i32_9 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v25 : BitVec 32 := Scalar.subi v17 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg7 : BitVec 32 := Scf.iv v29 c1_i32_12 k0_t2
  let c512_i32_65 : BitVec 32 := 512#32
  let v149 : BitVec 32 := Scalar.muli arg7 c512_i32_65
  let v150 : Index := Scalar.indexCast v149
  let c0_68 : Index := 0#32
  ![0, 1, v150.toNat, 0]
def k0_off7 (i : grid0.Coords) : Fin 4 → Nat :=
  let c0 : Index := 0#32
  let c0_14 : Index := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_13 : BitVec 32 := 512#32
  let v32 : BitVec 32 := Scalar.muli v17 c512_i32_13
  let v33 : Index := Scalar.indexCast v32
  let c0_15 : Index := 0#32
  ![0, 0, v33.toNat, 0]
def k0_off8 (i : grid0.Coords) : Fin 3 → Nat :=
  let c0_27 : Index := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_26 : BitVec 32 := 512#32
  let v62 : BitVec 32 := Scalar.muli v17 c512_i32_26
  let v63 : Index := Scalar.indexCast v62
  let c0_28 : Index := 0#32
  ![0, v63.toNat, 0]
def k0_off9 (i : grid0.Coords) : Fin 4 → Nat :=
  let c0_31 : Index := 0#32
  let c1 : Index := 1#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_30 : BitVec 32 := 512#32
  let v71 : BitVec 32 := Scalar.muli v17 c512_i32_30
  let v72 : Index := Scalar.indexCast v71
  let c0_32 : Index := 0#32
  ![0, 1, v72.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16x8192x128 : Shape := ⟨4, ![2, 16, 8192, 128]⟩
abbrev S2x8192x1024 : Shape := ⟨3, ![2, 8192, 1024]⟩
abbrev S2x8192x16x64 : Shape := ⟨4, ![2, 8192, 16, 64]⟩
abbrev S2x16x8192x64 : Shape := ⟨4, ![2, 16, 8192, 64]⟩
abbrev S2x16x8192x8192 : Shape := ⟨4, ![2, 16, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x1x8192x8192 : Shape := ⟨4, ![1, 1, 8192, 8192]⟩
abbrev S_ : Shape := ⟨0, ![]⟩
abbrev S2x16x8192 : Shape := ⟨3, ![2, 16, 8192]⟩
abbrev S2x16x8192x1 : Shape := ⟨4, ![2, 16, 8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S2x16x8192x128, .bf16⟩
  | .hbm, ⟨1, _⟩ => ⟨S2x16x8192x128, .bf16⟩
  | .hbm, ⟨2, _⟩ => ⟨S2x8192x1024, .bf16⟩
  | .hbm, ⟨3, _⟩ => ⟨S2x8192x1024, .f32⟩
  | .hbm, ⟨4, _⟩ => ⟨S2x8192x16x64, .f32⟩
  | .hbm, ⟨5, _⟩ => ⟨S2x16x8192x64, .f32⟩
  | .hbm, ⟨6, _⟩ => ⟨S2x16x8192x128, .f32⟩
  | .hbm, ⟨7, _⟩ => ⟨S2x16x8192x128, .f32⟩
  | .hbm, ⟨8, _⟩ => ⟨S2x16x8192x8192, .f32⟩
  | .hbm, ⟨9, _⟩ => ⟨S8192, .i32⟩
  | .hbm, ⟨10, _⟩ => ⟨S8192x1, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x1x8192x8192, .i1⟩
  | .hbm, ⟨16, _⟩ => ⟨S_, .f32⟩
  | .hbm, ⟨17, _⟩ => ⟨S_, .f32⟩
  | .hbm, ⟨18, _⟩ => ⟨S2x16x8192x8192, .i1⟩
  | .hbm, ⟨19, _⟩ => ⟨S2x16x8192x8192, .f32⟩
  | .hbm, ⟨20, _⟩ => ⟨S2x16x8192x8192, .f32⟩
  | .hbm, ⟨21, _⟩ => ⟨S_, .f32⟩
  | .hbm, ⟨22, _⟩ => ⟨S2x16x8192, .f32⟩
  | .hbm, ⟨23, _⟩ => ⟨S_, .f32⟩
  | .hbm, ⟨24, _⟩ => ⟨S2x16x8192, .f32⟩
  | .hbm, ⟨25, _⟩ => ⟨S2x16x8192, .f32⟩
  | .hbm, ⟨26, _⟩ => ⟨S2x16x8192x1, .f32⟩
  | .hbm, ⟨27, _⟩ => ⟨S2x16x8192x8192, .f32⟩
  | .hbm, ⟨28, _⟩ => ⟨S2x16x8192x8192, .f32⟩
  | .hbm, ⟨29, _⟩ => ⟨S2x16x8192x8192, .f32⟩
  | .hbm, ⟨30, _⟩ => ⟨S_, .f32⟩
  | .hbm, ⟨31, _⟩ => ⟨S2x16x8192, .f32⟩
  | .hbm, ⟨32, _⟩ => ⟨S2x16x8192x1, .f32⟩
  | .hbm, ⟨33, _⟩ => ⟨S2x16x8192x8192, .f32⟩
  | .hbm, ⟨34, _⟩ => ⟨S2x16x8192x8192, .f32⟩
  | .hbm, ⟨35, _⟩ => ⟨S2x16x8192x64, .f32⟩
  | .hbm, ⟨36, _⟩ => ⟨S2x8192x16x64, .f32⟩
  | .hbm, ⟨37, _⟩ => ⟨S2x8192x1024, .f32⟩
  | .hbm, ⟨38, _⟩ => ⟨S2x8192x1024, .bf16⟩
  | _, _ => ⟨S2x16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Mlp.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpReferenceIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Last.lean ====
abbrev S2x8192x1024 : Shape := ⟨3, ![2, 8192, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastReferenceIdeal.lean ====
abbrev S2x8192x1024 : Shape := ⟨3, ![2, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩

abbrev nBuf : Space → Nat
  | .hbm => 44
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x4096, .f32⟩
  | .hbm, ⟨22, _⟩ => ⟨S_, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutReferenceIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Glu.lean ====
abbrev S16384x1024 : Shape := ⟨2, ![16384, 1024]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x2048, .f32⟩
  | .hbm, ⟨3, _⟩ => ⟨S1024x2048, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluReferenceIdeal.lean ====
abbrev S16384x1024 : Shape := ⟨2, ![16384, 1024]⟩
abbrev S1024x2048 : Shape := ⟨2, ![1024, 2048]⟩
abbrev S16384x2048 : Shape := ⟨2, ![16384, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x2048, .f32⟩
  | .hbm, ⟨3, _⟩ => ⟨S16384x1024, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Q.lean ====
abbrev S2x8192x1024 : Shape := ⟨3, ![2, 8192, 1024]⟩
abbrev S1024 : Shape := ⟨1, ![1024]⟩
abbrev S1024x1024 : Shape := ⟨2, ![1024, 1024]⟩
abbrev S2x8192x128 : Shape := ⟨3, ![2, 8192, 128]⟩
abbrev S1x2048 : Shape := ⟨2, ![1, 2048]⟩
abbrev S_ : Shape := ⟨0, ![]⟩
abbrev S1024x16x64 : Shape := ⟨3, ![1024, 16, 64]⟩
abbrev S1024x16x128 : Shape := ⟨3, ![1024, 16, 128]⟩
abbrev S1024x2048 : Shape := ⟨2, ![1024, 2048]⟩
abbrev S3x128x2048 : Shape := ⟨3, ![3, 128, 2048]⟩
abbrev S1x1024 : Shape := ⟨2, ![1, 1024]⟩
abbrev S2x16x8192x128 : Shape := ⟨4, ![2, 16, 8192, 128]⟩
abbrev S1x512x1024 : Shape := ⟨3, ![1, 512, 1024]⟩
abbrev S1x512x128 : Shape := ⟨3, ![1, 512, 128]⟩
abbrev S1x16x512x128 : Shape := ⟨4, ![1, 16, 512, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S512x2048 : Shape := ⟨2, ![512, 2048]⟩
abbrev S1x128x2048 : Shape := ⟨3, ![1, 128, 2048]⟩
abbrev S128x2048 : Shape := ⟨2, ![128, 2048]⟩
abbrev S1x1x512x128 : Shape := ⟨4, ![1, 1, 512, 128]⟩

abbrev nBuf : Space → Nat
  | .hbm => 40
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x1024, .f32⟩
  | .hbm, ⟨3, _⟩ => ⟨S2x8192x128, .f32⟩
  | .hbm, ⟨4, _⟩ => ⟨S1x2048, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x16x64, .f32⟩
  | .hbm, ⟨9, _⟩ => ⟨S_, .i32⟩
  | .hbm, ⟨10, _⟩ => ⟨S_, .f32⟩
  | .hbm, ⟨11, _⟩ => ⟨S1024x16x128, .f32⟩
  | .hbm, ⟨12, _⟩ => ⟨S1024x2048, .f32⟩
  | .hbm, ⟨13, _⟩ => ⟨S1024x2048, .bf16⟩
  | .hbm, ⟨14, _⟩ => ⟨S3x128x2048, .i32⟩
  | .hbm, ⟨15, _⟩ => ⟨S3x128x2048, .i32⟩
  | .hbm, ⟨16, _⟩ => ⟨S3x128x2048, .i32⟩
  | .hbm, ⟨17, _⟩ => ⟨S_, .i32⟩
  | .hbm, ⟨18, _⟩ => ⟨S3x128x2048, .i32⟩
  | .hbm, ⟨19, _⟩ => ⟨S3x128x2048, .i1⟩
  | .hbm, ⟨20, _⟩ => ⟨S_, .i32⟩
  | .hbm, ⟨21, _⟩ => ⟨S3x128x2048, .i32⟩
  | .hbm, ⟨22, _⟩ => ⟨S3x128x2048, .i32⟩
  | .hbm, ⟨23, _⟩ => ⟨S_, .i32⟩
  | .hbm, ⟨24, _⟩ => ⟨S3x128x2048, .i32⟩
  | .hbm, ⟨25, _⟩ => ⟨S3x128x2048, .i32⟩
  | .hbm, ⟨26, _⟩ => ⟨S_, .i32⟩
  | .hbm, ⟨27, _⟩ => ⟨S3x128x2048, .i32⟩
  | .hbm, ⟨28, _⟩ => ⟨S3x128x2048, .i32⟩
  | .hbm, ⟨29, _⟩ => ⟨S3x128x2048, .i32⟩
  | .hbm, ⟨30, _⟩ => ⟨S3x128x2048, .i1⟩
  | .hbm, ⟨31, _⟩ => ⟨S3x128x2048, .i1⟩
  | .hbm, ⟨32, _⟩ => ⟨S_, .f32⟩
  | .hbm, ⟨33, _⟩ => ⟨S_, .f32⟩
  | .hbm, ⟨34, _⟩ => ⟨S3x128x2048, .f32⟩
  | .hbm, ⟨35, _⟩ => ⟨S3x128x2048, .f32⟩
  | .hbm, ⟨36, _⟩ => ⟨S3x128x2048, .f32⟩
  | .hbm, ⟨37, _⟩ => ⟨S3x128x2048, .bf16⟩
  | .hbm, ⟨38, _⟩ => ⟨S1x1024, .f32⟩
  | .hbm, ⟨39, _⟩ => ⟨S2x16x8192x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S1x512x128, .f32⟩
  | .local _ .vmem, ⟨5, _⟩ => ⟨S1x512x128, .f32⟩
  | .local _ .vmem, ⟨6, _⟩ => ⟨S3x128x2048, .bf16⟩
  | .local _ .vmem, ⟨7, _⟩ => ⟨S1x2048, .f32⟩
  | .local _ .vmem, ⟨8, _⟩ => ⟨S1x16x512x128, .bf16⟩
  | .local _ .vmem, ⟨9, _⟩ => ⟨S1x16x512x128, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QReferenceIdeal.lean ====
abbrev S2x8192x1024 : Shape := ⟨3, ![2, 8192, 1024]⟩
abbrev S1024 : Shape := ⟨1, ![1024]⟩
abbrev S1024x1024 : Shape := ⟨2, ![1024, 1024]⟩
abbrev S2x8192x128 : Shape := ⟨3, ![2, 8192, 128]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x16x64 : Shape := ⟨4, ![2, 8192, 16, 64]⟩
abbrev S2x16x8192x64 : Shape := ⟨4, ![2, 16, 8192, 64]⟩
abbrev S2x8192x16 : Shape := ⟨3, ![2, 8192, 16]⟩
abbrev S2x16x8192 : Shape := ⟨3, ![2, 16, 8192]⟩
abbrev S2x16x8192x1 : Shape := ⟨4, ![2, 16, 8192, 1]⟩
abbrev S2x16x8192x3 : Shape := ⟨4, ![2, 16, 8192, 3]⟩
abbrev S2x16x8192x2 : Shape := ⟨4, ![2, 16, 8192, 2]⟩
abbrev S2x16x8192x58 : Shape := ⟨4, ![2, 16, 8192, 58]⟩
abbrev S2x16x8192x128 : Shape := ⟨4, ![2, 16, 8192, 128]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x1024, .f32⟩
  | .hbm, ⟨3, _⟩ => ⟨S2x8192x128, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x8192x1024, .f32⟩
  | .hbm, ⟨23, _⟩ => ⟨S2x8192x1024, .f32⟩
  | .hbm, ⟨24, _⟩ => ⟨S2x8192x16x64, .f32⟩
  | .hbm, ⟨25, _⟩ => ⟨S2x16x8192x64, .f32⟩
  | .hbm, ⟨26, _⟩ => ⟨S2x8192x16, .f32⟩
  | .hbm, ⟨27, _⟩ => ⟨S2x16x8192, .f32⟩
  | .hbm, ⟨28, _⟩ => ⟨S2x16x8192x1, .f32⟩
  | .hbm, ⟨29, _⟩ => ⟨S_, .f32⟩
  | .hbm, ⟨30, _⟩ => ⟨S2x16x8192x3, .f32⟩
  | .hbm, ⟨31, _⟩ => ⟨S_, .f32⟩
  | .hbm, ⟨32, _⟩ => ⟨S2x16x8192x2, .f32⟩
  | .hbm, ⟨33, _⟩ => ⟨S_, .f32⟩
  | .hbm, ⟨34, _⟩ => ⟨S2x16x8192x58, .f32⟩
  | .hbm, ⟨35, _⟩ => ⟨S2x16x8192x128, .f32⟩
  | .hbm, ⟨36, _⟩ => ⟨S2x16x8192x128, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kv.lean ====
abbrev S2x8192x1024 : Shape := ⟨3, ![2, 8192, 1024]⟩
abbrev S1024 : Shape := ⟨1, ![1024]⟩
abbrev S1024x2064 : Shape := ⟨2, ![1024, 2064]⟩
abbrev S16 : Shape := ⟨1, ![16]⟩
abbrev S1x2048 : Shape := ⟨2, ![1, 2048]⟩
abbrev S1024x1024 : Shape := ⟨2, ![1024, 1024]⟩
abbrev S1024x16x64 : Shape := ⟨3, ![1024, 16, 64]⟩
abbrev S_ : Shape := ⟨0, ![]⟩
abbrev S1024x16x128 : Shape := ⟨3, ![1024, 16, 128]⟩
abbrev S1024x2048 : Shape := ⟨2, ![1024, 2048]⟩
abbrev S1024x16 : Shape := ⟨2, ![1024, 16]⟩
abbrev S1024x128 : Shape := ⟨2, ![1024, 128]⟩
abbrev S128 : Shape := ⟨1, ![128]⟩
abbrev S1x128 : Shape := ⟨2, ![1, 128]⟩
abbrev S3x128x2048 : Shape := ⟨3, ![3, 128, 2048]⟩
abbrev S1x1024 : Shape := ⟨2, ![1, 1024]⟩
abbrev S2x16x8192x128 : Shape := ⟨4, ![2, 16, 8192, 128]⟩
abbrev S2x8192x128 : Shape := ⟨3, ![2, 8192, 128]⟩
abbrev S1x512x1024 : Shape := ⟨3, ![1, 512, 1024]⟩
abbrev S1x16x512x128 : Shape := ⟨4, ![1, 16, 512, 128]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S512x512 : Shape := ⟨2, ![512, 512]⟩
abbrev S512x2048 : Shape := ⟨2, ![512, 2048]⟩
abbrev S1x128x2048 : Shape := ⟨3, ![1, 128, 2048]⟩
abbrev S128x2048 : Shape := ⟨2, ![128, 2048]⟩
abbrev S1x1x512x128 : Shape := ⟨4, ![1, 1, 512, 128]⟩

abbrev nBuf : Space → Nat
  | .hbm => 51
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2064, .f32⟩
  | .hbm, ⟨3, _⟩ => ⟨S16, .f32⟩
  | .hbm, ⟨4, _⟩ => ⟨S1x2048, .f32⟩
  | .hbm, ⟨5, _⟩ => ⟨S1024x1024, .f32⟩
  | .hbm, ⟨6, _⟩ => ⟨S1024x16x64, .f32⟩
  | .hbm, ⟨7, _⟩ => ⟨S_, .i32⟩
  | .hbm, ⟨8, _⟩ => ⟨S_, .f32⟩
  | .hbm, ⟨9, _⟩ => ⟨S1024x16x128, .f32⟩
  | .hbm, ⟨10, _⟩ => ⟨S1024x2048, .f32⟩
  | .hbm, ⟨11, _⟩ => ⟨S1024x2048, .bf16⟩
  | .hbm, ⟨12, _⟩ => ⟨S1024x1024, .f32⟩
  | .hbm, ⟨13, _⟩ => ⟨S1024x1024, .bf16⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S3x128x2048, .i32⟩
  | .hbm, ⟨24, _⟩ => ⟨S3x128x2048, .i32⟩
  | .hbm, ⟨25, _⟩ => ⟨S3x128x2048, .i32⟩
  | .hbm, ⟨26, _⟩ => ⟨S_, .i32⟩
  | .hbm, ⟨27, _⟩ => ⟨S3x128x2048, .i32⟩
  | .hbm, ⟨28, _⟩ => ⟨S3x128x2048, .i1⟩
  | .hbm, ⟨29, _⟩ => ⟨S_, .i32⟩
  | .hbm, ⟨30, _⟩ => ⟨S3x128x2048, .i32⟩
  | .hbm, ⟨31, _⟩ => ⟨S3x128x2048, .i32⟩
  | .hbm, ⟨32, _⟩ => ⟨S_, .i32⟩
  | .hbm, ⟨33, _⟩ => ⟨S3x128x2048, .i32⟩
  | .hbm, ⟨34, _⟩ => ⟨S3x128x2048, .i32⟩
  | .hbm, ⟨35, _⟩ => ⟨S_, .i32⟩
  | .hbm, ⟨36, _⟩ => ⟨S3x128x2048, .i32⟩
  | .hbm, ⟨37, _⟩ => ⟨S3x128x2048, .i32⟩
  | .hbm, ⟨38, _⟩ => ⟨S3x128x2048, .i32⟩
  | .hbm, ⟨39, _⟩ => ⟨S3x128x2048, .i1⟩
  | .hbm, ⟨40, _⟩ => ⟨S3x128x2048, .i1⟩
  | .hbm, ⟨41, _⟩ => ⟨S_, .f32⟩
  | .hbm, ⟨42, _⟩ => ⟨S_, .f32⟩
  | .hbm, ⟨43, _⟩ => ⟨S3x128x2048, .f32⟩
  | .hbm, ⟨44, _⟩ => ⟨S3x128x2048, .f32⟩
  | .hbm, ⟨45, _⟩ => ⟨S3x128x2048, .f32⟩
  | .hbm, ⟨46, _⟩ => ⟨S3x128x2048, .bf16⟩
  | .hbm, ⟨47, _⟩ => ⟨S1x1024, .f32⟩
  | .hbm, ⟨48, _⟩ => ⟨S2x16x8192x128, .bf16⟩
  | .hbm, ⟨49, _⟩ => ⟨S2x8192x1024, .bf16⟩
  | .hbm, ⟨50, _⟩ => ⟨S2x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1024, .bf16⟩
  | .local _ .vmem, ⟨5, _⟩ => ⟨S1024x128, .bf16⟩
  | .local _ .vmem, ⟨6, _⟩ => ⟨S1x128, .f32⟩
  | .local _ .vmem, ⟨7, _⟩ => ⟨S3x128x2048, .bf16⟩
  | .local _ .vmem, ⟨8, _⟩ => ⟨S1x2048, .f32⟩
  | .local _ .vmem, ⟨9, _⟩ => ⟨S1x16x512x128, .bf16⟩
  | .local _ .vmem, ⟨10, _⟩ => ⟨S1x16x512x128, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x128, .f32⟩
  | .local _ .vmem, ⟨14, _⟩ => ⟨S1x512x128, .f32⟩
  | .local _ .vmem, ⟨15, _⟩ => ⟨S1x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_cst_7 : Ref sig .tc := ⟨.hbm, 42, rfl⟩
abbrev main_call3_v0 : Ref sig .tc := ⟨.hbm, 43, rfl⟩
abbrev main_call3_v1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v29_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KvReferenceIdeal.lean ====
abbrev S2x8192x1024 : Shape := ⟨3, ![2, 8192, 1024]⟩
abbrev S1024 : Shape := ⟨1, ![1024]⟩
abbrev S1024x2064 : Shape := ⟨2, ![1024, 2064]⟩
abbrev S16 : Shape := ⟨1, ![16]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2064 : Shape := ⟨3, ![2, 8192, 2064]⟩
abbrev S2x8192x16x64 : Shape := ⟨4, ![2, 8192, 16, 64]⟩
abbrev S2x16x8192x64 : Shape := ⟨4, ![2, 16, 8192, 64]⟩
abbrev S2x8192x16 : Shape := ⟨3, ![2, 8192, 16]⟩
abbrev S1x1x16 : Shape := ⟨3, ![1, 1, 16]⟩
abbrev S2x16x8192x60 : Shape := ⟨4, ![2, 16, 8192, 60]⟩
abbrev S2x16x8192x3 : Shape := ⟨4, ![2, 16, 8192, 3]⟩
abbrev S2x16x8192 : Shape := ⟨3, ![2, 16, 8192]⟩
abbrev S2x16x8192x1 : Shape := ⟨4, ![2, 16, 8192, 1]⟩
abbrev S2x16x8192x128 : Shape := ⟨4, ![2, 16, 8192, 128]⟩
abbrev S2x8192x128 : Shape := ⟨3, ![2, 8192, 128]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2064, .f32⟩
  | .hbm, ⟨3, _⟩ => ⟨S16, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x2064, .f32⟩
  | .hbm, ⟨21, _⟩ => ⟨S2x8192x1024, .f32⟩
  | .hbm, ⟨22, _⟩ => ⟨S2x8192x16x64, .f32⟩
  | .hbm, ⟨23, _⟩ => ⟨S2x16x8192x64, .f32⟩
  | .hbm, ⟨24, _⟩ => ⟨S2x8192x16, .f32⟩
  | .hbm, ⟨25, _⟩ => ⟨S1x1x16, .f32⟩
  | .hbm, ⟨26, _⟩ => ⟨S2x8192x16, .f32⟩
  | .hbm, ⟨27, _⟩ => ⟨S2x8192x16, .f32⟩
  | .hbm, ⟨28, _⟩ => ⟨S2x8192x16, .f32⟩
  | .hbm, ⟨29, _⟩ => ⟨S_, .f32⟩
  | .hbm, ⟨30, _⟩ => ⟨S2x8192x16, .f32⟩
  | .hbm, ⟨31, _⟩ => ⟨S2x8192x16, .f32⟩
  | .hbm, ⟨32, _⟩ => ⟨S2x8192x16, .f32⟩
  | .hbm, ⟨33, _⟩ => ⟨S2x8192x16, .f32⟩
  | .hbm, ⟨34, _⟩ => ⟨S2x8192x16, .i1⟩
  | .hbm, ⟨35, _⟩ => ⟨S2x8192x16, .f32⟩
  | .hbm, ⟨36, _⟩ => ⟨S2x8192x16, .f32⟩
  | .hbm, ⟨37, _⟩ => ⟨S2x8192x16, .f32⟩
  | .hbm, ⟨38, _⟩ => ⟨S2x8192x16, .f32⟩
  | .hbm, ⟨39, _⟩ => ⟨S2x8192x16, .f32⟩
  | .hbm, ⟨40, _⟩ => ⟨S2x8192x16, .f32⟩
  | .hbm, ⟨41, _⟩ => ⟨S2x8192x16, .f32⟩
  | .hbm, ⟨42, _⟩ => ⟨S2x8192x16, .f32⟩
  | .hbm, ⟨43, _⟩ => ⟨S2x8192x16, .f32⟩
  | .hbm, ⟨44, _⟩ => ⟨S_, .f32⟩
  | .hbm, ⟨45, _⟩ => ⟨S_, .f32⟩
  | .hbm, ⟨46, _⟩ => ⟨S2x8192x16, .f32⟩
  | .hbm, ⟨47, _⟩ => ⟨S_, .f32⟩
  | .hbm, ⟨48, _⟩ => ⟨S2x16x8192x60, .f32⟩
  | .hbm, ⟨49, _⟩ => ⟨S_, .f32⟩
  | .hbm, ⟨50, _⟩ => ⟨S2x16x8192x3, .f32⟩
  | .hbm, ⟨51, _⟩ => ⟨S2x16x8192, .f32⟩
  | .hbm, ⟨52, _⟩ => ⟨S2x16x8192x1, .f32⟩
  | .hbm, ⟨53, _⟩ => ⟨S2x16x8192x1, .f32⟩
  | .hbm, ⟨54, _⟩ => ⟨S2x16x8192x128, .f32⟩
  | .hbm, ⟨55, _⟩ => ⟨S2x16x8192x128, .bf16⟩
  | .hbm, ⟨56, _⟩ => ⟨S2x8192x1024, .f32⟩
  | .hbm, ⟨57, _⟩ => ⟨S2x8192x1024, .bf16⟩
  | .hbm, ⟨58, _⟩ => ⟨S_, .i32⟩
  | .hbm, ⟨59, _⟩ => ⟨S_, .f32⟩
  | .hbm, ⟨60, _⟩ => ⟨S2x8192x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_call1_call0_cst : Ref sig .tc := ⟨.hbm, 44, rfl⟩
abbrev main_call1_call0_v0 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c : Ref sig .tc := ⟨.hbm, 58, rfl⟩
abbrev main_call2_v0 : Ref sig .tc := ⟨.hbm, 59, rfl⟩
abbrev main_v32 : Ref sig .tc := ⟨.hbm, 60, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Summary.lean ====
abbrev S64x256x1024 : Shape := ⟨3, ![64, 256, 1024]⟩
abbrev S64x1024x128 : Shape := ⟨3, ![64, 1024, 128]⟩
abbrev S256x8192 : Shape := ⟨2, ![256, 8192]⟩
abbrev S1x256x1024 : Shape := ⟨3, ![1, 256, 1024]⟩
abbrev S1x1024x128 : Shape := ⟨3, ![1, 1024, 128]⟩
abbrev S256x128 : Shape := ⟨2, ![256, 128]⟩
abbrev S256x1024 : Shape := ⟨2, ![256, 1024]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S64x256x1024, .f32⟩
  | .hbm, ⟨1, _⟩ => ⟨S64x1024x128, .bf16⟩
  | .hbm, ⟨2, _⟩ => ⟨S256x8192, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x128, .bf16⟩
  | .local _ .vmem, ⟨3, _⟩ => ⟨S1x1024x128, .bf16⟩
  | .local _ .vmem, ⟨4, _⟩ => ⟨S256x128, .f32⟩
  | .local _ .vmem, ⟨5, _⟩ => ⟨S256x128, .f32⟩
  | _, _ => ⟨S64x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SummaryReferenceIdeal.lean ====
abbrev S64x256x1024 : Shape := ⟨3, ![64, 256, 1024]⟩
abbrev S64x1024x128 : Shape := ⟨3, ![64, 1024, 128]⟩
abbrev S64x256x128 : Shape := ⟨3, ![64, 256, 128]⟩
abbrev S256x64x128 : Shape := ⟨3, ![256, 64, 128]⟩
abbrev S256x8192 : Shape := ⟨2, ![256, 8192]⟩

abbrev nBuf : Space → Nat
  | .hbm => 6
  | .vmem => 0
  | .smem => 0
  | _ => 0

abbrev bufTy : (tb : Table) → Fin (tcTables nBuf tb) → BufTy
  | .hbm, ⟨0, _⟩ => ⟨S64x256x1024, .f32⟩
  | .hbm, ⟨1, _⟩ => ⟨S64x1024x128, .bf16⟩
  | .hbm, ⟨2, _⟩ => ⟨S64x1024x128, .f32⟩
  | .hbm, ⟨3, _⟩ => ⟨S64x256x128, .f32⟩
  | .hbm, ⟨4, _⟩ => ⟨S256x64x128, .f32⟩
  | .hbm, ⟨5, _⟩ => ⟨S256x8192, .f32⟩
  | _, _ => ⟨S64x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Chunk.lean ====
abbrev S64x256x1024 : Shape := ⟨3, ![64, 256, 1024]⟩
abbrev S256x8192 : Shape := ⟨2, ![256, 8192]⟩
abbrev S64x128x1024 : Shape := ⟨3, ![64, 128, 1024]⟩
abbrev S64x1024x128 : Shape := ⟨3, ![64, 1024, 128]⟩
abbrev S64x1x1024 : Shape := ⟨3, ![64, 1, 1024]⟩
abbrev S1x256x1024 : Shape := ⟨3, ![1, 256, 1024]⟩
abbrev S256x128 : Shape := ⟨2, ![256, 128]⟩
abbrev S1x128x1024 : Shape := ⟨3, ![1, 128, 1024]⟩
abbrev S1x1024x128 : Shape := ⟨3, ![1, 1024, 128]⟩
abbrev S1x1x1024 : Shape := ⟨3, ![1, 1, 1024]⟩
abbrev S1024x1024 : Shape := ⟨2, ![1024, 1024]⟩
abbrev S128x1024 : Shape := ⟨2, ![128, 1024]⟩
abbrev S1x128x896 : Shape := ⟨3, ![1, 128, 896]⟩
abbrev S128x896 : Shape := ⟨2, ![128, 896]⟩
abbrev S1x128x768 : Shape := ⟨3, ![1, 128, 768]⟩
abbrev S128x768 : Shape := ⟨2, ![128, 768]⟩
abbrev S1x128x640 : Shape := ⟨3, ![1, 128, 640]⟩
abbrev S128x640 : Shape := ⟨2, ![128, 640]⟩
abbrev S1x128x512 : Shape := ⟨3, ![1, 128, 512]⟩
abbrev S128x512 : Shape := ⟨2, ![128, 512]⟩
abbrev S1x128x384 : Shape := ⟨3, ![1, 128, 384]⟩
abbrev S128x384 : Shape := ⟨2, ![128, 384]⟩
abbrev S1x128x256 : Shape := ⟨3, ![1, 128, 256]⟩
abbrev S128x256 : Shape := ⟨2, ![128, 256]⟩
abbrev S1x128x128 : Shape := ⟨3, ![1, 128, 128]⟩
abbrev S128x128 : Shape := ⟨2, ![128, 128]⟩
abbrev S256x1024 : Shape := ⟨2, ![256, 1024]⟩
abbrev S1024x128 : Shape := ⟨2, ![1024, 128]⟩
abbrev S1x1024 : Shape := ⟨2, ![1, 1024]⟩
abbrev S256x256 : Shape := ⟨2, ![256, 256]⟩
abbrev S256x512 : Shape := ⟨2, ![256, 512]⟩
abbrev S512x256 : Shape := ⟨2, ![512, 256]⟩
abbrev S256x768 : Shape := ⟨2, ![256, 768]⟩
abbrev S768x256 : Shape := ⟨2, ![768, 256]⟩
abbrev S1024x256 : Shape := ⟨2, ![1024, 256]⟩

abbrev nBuf : Space → Nat
  | .hbm => 6
  | .vmem => 13
  | .smem => 0
  | _ => 0

abbrev bufTy : (tb : Table) → Fin (tcTables nBuf tb) → BufTy
  | .hbm, ⟨0, _⟩ => ⟨S64x256x1024, .f32⟩
  | .hbm, ⟨1, _⟩ => ⟨S256x8192, .f32⟩
  | .hbm, ⟨2, _⟩ => ⟨S64x128x1024, .bf16⟩
  | .hbm, ⟨3, _⟩ => ⟨S64x1024x128, .bf16⟩
  | .hbm, ⟨4, _⟩ => ⟨S64x1x1024, .f32⟩
  | .hbm, ⟨5, _⟩ => ⟨S64x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S256x128, .f32⟩
  | .local _ .vmem, ⟨3, _⟩ => ⟨S256x128, .f32⟩
  | .local _ .vmem, ⟨4, _⟩ => ⟨S1x128x1024, .bf16⟩
  | .local _ .vmem, ⟨5, _⟩ => ⟨S1x128x1024, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1x1024, .f32⟩
  | .local _ .vmem, ⟨9, _⟩ => ⟨S1x1x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1024x1024, .bf16⟩
  | _, _ => ⟨S64x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ChunkReferenceIdeal.lean ====
abbrev S64x256x1024 : Shape := ⟨3, ![64, 256, 1024]⟩
abbrev S256x8192 : Shape := ⟨2, ![256, 8192]⟩
abbrev S64x128x1024 : Shape := ⟨3, ![64, 128, 1024]⟩
abbrev S64x1024x128 : Shape := ⟨3, ![64, 1024, 128]⟩
abbrev S64x1x1024 : Shape := ⟨3, ![64, 1, 1024]⟩
abbrev S_ : Shape := ⟨0, ![]⟩
abbrev S64x128x896 : Shape := ⟨3, ![64, 128, 896]⟩
abbrev S64x128x768 : Shape := ⟨3, ![64, 128, 768]⟩
abbrev S64x128x640 : Shape := ⟨3, ![64, 128, 640]⟩
abbrev S64x128x512 : Shape := ⟨3, ![64, 128, 512]⟩
abbrev S64x128x384 : Shape := ⟨3, ![64, 128, 384]⟩
abbrev S64x128x256 : Shape := ⟨3, ![64, 128, 256]⟩
abbrev S64x128x128 : Shape := ⟨3, ![64, 128, 128]⟩
abbrev S64x1024x1024 : Shape := ⟨3, ![64, 1024, 1024]⟩
abbrev S256x64x128 : Shape := ⟨3, ![256, 64, 128]⟩
abbrev S64x256x128 : Shape := ⟨3, ![64, 256, 128]⟩

abbrev nBuf : Space → Nat
  | .hbm => 66
  | .vmem => 0
  | .smem => 0
  | _ => 0

abbrev bufTy : (tb : Table) → Fin (tcTables nBuf tb) → BufTy
  | .hbm, ⟨0, _⟩ => ⟨S64x256x1024, .f32⟩
  | .hbm, ⟨1, _⟩ => ⟨S256x8192, .f32⟩
  | .hbm, ⟨2, _⟩ => ⟨S64x128x1024, .bf16⟩
  | .hbm, ⟨3, _⟩ => ⟨S64x1024x128, .bf16⟩
  | .hbm, ⟨4, _⟩ => ⟨S64x1x1024, .f32⟩
  | .hbm, ⟨5, _⟩ => ⟨S64x128x1024, .f32⟩
  | .hbm, ⟨6, _⟩ => ⟨S_, .i32⟩
  | .hbm, ⟨7, _⟩ => ⟨S_, .f32⟩
  | .hbm, ⟨8, _⟩ => ⟨S64x128x1024, .f32⟩
  | .hbm, ⟨9, _⟩ => ⟨S64x128x896, .f32⟩
  | .hbm, ⟨10, _⟩ => ⟨S_, .i32⟩
  | .hbm, ⟨11, _⟩ => ⟨S_, .f32⟩
  | .hbm, ⟨12, _⟩ => ⟨S64x128x1024, .f32⟩
  | .hbm, ⟨13, _⟩ => ⟨S64x128x768, .f32⟩
  | .hbm, ⟨14, _⟩ => ⟨S_, .i32⟩
  | .hbm, ⟨15, _⟩ => ⟨S_, .f32⟩
  | .hbm, ⟨16, _⟩ => ⟨S64x128x1024, .f32⟩
  | .hbm, ⟨17, _⟩ => ⟨S64x128x640, .f32⟩
  | .hbm, ⟨18, _⟩ => ⟨S_, .i32⟩
  | .hbm, ⟨19, _⟩ => ⟨S_, .f32⟩
  | .hbm, ⟨20, _⟩ => ⟨S64x128x1024, .f32⟩
  | .hbm, ⟨21, _⟩ => ⟨S64x128x512, .f32⟩
  | .hbm, ⟨22, _⟩ => ⟨S_, .i32⟩
  | .hbm, ⟨23, _⟩ => ⟨S_, .f32⟩
  | .hbm, ⟨24, _⟩ => ⟨S64x128x1024, .f32⟩
  | .hbm, ⟨25, _⟩ => ⟨S64x128x384, .f32⟩
  | .hbm, ⟨26, _⟩ => ⟨S_, .i32⟩
  | .hbm, ⟨27, _⟩ => ⟨S_, .f32⟩
  | .hbm, ⟨28, _⟩ => ⟨S64x128x1024, .f32⟩
  | .hbm, ⟨29, _⟩ => ⟨S64x128x256, .f32⟩
  | .hbm, ⟨30, _⟩ => ⟨S_, .i32⟩
  | .hbm, ⟨31, _⟩ => ⟨S_, .f32⟩
  | .hbm, ⟨32, _⟩ => ⟨S64x128x1024, .f32⟩
  | .hbm, ⟨33, _⟩ => ⟨S64x128x128, .f32⟩
  | .hbm, ⟨34, _⟩ => ⟨S_, .i32⟩
  | .hbm, ⟨35, _⟩ => ⟨S_, .f32⟩
  | .hbm, ⟨36, _⟩ => ⟨S64x128x1024, .f32⟩
  | .hbm, ⟨37, _⟩ => ⟨S64x1024x1024, .f32⟩
  | .hbm, ⟨38, _⟩ => ⟨S256x64x128, .f32⟩
  | .hbm, ⟨39, _⟩ => ⟨S64x256x128, .f32⟩
  | .hbm, ⟨40, _⟩ => ⟨S64x1024x128, .f32⟩
  | .hbm, ⟨41, _⟩ => ⟨S64x128x1024, .f32⟩
  | .hbm, ⟨42, _⟩ => ⟨S64x256x1024, .f32⟩
  | .hbm, ⟨43, _⟩ => ⟨S64x256x1024, .f32⟩
  | .hbm, ⟨44, _⟩ => ⟨S64x256x1024, .f32⟩
  | .hbm, ⟨45, _⟩ => ⟨S64x256x1024, .f32⟩
  | .hbm, ⟨46, _⟩ => ⟨S64x256x1024, .f32⟩
  | .hbm, ⟨47, _⟩ => ⟨S64x256x1024, .f32⟩
  | .hbm, ⟨48, _⟩ => ⟨S64x256x1024, .f32⟩
  | .hbm, ⟨49, _⟩ => ⟨S64x256x1024, .f32⟩
  | .hbm, ⟨50, _⟩ => ⟨S_, .f32⟩
  | .hbm, ⟨51, _⟩ => ⟨S64x256x1024, .f32⟩
  | .hbm, ⟨52, _⟩ => ⟨S64x256x1024, .f32⟩
  | .hbm, ⟨53, _⟩ => ⟨S64x256x1024, .f32⟩
  | .hbm, ⟨54, _⟩ => ⟨S_, .f32⟩
  | .hbm, ⟨55, _⟩ => ⟨S64x256x1024, .f32⟩
  | .hbm, ⟨56, _⟩ => ⟨S64x256x1024, .f32⟩
  | .hbm, ⟨57, _⟩ => ⟨S64x256x1024, .f32⟩
  | .hbm, ⟨58, _⟩ => ⟨S_, .f32⟩
  | .hbm, ⟨59, _⟩ => ⟨S64x256x1024, .f32⟩
  | .hbm, ⟨60, _⟩ => ⟨S64x256x1024, .f32⟩
  | .hbm, ⟨61, _⟩ => ⟨S_, .f32⟩
  | .hbm, ⟨62, _⟩ => ⟨S64x256x1024, .f32⟩
  | .hbm, ⟨63, _⟩ => ⟨S64x256x1024, .f32⟩
  | .hbm, ⟨64, _⟩ => ⟨S64x256x1024, .f32⟩
  | .hbm, ⟨65, _⟩ => ⟨S64x256x1024, .bf16⟩
  | _, _ => ⟨S64x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_call4_v0 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_call5_v0 : Ref sig .tc := ⟨.hbm, 27, rfl⟩
abbrev main_v11 : Ref sig .tc := ⟨.hbm, 28, rfl⟩
abbrev main_v12 : Ref sig .tc := ⟨.hbm, 29, rfl⟩
abbrev main_c_5 : Ref sig .tc := ⟨.hbm, 30, rfl⟩
abbrev main_call6_v0 : Ref sig .tc := ⟨.hbm, 31, rfl⟩
abbrev main_v13 : Ref sig .tc := ⟨.hbm, 32, rfl⟩
abbrev main_v14 : Ref sig .tc := ⟨.hbm, 33, rfl⟩
abbrev main_c_6 : Ref sig .tc := ⟨.hbm, 34, rfl⟩
abbrev main_call7_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Proof.Attn.Finite.lean ====
/- The precondition decoded: every entry of the queries and of the keys is a real number. -/
module

public import proofs.«01_k».proof.Defs
public import Idealize.ShloMosaic.Lib.Pointwise

@[expose] public section

set_option maxRecDepth 16384

noncomputable section

namespace Cert.Pre_finite_queries_keys

open Idealize.ShloMosaic

/-- The side conditions of the precondition's operations. -/
theorem facts : Facts := ⟨by decide, by decide⟩

/-- An absolute value below `⊤` is of a real number. -/
theorem real_of_abs_lt (x : EReal) (h : Ideal.cmp .olt (max x (-x)) (Ideal.ofBits .f32 0x7F800000#32) = 1#1) : x ≠ ⊤ ∧ x ≠ ⊥ := by
  have e : Ideal.ofBits .f32 0x7F800000#32 = (⊤ : EReal) := by simp [Ideal.ofBits, Ideal.ieee]
  rw [e] at h
  constructor <;> rintro rfl <;> simp [Ideal.cmp] at h

/-- Where the precondition holds the queries and the keys are real. -/
theorem real [self : Facts] {q k : FVec Ideal S2x16x8192x128 .bf16} {v : FVec Ideal S2x8192x1024 .bf16}
    (h : fn (F := Ideal) q k v = fun _ => 1#1) (j : S2x16x8192x128.Idx) :
    ((q j : EReal) ≠ ⊤ ∧ (q j : EReal) ≠ ⊥) ∧ ((k j : EReal) ≠ ⊤ ∧ (k j : EReal) ≠ ⊥) := by
  have hj := congrFun h j
  have e : fn (F := Ideal) q k v j = IntOp.andi (Ideal.cmp .olt (max (q j : EReal) (-(q j : EReal))) (Ideal.ofBits .f32 0x7F800000#32))
      (Ideal.cmp .olt (max (k j : EReal) (-(k j : EReal))) (Ideal.ofBits .f32 0x7F800000#32)) := rfl
  rw [e] at hj
  have h2 : ∀ a b : BitVec 1, IntOp.andi a b = 1#1 → a = 1#1 ∧ b = 1#1 := by decide
  exact ⟨real_of_abs_lt _ (h2 _ _ hj).1, real_of_abs_lt _ (h2 _ _ hj).2⟩

end Cert.Pre_finite_queries_keys

end
-- ==== Proof.Attn.Off.lean ====
/- The attention's loop trip counts and load offsets, in closed form: at query block `b` the first loop runs `b / 2` trips
   of 512 keys, the second none, and the last block starts at `512 * (b / 2)`. -/
module

public import proofs.«01_k».proof.Proof.Gen.KernelIdeal.Frame.RunA
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe

variable (i : grid0.Coords)

theorem trips1 : (k0_t1_loop i).trips = (i 2).val / 2 := by
  unfold k0_t1_loop
  generalize i 2 = b
  revert b
  change ∀ b : Fin 32, _
  decide +kernel

theorem trips2 : (k0_t2_loop i).trips = 0 := by
  unfold k0_t2_loop
  generalize i 2 = b
  revert b
  change ∀ b : Fin 32, _
  decide +kernel

theorem lastBlock : kernelRun0_A.sl.v17 i = BitVec.ofNat 32 ((i 2).val / 2) := by
  unfold kernelRun0_A.sl.v17 kernelRun0_A.sl.v16 kernelRun0_A.sl.v15 kernelRun0_A.sl.v1 kernelRun0_A.sl.v12 kernelRun0_A.sl.v14
  unfold kernelRun0_A.sl.v6 kernelRun0_A.sl.v13
  unfold kernelRun0_A.sl.v3 kernelRun0_A.sl.v5
  unfold kernelRun0_A.sl.v2 kernelRun0_A.sl.v4
  unfold kernelRun0_A.sl.v0
  generalize i 2 = b
  revert b
  change ∀ b : Fin 32, _
  decide +kernel

theorem off7 : k0_off7 i = ![0, 0, 512 * ((i 2).val / 2), 0] := by
  unfold k0_off7
  generalize i 2 = b
  revert b
  change ∀ b : Fin 32, _
  decide +kernel

theorem off8 : k0_off8 i = ![0, 512 * ((i 2).val / 2), 0] := by
  unfold k0_off8
  generalize i 2 = b
  revert b
  change ∀ b : Fin 32, _
  decide +kernel

theorem off9 : k0_off9 i = ![0, 1, 512 * ((i 2).val / 2), 0] := by
  unfold k0_off9
  generalize i 2 = b
  revert b
  change ∀ b : Fin 32, _
  decide +kernel

theorem iv_off : ∀ n : Fin 16, (Scalar.indexCast (Scalar.muli (Scf.iv 0#32 1#32 n.val) 512#32)).toNat = 512 * n.val := by
  decide +kernel

theorem trip_lt (k : Fin (k0_t1_loop i).trips) : k.val < 16 := by
  have h : k.val < (i 2).val / 2 := lt_of_lt_of_eq k.isLt (trips1 i)
  have : (i 2).val < 32 := (i 2).isLt
  omega

theorem off1 (k : Fin (k0_t1_loop i).trips) : k0_off1 i k = ![0, 0, 512 * k.val, 0] := by
  unfold k0_off1
  exact congrArg (fun n => ![0, 0, n, 0]) (iv_off ⟨k.val, trip_lt i k⟩)

theorem off2 (k : Fin (k0_t1_loop i).trips) : k0_off2 i k = ![0, 512 * k.val, 0] := by
  unfold k0_off2
  exact congrArg (fun n => ![0, n, 0]) (iv_off ⟨k.val, trip_lt i k⟩)

theorem off3 (k : Fin (k0_t1_loop i).trips) : k0_off3 i k = ![0, 1, 512 * k.val, 0] := by
  unfold k0_off3
  exact congrArg (fun n => ![0, 1, n, 0]) (iv_off ⟨k.val, trip_lt i k⟩)

/-- A load of a rank-4 block, of unit leading axes, from a whole buffer at an index. -/
theorem load4_at {sp : Space} {n1 n2 n3 m2 m3 : ℕ} {e : EltTy} (arg : Memref sig .tc sp ⟨4, ![1, n1, n2, n3]⟩ e) (h : arg.IsWhole)
    (x : Vec Ideal ⟨4, ![1, n1, n2, n3]⟩ e) {off : Fin 4 → ℕ} (inb : ∀ a, off a + (![1, 1, m2, m3] : Fin 4 → ℕ) a ≤ (⟨4, ![1, n1, n2, n3]⟩ : Shape).size a)
    {o1 : Fin n1} {o2 : ℕ} (ho : off = ![0, o1.val, o2, 0]) (r : Fin m2) (d : Fin m3) (r' : Fin n2) (d' : Fin n3) (hr : r'.val = o2 + r.val) (hd : d'.val = d.val) :
    View.readAt (Elt Ideal) arg.view (Rect.unit (s := ⟨4, ![1, n1, n2, n3]⟩) off ![1, 1, m2, m3] inb).toLoadRect (h.unread x) (ix4 0 0 r d)
      = x (ix4 0 o1 r' d') := by
  subst ho
  rw [View.readAt_apply, h.read_unread]
  congr 1
  funext a
  apply Fin.ext
  fin_cases a <;> simp [Rect.toLoadRect, LoadRect.idx, Rect.unit, ix4, hr, hd]

/-- A load of a rank-3 block, of a unit leading axis, from a whole buffer at an index. -/
theorem load3_at {sp : Space} {n2 n3 m2 m3 : ℕ} {e : EltTy} (arg : Memref sig .tc sp ⟨3, ![1, n2, n3]⟩ e) (h : arg.IsWhole)
    (x : Vec Ideal ⟨3, ![1, n2, n3]⟩ e) {off : Fin 3 → ℕ} (inb : ∀ a, off a + (![1, m2, m3] : Fin 3 → ℕ) a ≤ (⟨3, ![1, n2, n3]⟩ : Shape).size a)
    {o2 : ℕ} (ho : off = ![0, o2, 0]) (r : Fin m2) (d : Fin m3) (r' : Fin n2) (d' : Fin n3) (hr : r'.val = o2 + r.val) (hd : d'.val = d.val) :
    View.readAt (Elt Ideal) arg.view (Rect.unit (s := ⟨3, ![1, n2, n3]⟩) off ![1, m2, m3] inb).toLoadRect (h.unread x) (ix3 0 r d)
      = x (ix3 0 r' d') := by
  subst ho
  rw [View.readAt_apply, h.read_unread]
  congr 1
  funext a
  apply Fin.ext
  fin_cases a <;> simp [Rect.toLoadRect, LoadRect.idx, Rect.unit, ix3, hr, hd]

end Cert.KernelIdeal.Attn

end
-- ==== Proof.Attn.Softmax.lean ====
/- Softmax over a sequence of scores, taken a block at a time: the running maximum, the running sum of exponentials and
   the running weighted sum over the first `n` positions, how they grow by a block, and the weighted average they end
   with. Scores are real or `⊥` (a masked position). -/
module

public import Idealize.ShloMosaic.Lib.Pointwise
public import Idealize.ShloMosaic.PureOps.Ideal

@[expose] public section

noncomputable section

namespace Cert.Softmax

open Idealize.ShloMosaic

/-- A maximum folded from `z` is `z` against the supremum. -/
theorem fold_max_eq_sup {ι : Type*} (s : Finset ι) (z : EReal) (f : ι → EReal) : s.fold max z f = max z (s.sup f) := by
  classical
  induction s using Finset.induction_on with
  | empty => simp
  | insert a s ha ih => rw [Finset.fold_insert ha, ih, Finset.sup_insert, max_left_comm]

/-- The maximum of the first `n` scores. -/
def top (S : ℕ → EReal) (n : ℕ) : EReal := (Finset.range n).sup S

/-- The sum of the exponentials of the first `n` scores less their maximum. -/
def den (S : ℕ → EReal) (n : ℕ) : EReal := ∑ x ∈ Finset.range n, Ideal.exp (S x - top S n)

/-- The sum of the first `n` values weighted by those exponentials. -/
def num (S V : ℕ → EReal) (n : ℕ) : EReal := ∑ x ∈ Finset.range n, Ideal.exp (S x - top S n) * V x

theorem top_zero (S : ℕ → EReal) : top S 0 = ⊥ := by simp [top]
theorem den_zero (S : ℕ → EReal) : den S 0 = 0 := by simp [den]
theorem num_zero (S V : ℕ → EReal) : num S V 0 = 0 := by simp [num]

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

/-- Passing from the maximum `m` to a larger `m'` rescales the exponential of a score. -/
theorem exp_rescale {s m m' : EReal} (hs : s ≤ m) (hm : m ≤ m') (ht : m' ≠ ⊤) :
    Ideal.exp (m - m') * Ideal.exp (s - m) = Ideal.exp (s - m') := by
  induction s with
  | bot => simp [EReal.bot_sub]
  | top => exact absurd (top_le_iff.1 (le_trans hs hm)) ht
  | coe a =>
    induction m with
    | bot => exact absurd (le_bot_iff.1 hs) (EReal.coe_ne_bot a)
    | top => exact absurd (top_le_iff.1 hm) ht
    | coe b =>
      induction m' with
      | bot => exact absurd (le_bot_iff.1 hm) (EReal.coe_ne_bot b)
      | top => exact absurd rfl ht
      | coe c =>
        rw [← EReal.coe_sub, ← EReal.coe_sub, ← EReal.coe_sub, Ideal.exp_coe, Ideal.exp_coe, Ideal.exp_coe, ← EReal.coe_mul,
          ← Real.exp_add]
        congr 2; ring

theorem sub_ne_top {m m' : EReal} (h : m ≠ ⊤) (hm : m ≤ m') : m - m' ≠ ⊤ := by
  induction m with
  | bot => simp [EReal.bot_sub]
  | top => exact absurd rfl h
  | coe b =>
    induction m' with
    | bot => exact absurd (le_bot_iff.1 hm) (EReal.coe_ne_bot b)
    | top => simp
    | coe c => rw [← EReal.coe_sub]; exact EReal.coe_ne_top _

/-- A nonnegative factor other than `⊤` distributes over a sum. -/
theorem mul_sum {ι : Type*} (s : Finset ι) (f : ι → EReal) {a : EReal} (h0 : 0 ≤ a) (ht : a ≠ ⊤) :
    a * ∑ x ∈ s, f x = ∑ x ∈ s, a * f x := by
  classical
  induction s using Finset.induction_on with
  | empty => simp
  | insert y s hy ih => rw [Finset.sum_insert hy, Finset.sum_insert hy, EReal.left_distrib_of_nonneg_of_ne_top h0 ht, ih]

/-- The first `n + k` scores' maximum is the first `n`'s against the next `k`'s. -/
theorem top_add (S : ℕ → EReal) (n k : ℕ) : top S (n + k) = max (top S n) (Finset.univ.sup fun c : Fin k => S (n + c.val)) := by
  apply le_antisymm
  · refine Finset.sup_le fun x hx => ?_
    rcases Nat.lt_or_ge x n with h | h
    · exact le_max_of_le_left (Finset.le_sup (f := S) (Finset.mem_range.2 h))
    · have hk : x - n < k := by have := Finset.mem_range.1 hx; omega
      refine le_max_of_le_right ?_
      have := Finset.le_sup (f := fun c : Fin k => S (n + c.val)) (Finset.mem_univ ⟨x - n, hk⟩)
      simpa [Nat.add_sub_cancel' h] using this
  · refine max_le (Finset.sup_mono fun x hx => Finset.mem_range.2 ?_) (Finset.sup_le fun c _ => Finset.le_sup (f := S) (Finset.mem_range.2 ?_))
    · have := Finset.mem_range.1 hx; omega
    · have := c.isLt; omega

theorem top_ne_top {S : ℕ → EReal} (hS : ∀ x, S x ≠ ⊤) (n : ℕ) : top S n ≠ ⊤ := by
  rcases Nat.eq_zero_or_pos n with rfl | h
  · rw [top_zero]; exact bot_ne_top
  · obtain ⟨x, -, e⟩ := Finset.exists_mem_eq_sup (Finset.range n) ⟨0, Finset.mem_range.2 h⟩ S
    rw [top, e]; exact hS x

theorem le_top {S : ℕ → EReal} {n x : ℕ} (h : x < n) : S x ≤ top S n := Finset.le_sup (f := S) (Finset.mem_range.2 h)

theorem top_mono (S : ℕ → EReal) {n k : ℕ} (h : n ≤ k) : top S n ≤ top S k :=
  Finset.sup_mono fun x hx => Finset.mem_range.2 (lt_of_lt_of_le (Finset.mem_range.1 hx) h)

/-- The weighted sum grown by the next `k` positions: the old one rescaled, plus the block's. -/
theorem num_add {S : ℕ → EReal} (V : ℕ → EReal) (hS : ∀ x, S x ≠ ⊤) (n k : ℕ) :
    num S V (n + k) = Ideal.exp (top S n - top S (n + k)) * num S V n
      + ∑ c : Fin k, Ideal.exp (S (n + c.val) - top S (n + k)) * V (n + c.val) := by
  have hm := top_mono S (Nat.le_add_right n k)
  rw [num, Finset.sum_range_add, num, mul_sum _ _ (exp_nonneg _) (exp_ne_top (sub_ne_top (top_ne_top hS n) hm)),
    Finset.sum_range (fun x => Ideal.exp (S (n + x) - top S (n + k)) * V (n + x))]
  congr 1
  refine Finset.sum_congr rfl fun x hx => ?_
  rw [← mul_assoc, exp_rescale (le_top (Finset.mem_range.1 hx)) hm (top_ne_top hS _)]

/-- The sum of exponentials grown by the next `k` positions. -/
theorem den_add {S : ℕ → EReal} (hS : ∀ x, S x ≠ ⊤) (n k : ℕ) :
    den S (n + k) = Ideal.exp (top S n - top S (n + k)) * den S n + ∑ c : Fin k, Ideal.exp (S (n + c.val) - top S (n + k)) := by
  have h := num_add (S := S) (fun _ => 1) hS n k
  simpa [num, den] using h

/-- Masked positions past `n` do not change the maximum. -/
theorem top_tail {S : ℕ → EReal} {n N : ℕ} (hn : n ≤ N) (hb : ∀ x, n ≤ x → S x = ⊥) : top S N = top S n := by
  obtain ⟨k, rfl⟩ := Nat.exists_eq_add_of_le hn
  rw [top_add, max_eq_left]
  refine Finset.sup_le fun c _ => ?_
  rw [hb _ (Nat.le_add_right n _)]; exact bot_le

/-- Masked positions past `n` do not change the weighted sum. -/
theorem num_tail {S : ℕ → EReal} (V : ℕ → EReal) {n N : ℕ} (hn : n ≤ N) (hb : ∀ x, n ≤ x → S x = ⊥) : num S V N = num S V n := by
  obtain ⟨k, rfl⟩ := Nat.exists_eq_add_of_le hn
  have ht := top_tail (Nat.le_add_right n k) hb
  rw [num, num, ht, Finset.sum_range_add, Finset.sum_eq_zero (s := Finset.range k), add_zero]
  intro x _
  rw [hb _ (Nat.le_add_right n x), EReal.bot_sub, Ideal.exp_bot, zero_mul]

/-- Masked positions past `n` do not change the sum of exponentials. -/
theorem den_tail {S : ℕ → EReal} {n N : ℕ} (hn : n ≤ N) (hb : ∀ x, n ≤ x → S x = ⊥) : den S N = den S n := by
  have h := num_tail (S := S) (fun _ => 1) hn hb
  simpa [num, den] using h

theorem den_ne_zero {S : ℕ → EReal} (hS : ∀ x, S x ≠ ⊤) {n : ℕ} (hn : 0 < n) (h0 : S 0 ≠ ⊥) : den S n ≠ 0 := by
  obtain ⟨x, hx, e⟩ := Finset.exists_mem_eq_sup (Finset.range n) ⟨0, Finset.mem_range.2 hn⟩ S
  have hb : S x ≠ ⊥ := fun hb => by
    have := le_top (S := S) hn
    rw [top, e, hb] at this
    exact h0 (le_bot_iff.1 this)
  have h1 : Ideal.exp (S x - top S n) = 1 := by
    rw [top, e]
    generalize hy : S x = y at hb
    have ht := hS x
    rw [hy] at ht
    induction y with
    | bot => exact absurd rfl hb
    | top => exact absurd rfl ht
    | coe r => rw [← EReal.coe_sub, Ideal.exp_coe]; simp
  have h2 : (1 : EReal) ≤ den S n := by
    rw [← h1]
    exact Finset.single_le_sum (f := fun x => Ideal.exp (S x - top S n)) (fun y _ => exp_nonneg _) hx
  intro h
  rw [h] at h2
  exact absurd h2 (not_le.2 zero_lt_one)

/-- The quotient of the weighted sum by the sum of exponentials is the average of the values under the softmax weights. -/
theorem div_num {S : ℕ → EReal} (V : ℕ → EReal) (hS : ∀ x, S x ≠ ⊤) {n : ℕ} (hn : 0 < n) (h0 : S 0 ≠ ⊥) :
    Ideal.div (num S V n) (den S n) = ∑ x ∈ Finset.range n, Ideal.div (Ideal.exp (S x - top S n)) (den S n) * V x := by
  have hd := den_ne_zero hS hn h0
  have hnn : 0 ≤ den S n := Finset.sum_nonneg fun x _ => exp_nonneg _
  have hi : 0 ≤ (den S n)⁻¹ := EReal.inv_nonneg_of_nonneg hnn
  have ht : (den S n)⁻¹ ≠ ⊤ := by
    generalize den S n = y at hd
    induction y with
    | bot => simp
    | top => simp
    | coe r => rw [← EReal.coe_inv]; exact EReal.coe_ne_top _
  rw [Ideal.div, if_neg hd, mul_comm, num, mul_sum _ _ hi ht]
  refine Finset.sum_congr rfl fun x _ => ?_
  rw [Ideal.div, if_neg hd, ← mul_assoc, mul_comm (den S n)⁻¹]

end Cert.Softmax

end
-- ==== Proof.Attn.Pay.lean ====
/- What the attention body's payloads hold at an index: the logits of a block of keys, and the running maximum, sum and
   weighted sum after the block, as the softmax over the positions so far. -/
module

public import proofs.«01_k».proof.Proof.Gen.KernelIdeal.Skeleton
public import proofs.«01_k».proof.Proof.Attn.Softmax

@[expose] public section

set_option maxRecDepth 16384

noncomputable section

namespace Cert.KernelIdeal.Attn

open Cert.KernelIdeal Cert.KernelIdeal.Gen Idealize.ShloMosaic Idealize.ShloMosaic.TcCoe Cert.Softmax

/-- The named mask is `⊥`. -/
theorem mask_eq : Named.named (F := Ideal) κ "mask" (φ := .f32) 0xF149F2CA#32 = (⊥ : EReal) :=
  IdealRules.named_const.ideal_named_scalar _ _ _ _ rfl

/-- The word the row maximum starts from is `⊥`. -/
theorem neg_inf : Ideal.ofBits .f32 0xFF800000#32 = (⊥ : EReal) := by
  simp [Ideal.ofBits, Ideal.ieee]

/-- The logits of a block: query row `r` against key row `c`. -/
theorem pay2_at (k : Vec Ideal S1x1x512x128 .bf16) (q : Vec Ideal S1x1x256x128 .bf16) (r : Fin 256) (c : Fin 512) :
    k0_pay2 k q (ix2 r c) = ∑ x : Fin 128, q (ix4 0 0 r x) * k (ix4 0 0 c x) := by
  pointwise [k0_pay2]

/-- The masked logits of the last block. -/
theorem pay32_at (a b : BitVec 32) (k : Vec Ideal S1x1x512x128 .bf16) (q : Vec Ideal S1x1x256x128 .bf16) (r : Fin 256) (c : Fin 512) :
    k0_pay32 a b k q (ix2 r c)
      = Scalar.select (IntOp.cmpi .sge (IntOp.addi (Scalar.muli a 256#32) (BitVec.ofNat 32 r.val)) (IntOp.addi (Scalar.muli b 512#32) (BitVec.ofNat 32 c.val)))
          (∑ x : Fin 128, q (ix4 0 0 r x) * k (ix4 0 0 c x) : EReal) (⊥ : EReal) := by
  have h : k0_pay32 a b k q (ix2 r c)
      = Scalar.select (IntOp.cmpi .sge (IntOp.addi (Scalar.muli a 256#32) (BitVec.ofNat 32 r.val)) (IntOp.addi (Scalar.muli b 512#32) (BitVec.ofNat 32 c.val)))
          (∑ x : Fin 128, q (ix4 0 0 r x) * k (ix4 0 0 c x) : EReal) (Named.named (F := Ideal) κ "mask" (φ := .f32) 0xF149F2CA#32) := by
    pointwise [k0_pay32]
  rw [h, mask_eq]

theorem pay22_at (m : FVec Ideal S256x1 .f32) (s : FVec Ideal S256x512 .f32) (r : Fin 256) :
    k0_pay22 m s (ix2 r 0) = max (m (ix2 r 0)) (Finset.univ.sup fun x : Fin 512 => (s (ix2 r x) : EReal)) := by
  have h : k0_pay22 m s (ix2 r 0) = max (m (ix2 r 0)) (Finset.fold max (Ideal.ofBits .f32 0xFF800000#32) (fun x => s (ix2 r x)) Finset.univ) := by
    pointwise [k0_pay22]
  rw [h]
  refine congrArg (max _) ((fold_max_eq_sup _ _ _).trans ?_)
  rw [neg_inf]; exact max_eq_right bot_le

theorem pay25_at (m l : FVec Ideal S256x1 .f32) (s : FVec Ideal S256x512 .f32) (r : Fin 256) :
    k0_pay25 m l s (ix2 r 0) = Ideal.exp (m (ix2 r 0) - k0_pay22 m s (ix2 r 0)) * l (ix2 r 0)
      + ∑ x : Fin 512, Ideal.exp (s (ix2 r x) - k0_pay22 m s (ix2 r 0)) := by
  pointwise [k0_pay25, k0_pay24, k0_pay23]

theorem pay26_at (m : FVec Ideal S256x1 .f32) (a : FVec Ideal S256x128 .f32) (s : FVec Ideal S256x512 .f32)
    (v : Vec Ideal S1x512x128 .bf16) (r : Fin 256) (d : Fin 128) :
    k0_pay26 m a s v (ix2 r d) = Ideal.exp (m (ix2 r 0) - k0_pay22 m s (ix2 r 0)) * a (ix2 r d)
      + ∑ x : Fin 512, Ideal.exp (s (ix2 r x) - k0_pay22 m s (ix2 r 0)) * v (ix3 0 x d) := by
  pointwise [k0_pay26, k0_pay24, k0_pay23]

section Block

variable {S : ℕ → EReal} {n : ℕ} {m l : FVec Ideal S256x1 .f32} {a : FVec Ideal S256x128 .f32}
  {s : FVec Ideal S256x512 .f32} {v : Vec Ideal S1x512x128 .bf16} {r : Fin 256} {d : Fin 128}

/-- The running maximum after a block. -/
theorem block_top (hm : m (ix2 r 0) = top S n) (hs : ∀ c : Fin 512, s (ix2 r c) = S (n + c.val)) :
    k0_pay22 m s (ix2 r 0) = top S (n + 512) := by
  rw [pay22_at, hm, top_add]
  exact congrArg (max _) (Finset.sup_congr rfl fun c _ => hs c)

/-- The running sum of exponentials after a block. -/
theorem block_den (hS : ∀ x, S x ≠ ⊤) (hm : m (ix2 r 0) = top S n) (hl : l (ix2 r 0) = den S n)
    (hs : ∀ c : Fin 512, s (ix2 r c) = S (n + c.val)) : k0_pay25 m l s (ix2 r 0) = den S (n + 512) := by
  rw [pay25_at, block_top hm hs, hm, hl, den_add hS]
  congr 1
  exact Finset.sum_congr rfl fun c _ => by rw [hs c]

/-- The running weighted sum after a block. -/
theorem block_num {V : ℕ → EReal} (hS : ∀ x, S x ≠ ⊤) (hm : m (ix2 r 0) = top S n) (ha : a (ix2 r d) = num S V n)
    (hs : ∀ c : Fin 512, s (ix2 r c) = S (n + c.val)) (hv : ∀ c : Fin 512, v (ix3 0 c d) = V (n + c.val)) :
    k0_pay26 m a s v (ix2 r d) = num S V (n + 512) := by
  rw [pay26_at, block_top hm hs, hm, ha, num_add V hS]
  congr 1
  exact Finset.sum_congr rfl fun c _ => by rw [hs c, hv c]

end Block

/-- The last block's payload of the two heads: each head's weighted sum over its sum of exponentials, the first head's in
    lanes below 64. -/
theorem pay39_at (a b : BitVec 32) (m l : FVec Ideal S256x1 .f32) (acc : FVec Ideal S256x128 .f32) (l0 : FVec Ideal S256x1 .f32)
    (a0 : FVec Ideal S256x128 .f32) (k : Vec Ideal S1x1x512x128 .bf16) (q : Vec Ideal S1x1x256x128 .bf16) (v : Vec Ideal S1x512x128 .bf16)
    (r : Fin 256) (d : Fin 128) :
    k0_pay39 a b (iota .tc S256x128 32 [1] iota_S256x128_d1_w32) m l acc l0 a0 (k0_pay38 k) q v (ix2 r d)
      = Scalar.select (IntOp.cmpi .slt (BitVec.ofNat 32 d.val) 64#32) (Ideal.div (a0 (ix2 r d)) (l0 (ix2 r 0)))
          (Ideal.div (k0_pay26 m acc (k0_pay32 a b k q) v (ix2 r d)) (k0_pay25 m l (k0_pay32 a b k q) (ix2 r 0))) := by
  have h : k0_pay39 a b (iota .tc S256x128 32 [1] iota_S256x128_d1_w32) m l acc l0 a0 (k0_pay38 k) q v
      = truncf .bf16 (select (cmpi .slt (iota .tc S256x128 32 [1] iota_S256x128_d1_w32) (broadcast S256x128 64#32))
          (divf a0 (broadcastTo S256x128 l0 broadcasts_S256x1_S256x128))
          (divf (k0_pay26 m acc (k0_pay32 a b k q) v) (broadcastTo S256x128 (k0_pay25 m l (k0_pay32 a b k q)) broadcasts_S256x1_S256x128)))
          bitsLt_bf16_f32 := rfl
  rw [h]
  generalize k0_pay26 m acc (k0_pay32 a b k q) v = A
  generalize k0_pay25 m l (k0_pay32 a b k q) = L
  pointwise

end Cert.KernelIdeal.Attn

end
-- ==== Proof.Attn.Body.lean ====
/- The attention body on one query block: the loop's invariant, the masked last block, and what the body stores. -/
module

public import proofs.«01_k».proof.Proof.Attn.Off
public import proofs.«01_k».proof.Proof.Attn.Pay

@[expose] public section

set_option maxRecDepth 16384

noncomputable section

namespace Cert.KernelIdeal.Attn

open Cert.KernelIdeal Cert.KernelIdeal.Gen Idealize.ShloMosaic Idealize.ShloMosaic.TcCoe Cert.Softmax

/-- The masked scores of row `r` of query block `b`, head `h` of the pair: the logit at a key no later than the row. -/
def score (x0 : Vec Ideal S1x2x256x128 .bf16) (x1 : Vec Ideal S1x2x8192x128 .bf16) (b : ℕ) (h : Fin 2) (r : Fin 256) (x : ℕ) : EReal :=
  if x ≤ 256 * b + r.val then (if hx : x < 8192 then ∑ d : Fin 128, x0 (ix4 0 h r d) * x1 (ix4 0 h ⟨x, hx⟩ d) else ⊥) else ⊥

/-- Lane `d` of the values. -/
def value (x2 : Vec Ideal S1x8192x128 .bf16) (d : Fin 128) (x : ℕ) : EReal :=
  if hx : x < 8192 then x2 (ix3 0 ⟨x, hx⟩ d) else 0

/-- The carried values of the loop. -/
abbrev St := FVec Ideal S256x1 .f32 × FVec Ideal S256x1 .f32 × FVec Ideal S256x128 .f32 × FVec Ideal S256x1 .f32 × FVec Ideal S256x1 .f32 × FVec Ideal S256x128 .f32

/-- The carried values are the two heads' running maximum, sum and weighted sum over the first `n` keys. -/
structure Inv (x0 : Vec Ideal S1x2x256x128 .bf16) (x1 : Vec Ideal S1x2x8192x128 .bf16) (x2 : Vec Ideal S1x8192x128 .bf16) (b n : ℕ) (st : St) : Prop where
  top0 : ∀ r : Fin 256, st.1 (ix2 r 0) = top (score x0 x1 b 0 r) n
  den0 : ∀ r : Fin 256, st.2.1 (ix2 r 0) = den (score x0 x1 b 0 r) n
  num0 : ∀ (r : Fin 256) (d : Fin 128), st.2.2.1 (ix2 r d) = num (score x0 x1 b 0 r) (value x2 d) n
  top1 : ∀ r : Fin 256, st.2.2.2.1 (ix2 r 0) = top (score x0 x1 b 1 r) n
  den1 : ∀ r : Fin 256, st.2.2.2.2.1 (ix2 r 0) = den (score x0 x1 b 1 r) n
  num1 : ∀ (r : Fin 256) (d : Fin 128), st.2.2.2.2.2 (ix2 r d) = num (score x0 x1 b 1 r) (value x2 d) n

/-- The loop starts with the empty maximum and empty sums. -/
theorem inv_init (x0 : Vec Ideal S1x2x256x128 .bf16) (x1 : Vec Ideal S1x2x8192x128 .bf16) (x2 : Vec Ideal S1x8192x128 .bf16) (b : ℕ) :
    Inv x0 x1 x2 b 0 (k0_pay16, k0_pay17, k0_pay18, k0_pay19, k0_pay20, k0_pay21) where
  top0 r := by rw [top_zero]; exact (show _ = _ from rfl : (k0_pay16 : FVec Ideal S256x1 .f32) (ix2 r 0) = Named.named (F := Ideal) κ "mask" (φ := .f32) 0xF149F2CA#32).trans mask_eq
  den0 r := by rw [den_zero]; show (k0_pay17 : FVec Ideal S256x1 .f32) (ix2 r 0) = 0; pointwise [k0_pay17]
  num0 r d := by rw [num_zero]; show (k0_pay18 : FVec Ideal S256x128 .f32) (ix2 r d) = 0; pointwise [k0_pay18]
  top1 r := by rw [top_zero]; exact (show _ = _ from rfl : (k0_pay19 : FVec Ideal S256x1 .f32) (ix2 r 0) = Named.named (F := Ideal) κ "mask" (φ := .f32) 0xF149F2CA#32).trans mask_eq
  den1 r := by rw [den_zero]; show (k0_pay20 : FVec Ideal S256x1 .f32) (ix2 r 0) = 0; pointwise [k0_pay20]
  num1 r d := by rw [num_zero]; show (k0_pay21 : FVec Ideal S256x128 .f32) (ix2 r d) = 0; pointwise [k0_pay21]

section Run

variable (c : Dev nD) (i : grid0.Coords) (arg3 : Memref sig .tc .vmem S1x2x256x128 .bf16) (harg3 : arg3.IsWhole)
  (arg4 : Memref sig .tc .vmem S1x2x8192x128 .bf16) (harg4 : arg4.IsWhole) (arg5 : Memref sig .tc .vmem S1x8192x128 .bf16) (harg5 : arg5.IsWhole)
  (arg6 : Memref sig .tc .vmem S1x256x128 .bf16) (harg6 : arg6.IsWhole)
  (x0 : Vec Ideal S1x2x256x128 .bf16) (x1 : Vec Ideal S1x2x8192x128 .bf16) (x2 : Vec Ideal S1x8192x128 .bf16)

/-- A block of keys read at an offset. -/
abbrev keys {off : Fin 4 → ℕ} (inb : ∀ a, off a + S1x1x512x128.size a ≤ S1x2x8192x128.size a) : Vec Ideal S1x1x512x128 .bf16 :=
  View.readAt (Elt Ideal) arg4.view (Rect.unit (s := S1x2x8192x128) off S1x1x512x128.size inb).toLoadRect (harg4.unread x1)

/-- One head's queries read at an offset. -/
abbrev queries {off : Fin 4 → ℕ} (inb : ∀ a, off a + S1x1x256x128.size a ≤ S1x2x256x128.size a) : Vec Ideal S1x1x256x128 .bf16 :=
  View.readAt (Elt Ideal) arg3.view (Rect.unit (s := S1x2x256x128) off S1x1x256x128.size inb).toLoadRect (harg3.unread x0)

/-- A block of values read at an offset. -/
abbrev vals {off : Fin 3 → ℕ} (inb : ∀ a, off a + S1x512x128.size a ≤ S1x8192x128.size a) : Vec Ideal S1x512x128 .bf16 :=
  View.readAt (Elt Ideal) arg5.view (Rect.unit (s := S1x8192x128) off S1x512x128.size inb).toLoadRect (harg5.unread x2)

/-- What a trip leaves, from what it finds. -/
theorem trip_eq (k : Fin (k0_t1_loop i).trips) (st : St) :
    tripR_k0_t1 Variants.none c none i arg3 harg3 arg4 harg4 arg5 harg5 arg6 harg6 (harg3.unread x0) (harg4.unread x1) (harg5.unread x2) k st
      = (k0_pay22 st.1 (k0_pay2 (keys arg4 harg4 x1 (k0_off1_inb i k)) (queries arg3 harg3 x0 inb_S1x2x256x128_S1x1x256x128_0_0_0_0)),
        k0_pay25 st.1 st.2.1 (k0_pay2 (keys arg4 harg4 x1 (k0_off1_inb i k)) (queries arg3 harg3 x0 inb_S1x2x256x128_S1x1x256x128_0_0_0_0)),
        k0_pay26 st.1 st.2.2.1 (k0_pay2 (keys arg4 harg4 x1 (k0_off1_inb i k)) (queries arg3 harg3 x0 inb_S1x2x256x128_S1x1x256x128_0_0_0_0)) (vals arg5 harg5 x2 (k0_off2_inb i k)),
        k0_pay22 st.2.2.2.1 (k0_pay2 (keys arg4 harg4 x1 (k0_off3_inb i k)) (queries arg3 harg3 x0 inb_S1x2x256x128_S1x1x256x128_0_1_0_0)),
        k0_pay25 st.2.2.2.1 st.2.2.2.2.1 (k0_pay2 (keys arg4 harg4 x1 (k0_off3_inb i k)) (queries arg3 harg3 x0 inb_S1x2x256x128_S1x1x256x128_0_1_0_0)),
        k0_pay26 st.2.2.2.1 st.2.2.2.2.2 (k0_pay2 (keys arg4 harg4 x1 (k0_off3_inb i k)) (queries arg3 harg3 x0 inb_S1x2x256x128_S1x1x256x128_0_1_0_0)) (vals arg5 harg5 x2 (k0_off2_inb i k))) := by
  unfold tripR_k0_t1 trip_k0_t1
  rfl

/-- A query row read at head `h`. -/
theorem queries_at {off : Fin 4 → ℕ} (inb : ∀ a, off a + S1x1x256x128.size a ≤ S1x2x256x128.size a) (h : Fin 2) (ho : off = ![0, h.val, 0, 0])
    (r : Fin 256) (d : Fin 128) : queries arg3 harg3 x0 inb (ix4 0 0 r d) = x0 (ix4 0 h r d) :=
  load4_at arg3 harg3 x0 inb ho r d r d (by omega) rfl

/-- A block of logits at a full or masked block: the unmasked logit of row `r` and key `n + x`. -/
theorem logit_at {off off' : Fin 4 → ℕ} (inb : ∀ a, off a + S1x1x512x128.size a ≤ S1x2x8192x128.size a)
    (inb' : ∀ a, off' a + S1x1x256x128.size a ≤ S1x2x256x128.size a) (h : Fin 2) (n : ℕ) (ho : off = ![0, h.val, n, 0]) (ho' : off' = ![0, h.val, 0, 0])
    (r : Fin 256) (x : Fin 512) (hx : n + x.val < 8192) :
    (∑ d : Fin 128, queries arg3 harg3 x0 inb' (ix4 0 0 r d) * keys arg4 harg4 x1 inb (ix4 0 0 x d) : EReal)
      = ∑ d : Fin 128, x0 (ix4 0 h r d) * x1 (ix4 0 h ⟨n + x.val, hx⟩ d) := by
  refine Finset.sum_congr rfl fun d _ => ?_
  rw [queries_at arg3 harg3 x0 inb' h ho']
  exact congrArg (_ * ·) (load4_at arg4 harg4 x1 inb ho x d ⟨n + x.val, hx⟩ d rfl rfl)

/-- A block of values at key `n + x`. -/
theorem vals_at {off : Fin 3 → ℕ} (inb : ∀ a, off a + S1x512x128.size a ≤ S1x8192x128.size a) (n : ℕ) (ho : off = ![0, n, 0])
    (x : Fin 512) (d : Fin 128) (hx : n + x.val < 8192) : vals arg5 harg5 x2 inb (ix3 0 x d) = value x2 d (n + x.val) := by
  rw [value, dif_pos hx]
  exact load3_at arg5 harg5 x2 inb ho x d ⟨n + x.val, hx⟩ d rfl rfl

/-- A trip of the loop carries the invariant past its 512 keys. -/
theorem trip_inv (hS : ∀ h r x, score x0 x1 (i 2).val h r x ≠ ⊤) (k : Fin (k0_t1_loop i).trips) (st : St) (hst : Inv x0 x1 x2 (i 2).val (512 * k.val) st) :
    Inv x0 x1 x2 (i 2).val (512 * k.val + 512)
      (tripR_k0_t1 Variants.none c none i arg3 harg3 arg4 harg4 arg5 harg5 arg6 harg6 (harg3.unread x0) (harg4.unread x1) (harg5.unread x2) k st) := by
  have hk : k.val < (i 2).val / 2 := lt_of_lt_of_eq k.isLt (trips1 i)
  have hb : (i 2).val < 32 := (i 2).isLt
  have hs : ∀ (off off' : Fin 4 → ℕ) (inb : ∀ a, off a + S1x1x512x128.size a ≤ S1x2x8192x128.size a)
      (inb' : ∀ a, off' a + S1x1x256x128.size a ≤ S1x2x256x128.size a) (h : Fin 2) (ho : off = ![0, h.val, 512 * k.val, 0]) (ho' : off' = ![0, h.val, 0, 0])
      (r : Fin 256) (x : Fin 512), k0_pay2 (keys arg4 harg4 x1 inb) (queries arg3 harg3 x0 inb') (ix2 r x) = score x0 x1 (i 2).val h r (512 * k.val + x.val) := by
    intro off off' inb inb' h ho ho' r x
    have hx : 512 * k.val + x.val < 8192 := by omega
    rw [pay2_at, logit_at arg3 harg3 arg4 harg4 x0 x1 inb inb' h _ ho ho' r x hx, score, if_pos (by omega), dif_pos hx]
  have hv : ∀ (d : Fin 128) (x : Fin 512), vals arg5 harg5 x2 (k0_off2_inb i k) (ix3 0 x d) = value x2 d (512 * k.val + x.val) :=
    fun d x => vals_at arg5 harg5 x2 _ _ (off2 i k) x d (by omega)
  have s0 := hs _ _ (k0_off1_inb i k) inb_S1x2x256x128_S1x1x256x128_0_0_0_0 0 (off1 i k) rfl
  have s1 := hs _ _ (k0_off3_inb i k) inb_S1x2x256x128_S1x1x256x128_0_1_0_0 1 (off3 i k) rfl
  rw [trip_eq]
  exact ⟨fun r => block_top (hst.top0 r) (s0 r), fun r => block_den (hS 0 r) (hst.top0 r) (hst.den0 r) (s0 r),
    fun r d => block_num (hS 0 r) (hst.top0 r) (hst.num0 r d) (s0 r) (hv d),
    fun r => block_top (hst.top1 r) (s1 r), fun r => block_den (hS 1 r) (hst.top1 r) (hst.den1 r) (s1 r),
    fun r d => block_num (hS 1 r) (hst.top1 r) (hst.num1 r d) (s1 r) (hv d)⟩

/-- What the first loop carries before trip `n`. -/
abbrev st1 (n : ℕ) : St :=
  st_k0_t1 Variants.none c none i arg3 harg3 arg4 harg4 arg5 harg5 arg6 harg6 (harg3.unread x0) (harg4.unread x1) (harg5.unread x2)
    (k0_pay16, k0_pay17, k0_pay18, k0_pay19, k0_pay20, k0_pay21) n

/-- The loop's invariant. -/
theorem loop_inv (hS : ∀ h r x, score x0 x1 (i 2).val h r x ≠ ⊤) : ∀ n : ℕ, n ≤ (k0_t1_loop i).trips →
    Inv x0 x1 x2 (i 2).val (512 * n) (st1 c i arg3 harg3 arg4 harg4 arg5 harg5 arg6 harg6 x0 x1 x2 n)
  | 0, _ => by
    rw [st1, st_k0_t1_zero]
    exact inv_init x0 x1 x2 _
  | n + 1, h => by
    rw [st1, st_k0_t1_succ (k := ⟨n, h⟩)]
    exact trip_inv c i arg3 harg3 arg4 harg4 arg5 harg5 arg6 harg6 x0 x1 x2 hS ⟨n, h⟩ _ (loop_inv hS n (Nat.le_of_succ_le h))

end Run

end Cert.KernelIdeal.Attn

end
-- ==== Proof.Attn.Out.lean ====
/- What the attention body stores at one query block: at row `r` and lane `d`, the values of the lane's head averaged under
   the softmax of the row's masked scores. -/
module

public import proofs.«01_k».proof.Proof.Attn.Body
public import proofs.«01_k».proof.Proof.Gen.KernelIdeal.Value
public import Idealize.ShloMosaic.Lib.VecWindow
public import Idealize.ShloMosaic.Lib.WordCmp

@[expose] public section

set_option maxRecDepth 16384

noncomputable section

namespace Cert.KernelIdeal.Attn

open Cert.KernelIdeal Cert.KernelIdeal.Gen Idealize.ShloMosaic Idealize.ShloMosaic.TcCoe Cert.Softmax

theorem muli_add (n p r : ℕ) (hp : p < 2 ^ 32) :
    IntOp.addi (Scalar.muli (BitVec.ofNat 32 n) (BitVec.ofNat 32 p)) (BitVec.ofNat 32 r) = BitVec.ofNat 32 (p * n + r) := by
  show BitVec.ofNat 32 n * BitVec.ofNat 32 p + BitVec.ofNat 32 r = _
  rw [← BitVec.ofNat_mul, ← BitVec.ofNat_add, Nat.mul_comm n p]

/-- A word select by `≥` of two small numbers. -/
theorem select_sge {α : Type} (n k : ℕ) (hn : n < 2 ^ 31) (hk : k < 2 ^ 31) (x y : α) :
    Scalar.select (IntOp.cmpi .sge (BitVec.ofNat 32 n) (BitVec.ofNat 32 k)) x y = if k ≤ n then x else y := by
  rw [WordCmp.cmpi_sge_ofNat hn hk]
  by_cases h : k ≤ n <;> simp [Scalar.select, h]

/-- A word select by `<` of two small numbers. -/
theorem select_slt {α : Type} (n k : ℕ) (hn : n < 2 ^ 31) (hk : k < 2 ^ 31) (x y : α) :
    Scalar.select (IntOp.cmpi .slt (BitVec.ofNat 32 n) (BitVec.ofNat 32 k)) x y = if n < k then x else y := by
  rw [WordCmp.cmpi_slt_ofNat hn hk]
  by_cases h : n < k <;> simp [Scalar.select, h]

section Run

variable (c : Dev nD) (i : grid0.Coords) (arg3 : Memref sig .tc .vmem S1x2x256x128 .bf16) (harg3 : arg3.IsWhole)
  (arg4 : Memref sig .tc .vmem S1x2x8192x128 .bf16) (harg4 : arg4.IsWhole) (arg5 : Memref sig .tc .vmem S1x8192x128 .bf16) (harg5 : arg5.IsWhole)
  (arg6 : Memref sig .tc .vmem S1x256x128 .bf16) (harg6 : arg6.IsWhole)
  (x0 : Vec Ideal S1x2x256x128 .bf16) (x1 : Vec Ideal S1x2x8192x128 .bf16) (x2 : Vec Ideal S1x8192x128 .bf16)

/-- Head 0's masked logits of the last block. -/
abbrev last0 : FVec Ideal S256x512 .f32 :=
  k0_pay32 (BitVec.ofNat 32 (i 2).val) (kernelRun0_A.sl.v17 i) (keys arg4 harg4 x1 (k0_off7_inb i)) (queries arg3 harg3 x0 inb_S1x2x256x128_S1x1x256x128_0_0_0_0)

/-- Head 1's masked logits of the last block. -/
abbrev last1 : FVec Ideal S256x512 .f32 :=
  k0_pay32 (BitVec.ofNat 32 (i 2).val) (kernelRun0_A.sl.v17 i) (keys arg4 harg4 x1 (k0_off9_inb i)) (queries arg3 harg3 x0 inb_S1x2x256x128_S1x1x256x128_0_1_0_0)

/-- What the body stores, from what the loops carried out. -/
def stored (st : St) : FVec Ideal S256x128 .bf16 :=
  k0_pay39 (BitVec.ofNat 32 (i 2).val) (kernelRun0_A.sl.v17 i) (iota .tc S256x128 32 [1] iota_S256x128_d1_w32) st.2.2.2.1 st.2.2.2.2.1 st.2.2.2.2.2
    (k0_pay25 st.1 st.2.1 (last0 i arg3 harg3 arg4 harg4 x0 x1))
    (k0_pay26 st.1 st.2.2.1 (last0 i arg3 harg3 arg4 harg4 x0 x1) (vals arg5 harg5 x2 (k0_off8_inb i)))
    (k0_pay38 (keys arg4 harg4 x1 (k0_off9_inb i))) (queries arg3 harg3 x0 inb_S1x2x256x128_S1x1x256x128_0_1_0_0) (vals arg5 harg5 x2 (k0_off8_inb i))

/-- The second loop makes no trip, so the stored block is made from what the first carried. -/
theorem r10_eq : kernelRun0_A.sl.r_10 c i arg3 harg3 arg4 harg4 arg5 harg5 arg6 harg6 x0 x1 x2
    = stored i arg3 harg3 arg4 harg4 arg5 harg5 x0 x1 x2 (st1 c i arg3 harg3 arg4 harg4 arg5 harg5 arg6 harg6 x0 x1 x2 (k0_t1_loop i).trips) := by
  have h : kernelRun0_A.sl.r_10 c i arg3 harg3 arg4 harg4 arg5 harg5 arg6 harg6 x0 x1 x2
      = stored i arg3 harg3 arg4 harg4 arg5 harg5 x0 x1 x2
        (st_k0_t2 Variants.none c none i arg3 harg3 arg4 harg4 arg5 harg5 arg6 harg6 (kernelRun0_A.sl.v29 i) (harg3.unread x0) (harg4.unread x1) (harg5.unread x2)
          (st1 c i arg3 harg3 arg4 harg4 arg5 harg5 arg6 harg6 x0 x1 x2 (k0_t1_loop i).trips) (k0_t2_loop i).trips) := by
    unfold kernelRun0_A.sl.r_10 kernelRun0_A.sl.r_9 kernelRun0_A.sl.r_8 kernelRun0_A.sl.r_7 kernelRun0_A.sl.r_6 kernelRun0_A.sl.r_5
      kernelRun0_A.sl.r_4 kernelRun0_A.sl.r_3 kernelRun0_A.sl.r_2 kernelRun0_A.sl.r_1 kernelRun0_A.sl.r
    rfl
  rw [h, trips2, st_k0_t2_zero]

/-- The block the run leaves. -/
theorem out_eq : out0_A_3 c i arg3 harg3 arg4 harg4 arg5 harg5 arg6 harg6 x0 x1 x2
    = k0_pay1 (stored i arg3 harg3 arg4 harg4 arg5 harg5 x0 x1 x2 (st1 c i arg3 harg3 arg4 harg4 arg5 harg5 arg6 harg6 x0 x1 x2 (k0_t1_loop i).trips)) := by
  have h : (kernelRun0_A (F := Ideal) c i arg3 harg3 arg4 harg4 arg5 harg5 arg6 harg6 x0 x1 x2).1
      = [⟨Rect.unit (s := S1x256x128) ![0, 0, 0] S1x256x128.size inb_S1x256x128_S1x256x128_0_0_0,
          k0_pay1 (kernelRun0_A.sl.r_10 c i arg3 harg3 arg4 harg4 arg5 harg5 arg6 harg6 x0 x1 x2)⟩] := by
    unfold kernelRun0_A
    rfl
  unfold out0_A_3
  rw [h, View.read_writes_full, r10_eq]

/-- The block the run leaves, at row `r` and lane `d`. -/
theorem out_at (hS : ∀ h r x, score x0 x1 (i 2).val h r x ≠ ⊤) (h0 : ∀ h r, score x0 x1 (i 2).val h r 0 ≠ ⊥) (r : Fin 256) (d : Fin 128)
    (h : Fin 2) (hh : h.val = d.val / 64) :
    out0_A_3 c i arg3 harg3 arg4 harg4 arg5 harg5 arg6 harg6 x0 x1 x2 (ix3 0 r d)
      = ∑ x ∈ Finset.range 8192, Ideal.div (Ideal.exp (score x0 x1 (i 2).val h r x - top (score x0 x1 (i 2).val h r) 8192)) (den (score x0 x1 (i 2).val h r) 8192)
          * value x2 d x := by
  have hb : (i 2).val < 32 := (i 2).isLt
  have hst := loop_inv c i arg3 harg3 arg4 harg4 arg5 harg5 arg6 harg6 x0 x1 x2 hS (k0_t1_loop i).trips le_rfl
  rw [out_eq]
  generalize hg : st1 c i arg3 harg3 arg4 harg4 arg5 harg5 arg6 harg6 x0 x1 x2 (k0_t1_loop i).trips = st at hst
  rw [trips1] at hst
  have hp : k0_pay1 (stored i arg3 harg3 arg4 harg4 arg5 harg5 x0 x1 x2 st) (ix3 0 r d) = stored i arg3 harg3 arg4 harg4 arg5 harg5 x0 x1 x2 st (ix2 r d) := by
    generalize stored i arg3 harg3 arg4 harg4 arg5 harg5 x0 x1 x2 st = A
    pointwise [k0_pay1]
  have hs : ∀ (off off' : Fin 4 → ℕ) (inb : ∀ a, off a + S1x1x512x128.size a ≤ S1x2x8192x128.size a)
      (inb' : ∀ a, off' a + S1x1x256x128.size a ≤ S1x2x256x128.size a) (h : Fin 2) (ho : off = ![0, h.val, 512 * ((i 2).val / 2), 0]) (ho' : off' = ![0, h.val, 0, 0])
      (r : Fin 256) (x : Fin 512), k0_pay32 (BitVec.ofNat 32 (i 2).val) (kernelRun0_A.sl.v17 i) (keys arg4 harg4 x1 inb) (queries arg3 harg3 x0 inb') (ix2 r x)
        = score x0 x1 (i 2).val h r (512 * ((i 2).val / 2) + x.val) := by
    intro off off' inb inb' h ho ho' r x
    have hx : 512 * ((i 2).val / 2) + x.val < 8192 := by omega
    rw [pay32_at, logit_at arg3 harg3 arg4 harg4 x0 x1 inb inb' h _ ho ho' r x hx, lastBlock,
      show (256#32 : BitVec 32) = BitVec.ofNat 32 256 from rfl, show (512#32 : BitVec 32) = BitVec.ofNat 32 512 from rfl,
      muli_add _ _ _ (by norm_num), muli_add _ _ _ (by norm_num), select_sge _ _ (by omega) (by omega), score, dif_pos hx]
  have hv : ∀ (d : Fin 128) (x : Fin 512), vals arg5 harg5 x2 (k0_off8_inb i) (ix3 0 x d) = value x2 d (512 * ((i 2).val / 2) + x.val) :=
    fun d x => vals_at arg5 harg5 x2 _ _ (off8 i) x d (by omega)
  have s0 := hs _ _ (k0_off7_inb i) inb_S1x2x256x128_S1x1x256x128_0_0_0_0 0 (off7 i) rfl
  have s1 := hs _ _ (k0_off9_inb i) inb_S1x2x256x128_S1x1x256x128_0_1_0_0 1 (off9 i) rfl
  have htail : ∀ h x, 512 * ((i 2).val / 2) + 512 ≤ x → score x0 x1 (i 2).val h r x = ⊥ := fun h x hx => by
    rw [score, if_neg (by omega)]
  rw [← div_num (value x2 d) (hS h r) (by norm_num) (h0 h r),
    num_tail (value x2 d) (n := 512 * ((i 2).val / 2) + 512) (by omega) (htail h), den_tail (n := 512 * ((i 2).val / 2) + 512) (by omega) (htail h)]
  rw [hp, stored, pay39_at, show (64#32 : BitVec 32) = BitVec.ofNat 32 64 from rfl, select_slt _ _ (by omega) (by norm_num),
    block_num (hS 0 r) (hst.top0 r) (hst.num0 r d) (s0 r) (hv d), block_den (hS 0 r) (hst.top0 r) (hst.den0 r) (s0 r),
    block_num (hS 1 r) (hst.top1 r) (hst.num1 r d) (s1 r) (hv d), block_den (hS 1 r) (hst.top1 r) (hst.den1 r) (s1 r)]
  by_cases hd : d.val < 64
  · rw [if_pos hd, show h = 0 from Fin.ext (by rw [hh]; exact Nat.div_eq_of_lt hd)]
  · rw [if_neg hd, show h = 1 from Fin.ext (by rw [hh]; show d.val / 64 = 1; omega)]

end Run

end Cert.KernelIdeal.Attn

end
-- ==== Proof.Attn.RefRead.lean ====
/- The attention's reference term, read one stage at a time at an index: the masked logits, the row maximum, the
   exponentials, the row sum, the weights and the weighted sum of the values. -/
module

public import proofs.«01_k».proof.Proof.Gen.ReferenceIdeal.Run
public import Idealize.ShloMosaic.Lib.Pointwise
public import proofs.«01_k».proof.Proof.Attn.Softmax

@[expose] public section

set_option maxRecDepth 16384

noncomputable section

namespace Cert.ReferenceIdeal.Attn

open Cert.ReferenceIdeal Cert.ReferenceIdeal.Gen Idealize.ShloMosaic Idealize.ShloMosaic.TcCoe

/-- The masked logits of queries `q` and keys `k`, as the reference composes them. -/
def logits (q k : FVec Ideal S2x16x8192x128 .bf16) : FVec Ideal S2x16x8192x8192 .f32 :=
  select (broadcastInDim S2x16x8192x8192 ![0, 1, 2, 3] bcast_S1x1x8192x8192_S2x16x8192x8192_0_1_2_3 (broadcastInDim S1x1x8192x8192 ![2, 3] bcast_S8192x8192_S1x1x8192x8192_2_3 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))) (Host.dotGeneral dot_S2x16x8192x128_S2x16x8192x128_S2x16x8192x8192_3_3_2_2_01_01 none (extf .f32 q bitsLt_bf16_f32) (extf .f32 k bitsLt_bf16_f32)) (broadcastInDim S2x16x8192x8192 ![] bcast_S_S2x16x8192x8192 (id (constant S_ .f32 0xFF800000#32)))

/-- The row maxima of `s`. -/
def rowMax (s : FVec Ideal S2x16x8192x8192 .f32) : FVec Ideal S2x16x8192 .f32 :=
  maximumf (broadcastInDim S2x16x8192 ![] bcast_S_S2x16x8192 (constant S_ .f32 0xFF800000#32)) (Host.reduce FloatOps.maximumf s (constant S_ .f32 0xFF800000#32) reducesTo_S2x16x8192x8192_S2x16x8192_d3 h_S_)

/-- A value of each row, at every key of the row. -/
def spread (x : FVec Ideal S2x16x8192 .f32) : FVec Ideal S2x16x8192x8192 .f32 :=
  broadcastInDim S2x16x8192x8192 ![0, 1, 2, 3] bcast_S2x16x8192x1_S2x16x8192x8192_0_1_2_3 (broadcastInDim S2x16x8192x1 ![0, 1, 2] bcast_S2x16x8192_S2x16x8192x1_0_1_2 x)

/-- The exponentials of `s` less its row maximum. -/
def expo (s : FVec Ideal S2x16x8192x8192 .f32) : FVec Ideal S2x16x8192x8192 .f32 :=
  Host.exp (subf s (spread (rowMax s)))

/-- The row sums of `e`. -/
def rowSum (e : FVec Ideal S2x16x8192x8192 .f32) : FVec Ideal S2x16x8192 .f32 :=
  Host.reduceAdd e (constant S_ .f32 0x00000000#32) reducesTo_S2x16x8192x8192_S2x16x8192_d3 h_S_

/-- The softmax weights from the exponentials. -/
def weights (e : FVec Ideal S2x16x8192x8192 .f32) : FVec Ideal S2x16x8192x8192 .f32 :=
  Host.divf e (spread (rowSum e))

/-- The values, head by head. -/
def heads (v : FVec Ideal S2x8192x1024 .bf16) : FVec Ideal S2x16x8192x64 .f32 :=
  transpose S2x16x8192x64 [0, 2, 1, 3] (shapeCast S2x8192x16x64 (extf (F := Ideal) .f32 v bitsLt_bf16_f32) shapeCasts_S2x8192x1024_S2x8192x16x64) transposes_S2x8192x16x64_S2x16x8192x64_0_2_1_3

/-- The weighted sums of the values, head by head. -/
def mixed (w : FVec Ideal S2x16x8192x8192 .f32) (vh : FVec Ideal S2x16x8192x64 .f32) : FVec Ideal S2x16x8192x64 .f32 :=
  Host.dotGeneral dot_S2x16x8192x8192_S2x16x8192x64_S2x16x8192x64_3_2_2_3_01_01 none w vh

/-- The heads put back side by side. -/
def joined (o : FVec Ideal S2x16x8192x64 .f32) : FVec Ideal S2x8192x1024 .bf16 :=
  truncf .bf16 (shapeCast S2x8192x1024 (transpose S2x8192x16x64 [0, 2, 1, 3] o transposes_S2x16x8192x64_S2x8192x16x64_0_2_1_3) shapeCasts_S2x8192x16x64_S2x8192x1024) bitsLt_bf16_f32

/-- The reference's result is the composition of its stages. -/
theorem res_eq (m : (ℓ : Loc nD τ sig) → Buf (Elt Ideal) ℓ) (c : Dev nD) :
    Value.res_out0 (F := Ideal) m c
      = joined (mixed (weights (expo (logits (m ((c.tc : Thread nD τ).loc main_arg0)) (m ((c.tc : Thread nD τ).loc main_arg1)))))
          (heads (m ((c.tc : Thread nD τ).loc main_arg2)))) := by
  unfold Value.res_out0 Value.res_main_v28 joined mixed weights expo rowSum spread rowMax logits heads
  rfl

/-- A maximum over the last axis of a rank-4 array from a scalar: the scalar against the supremum of the row. -/
theorem hostMax_at {n0 n1 n2 n3 : ℕ} (x : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (hu : 0 < (⟨0, ![]⟩ : Shape).numel)
    (i : Fin n0) (j : Fin n1) (k : Fin n2) :
    Host.reduce FloatOps.maximumf x c h hu (ix3 i j k)
      = max (c (Shape.Idx.first hu) : EReal) (Finset.univ.sup fun l : Fin n3 => (x (ix4 i j k l) : EReal)) := by
  rw [Host.reduce_eq_fold, h.fold_fiber_r4_a3]
  exact Cert.Softmax.fold_max_eq_sup _ _ _

/-- The word the row maximum starts from is `⊥`. -/
theorem neg_inf : Ideal.ofBits .f32 0xFF800000#32 = (⊥ : EReal) := by
  simp [Ideal.ofBits, Ideal.ieee]

/-- The row maximum at a row. -/
theorem rowMax_at (s : FVec Ideal S2x16x8192x8192 .f32) (b : Fin 2) (h : Fin 16) (r : Fin 8192) :
    rowMax s (ix3 b h r) = Finset.univ.sup fun x : Fin 8192 => (s (ix4 b h r x) : EReal) := by
  have e := hostMax_at s (constant S_ .f32 0xFF800000#32) reducesTo_S2x16x8192x8192_S2x16x8192_d3 h_S_ b h r
  have f : rowMax s (ix3 b h r) = max (Ideal.ofBits .f32 0xFF800000#32)
      (max (Ideal.ofBits .f32 0xFF800000#32) (Finset.univ.sup fun x : Fin 8192 => (s (ix4 b h r x) : EReal))) := by
    unfold rowMax
    rw [maximumf_apply, e]
    rfl
  rw [f, neg_inf]
  rw [max_eq_right bot_le, max_eq_right bot_le]

theorem logits_at (q k : FVec Ideal S2x16x8192x128 .bf16) (b : Fin 2) (h : Fin 16) (r x : Fin 8192) :
    logits q k (ix4 b h r x) = Scalar.select (IntOp.cmpi .sge (BitVec.ofNat 32 r.val) (BitVec.ofNat 32 x.val))
      (∑ d : Fin 128, q (ix4 b h r d) * k (ix4 b h x d)) (Ideal.ofBits .f32 0xFF800000#32) := by
  pointwise [logits]; rfl

theorem expo_at (s : FVec Ideal S2x16x8192x8192 .f32) (b : Fin 2) (h : Fin 16) (r x : Fin 8192) :
    expo s (ix4 b h r x) = Ideal.exp (s (ix4 b h r x) - rowMax s (ix3 b h r)) := by
  pointwise [expo, spread]

theorem rowSum_at (s : FVec Ideal S2x16x8192x8192 .f32) (b : Fin 2) (h : Fin 16) (r : Fin 8192) :
    rowSum s (ix3 b h r) = ∑ x : Fin 8192, s (ix4 b h r x) := by
  pointwise [rowSum]

theorem weights_at (s : FVec Ideal S2x16x8192x8192 .f32) (b : Fin 2) (h : Fin 16) (r x : Fin 8192) :
    weights s (ix4 b h r x) = Ideal.div (s (ix4 b h r x)) (rowSum s (ix3 b h r)) := by
  pointwise [weights, spread]

theorem heads_at (v : FVec Ideal S2x8192x1024 .bf16) (b : Fin 2) (h : Fin 16) (r : Fin 8192) (d : Fin 64) (e : Fin 1024)
    (he : e.val = h.val * 64 + d.val) : heads v (ix4 b h r d) = v (ix3 b r e) := by
  have e' : e = ⟨h.val * 64 + d.val, by omega⟩ := Fin.ext he
  rw [e']
  pointwise [heads]

theorem mixed_at (w : FVec Ideal S2x16x8192x8192 .f32) (v : FVec Ideal S2x16x8192x64 .f32) (b : Fin 2) (h : Fin 16) (r : Fin 8192) (d : Fin 64) :
    mixed w v (ix4 b h r d) = ∑ x : Fin 8192, w (ix4 b h r x) * v (ix4 b h x d) := by
  pointwise [mixed]

theorem joined_at (o : FVec Ideal S2x16x8192x64 .f32) (b : Fin 2) (h : Fin 16) (r : Fin 8192) (d : Fin 64) (e : Fin 1024)
    (he : e.val = h.val * 64 + d.val) : joined o (ix3 b r e) = o (ix4 b h r d) := by
  have hj : joined o (ix3 b r e) = o (ix4 b ⟨e.val / 64, by omega⟩ r ⟨e.val % 64, by omega⟩) := by
    pointwise [joined]
  rw [hj]
  exact congrArg₂ (fun x y => o (ix4 b x r y)) (Fin.ext (by simp only; omega)) (Fin.ext (by simp only; omega))

/-- The reference's result at row `r`, lane `e` of head `h`: the values averaged under the softmax of the row's logits. -/
theorem res_at (q k : FVec Ideal S2x16x8192x128 .bf16) (v : FVec Ideal S2x8192x1024 .bf16) (b : Fin 2) (h : Fin 16) (r : Fin 8192)
    (d : Fin 64) (e : Fin 1024) (he : e.val = h.val * 64 + d.val) {S : ℕ → EReal} {V : ℕ → EReal}
    (hS : ∀ x : Fin 8192, logits q k (ix4 b h r x) = S x.val) (hV : ∀ x : Fin 8192, v (ix3 b x e) = V x.val) :
    joined (mixed (weights (expo (logits q k))) (heads v)) (ix3 b r e)
      = ∑ x ∈ Finset.range 8192, Ideal.div (Ideal.exp (S x - Cert.Softmax.top S 8192)) (Cert.Softmax.den S 8192) * V x := by
  have ht : rowMax (logits q k) (ix3 b h r) = Cert.Softmax.top S 8192 := by
    have := Cert.Softmax.top_add S 0 8192
    rw [Cert.Softmax.top_zero, max_eq_right bot_le] at this
    simp only [Nat.zero_add] at this
    rw [rowMax_at, this]
    exact Finset.sup_congr rfl fun x _ => hS x
  have hx : ∀ x : Fin 8192, expo (logits q k) (ix4 b h r x) = Ideal.exp (S x.val - Cert.Softmax.top S 8192) := fun x => by
    rw [expo_at, ht, hS]
  have hd : rowSum (expo (logits q k)) (ix3 b h r) = Cert.Softmax.den S 8192 := by
    rw [rowSum_at, Cert.Softmax.den, Finset.sum_range (fun x => Ideal.exp (S x - Cert.Softmax.top S 8192))]
    exact Finset.sum_congr rfl fun x _ => hx x
  rw [joined_at _ b h r d e he, mixed_at, Finset.sum_range (fun x => Ideal.div (Ideal.exp (S x - Cert.Softmax.top S 8192)) (Cert.Softmax.den S 8192) * V x)]
  refine Finset.sum_congr rfl fun x _ => ?_
  rw [weights_at, hx, hd, heads_at v b h x d e he, hV]

end Cert.ReferenceIdeal.Attn

end
-- ==== Proof.Attn.Final.lean ====
/- The kernel's result array is the reference's: every query block's stored rows against the reference's softmax average. -/
module

public import proofs.«01_k».proof.Proof.Attn.Out
public import proofs.«01_k».proof.Proof.Attn.RefRead

@[expose] public section

set_option maxRecDepth 16384

noncomputable section

namespace Cert.KernelIdeal.Attn

open Cert.KernelIdeal Cert.KernelIdeal.Gen Idealize.ShloMosaic Idealize.ShloMosaic.TcCoe Cert.Softmax
open Idealize.ShloMosaic.Pipeline (Dat)

variable (m : (ℓ : Loc nD τ sig) → Buf (Elt Ideal) ℓ)

/-- The reference's result over queries, keys and values. -/
abbrev REF (q k : FVec Ideal Cert.ReferenceIdeal.S2x16x8192x128 .bf16) (v : FVec Ideal Cert.ReferenceIdeal.S2x8192x1024 .bf16) :
    FVec Ideal Cert.ReferenceIdeal.S2x8192x1024 .bf16 :=
  Cert.ReferenceIdeal.Attn.joined (Cert.ReferenceIdeal.Attn.mixed
    (Cert.ReferenceIdeal.Attn.weights (Cert.ReferenceIdeal.Attn.expo (Cert.ReferenceIdeal.Attn.logits q k))) (Cert.ReferenceIdeal.Attn.heads v))

/-- Every entry is a real number. -/
abbrev AllReal (q : FVec Ideal S2x16x8192x128 .bf16) : Prop := ∀ j, (q j : EReal) ≠ ⊤ ∧ (q j : EReal) ≠ ⊥

/-- The masked scores of row `r` of head `h` of batch `b`. -/
def scores (q k : FVec Ideal S2x16x8192x128 .bf16) (b : Fin 2) (h : Fin 16) (r : Fin 8192) (x : ℕ) : EReal :=
  if x ≤ r.val then (if hx : x < 8192 then ∑ d : Fin 128, q (ix4 b h r d) * k (ix4 b h ⟨x, hx⟩ d) else ⊥) else ⊥

/-- Lane `e` of the values of batch `b`. -/
def lane (v : FVec Ideal S2x8192x1024 .bf16) (b : Fin 2) (e : Fin 1024) (x : ℕ) : EReal := if hx : x < 8192 then v (ix3 b ⟨x, hx⟩ e) else 0

/-- A lane at a key. -/
theorem lane_at (v : FVec Ideal S2x8192x1024 .bf16) (b : Fin 2) (e : Fin 1024) (x : Fin 8192) : v (ix3 b x e) = lane v b e x.val := by
  unfold lane
  rw [dif_pos x.isLt]

/-- The windows' block indices. -/
theorem idx : ∀ t : Fin cfg0.N, win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)

section Reads

variable (c : Dev nD) (t : Fin cfg0.N) (b : Fin 2) (hb : b.val = (grid0.coords t 0).val)

/-- The query block's entries. -/
theorem q_at (h : Fin 2) (r : Fin 256) (d : Fin 128) (H : Fin 16) (hH : H.val = 2 * (grid0.coords t 1).val + h.val)
    (R : Fin 8192) (hR : R.val = 256 * (grid0.coords t 2).val + r.val) (hb : b.val = (grid0.coords t 0).val) :
    iblk m c 0 t (ix4 0 h r d) = m ((c : Thread nD τ).loc main_arg0) (ix4 b H R d) := by
  blk_ext [iblk, V, idx t]

/-- The key block's entries. -/
theorem k_at (h : Fin 2) (x : Fin 8192) (d : Fin 128) (H : Fin 16) (hH : H.val = 2 * (grid0.coords t 1).val + h.val) (hb : b.val = (grid0.coords t 0).val) :
    iblk m c 1 t (ix4 0 h x d) = m ((c : Thread nD τ).loc main_arg1) (ix4 b H x d) := by
  blk_ext [iblk, V, idx t]

/-- The value block's entries. -/
theorem v_at (x : Fin 8192) (d : Fin 128) (e : Fin 1024) (he : e.val = 128 * (grid0.coords t 1).val + d.val) (hb : b.val = (grid0.coords t 0).val) :
    iblk m c 2 t (ix3 0 x d) = m ((c : Thread nD τ).loc main_arg2) (ix3 b x e) := by
  blk_ext [iblk, V, idx t]

end Reads

/-- The reference's masked scores of a row. -/
theorem logits_eq (q k : FVec Ideal S2x16x8192x128 .bf16) (b : Fin 2) (h : Fin 16) (r x : Fin 8192) :
    Cert.ReferenceIdeal.Attn.logits q k (ix4 b h r x) = scores q k b h r x.val := by
  refine (Cert.ReferenceIdeal.Attn.logits_at q k b h r x).trans ?_
  rw [select_sge _ _ (by omega) (by omega), neg_inf]
  unfold scores
  rw [dif_pos x.isLt]

/-- A sum of products of real numbers is real. -/
theorem sum_real {n : ℕ} (f g : Fin n → EReal) (hf : ∀ j, f j ≠ ⊤ ∧ f j ≠ ⊥) (hg : ∀ j, g j ≠ ⊤ ∧ g j ≠ ⊥) :
    ∑ j, f j * g j ≠ ⊤ ∧ ∑ j, f j * g j ≠ ⊥ := by
  have e : ∑ j, f j * g j = ((∑ j, (f j).toReal * (g j).toReal : ℝ) : EReal) := by
    refine Eq.trans ?_ (map_sum (⟨⟨Real.toEReal, EReal.coe_zero⟩, EReal.coe_add⟩ : ℝ →+ EReal) _ _).symm
    refine Finset.sum_congr rfl fun j _ => ?_
    refine Eq.trans ?_ (EReal.coe_mul _ _).symm
    rw [EReal.coe_toReal (hf j).1 (hf j).2, EReal.coe_toReal (hg j).1 (hg j).2]
  rw [e]
  exact ⟨EReal.coe_ne_top _, EReal.coe_ne_bot _⟩

/-- Real queries and keys give no score `⊤`. -/
theorem scores_ne_top (q k : FVec Ideal S2x16x8192x128 .bf16) (hq : ∀ j, (q j : EReal) ≠ ⊤ ∧ (q j : EReal) ≠ ⊥)
    (hk : ∀ j, (k j : EReal) ≠ ⊤ ∧ (k j : EReal) ≠ ⊥) (b : Fin 2) (h : Fin 16) (r : Fin 8192) (x : ℕ) : scores q k b h r x ≠ ⊤ := by
  unfold scores
  split_ifs
  · exact (sum_real _ _ (fun d => hq _) (fun d => hk _)).1
  · exact bot_ne_top
  · exact bot_ne_top

/-- The first score of a row is real. -/
theorem scores_zero (q k : FVec Ideal S2x16x8192x128 .bf16) (hq : ∀ j, (q j : EReal) ≠ ⊤ ∧ (q j : EReal) ≠ ⊥)
    (hk : ∀ j, (k j : EReal) ≠ ⊤ ∧ (k j : EReal) ≠ ⊥) (b : Fin 2) (h : Fin 16) (r : Fin 8192) : scores q k b h r 0 ≠ ⊥ := by
  unfold scores
  rw [if_pos (Nat.zero_le _), dif_pos (by decide)]
  exact (sum_real _ _ (fun d => hq _) (fun d => hk _)).2

/-- A block's scores are the array's scores of its rows. -/
theorem score_eq (c : Dev nD) (t : Fin cfg0.N) (b : Fin 2) (hb : b.val = (grid0.coords t 0).val) (h : Fin 2) (r : Fin 256)
    (H : Fin 16) (hH : H.val = 2 * (grid0.coords t 1).val + h.val) (R : Fin 8192) (hR : R.val = 256 * (grid0.coords t 2).val + r.val) :
    score (iblk m c 0 t) (iblk m c 1 t) (grid0.coords t 2).val h r
      = scores (m ((c : Thread nD τ).loc main_arg0)) (m ((c : Thread nD τ).loc main_arg1)) b H R := by
  funext x
  unfold score scores
  rw [hR]
  split_ifs with h1 h2
  · refine Finset.sum_congr rfl fun d _ => ?_
    rw [q_at m c t b h r d H hH R hR hb, k_at m c t b h ⟨x, h2⟩ d H hH hb]
  · rfl
  · rfl

/-- The stored block, element by element. -/
theorem block_at (c : Dev nD) (t : Fin cfg0.N)
    (hq : AllReal (m ((c : Thread nD τ).loc main_arg0)))
    (hk : AllReal (m ((c : Thread nD τ).loc main_arg1)))
    (b : Fin 2) (hb : b.val = (grid0.coords t 0).val) (r : Fin 256) (R : Fin 8192) (hR : R.val = 256 * (grid0.coords t 2).val + r.val)
    (d : Fin 128) (e : Fin 1024) (he : e.val = 128 * (grid0.coords t 1).val + d.val) :
    outsAt0 m c t (ix3 0 r d)
      = REF (m ((c : Thread nD τ).loc main_arg0)) (m ((c : Thread nD τ).loc main_arg1)) (m ((c : Thread nD τ).loc main_arg2)) (ix3 b R e) := by
  have hi : (grid0.coords t 1).val < 8 := (grid0.coords t 1).isLt
  obtain ⟨h, hh⟩ : ∃ h : Fin 2, h.val = d.val / 64 := ⟨⟨d.val / 64, by omega⟩, rfl⟩
  obtain ⟨H, hH⟩ : ∃ H : Fin 16, H.val = 2 * (grid0.coords t 1).val + h.val := ⟨⟨2 * (grid0.coords t 1).val + h.val, by omega⟩, rfl⟩
  have hS : ∀ (h : Fin 2) (r : Fin 256), ∃ (H : Fin 16) (R : Fin 8192), score (iblk m c 0 t) (iblk m c 1 t) (grid0.coords t 2).val h r
      = scores (m ((c : Thread nD τ).loc main_arg0)) (m ((c : Thread nD τ).loc main_arg1)) b H R := fun h r => by
    have hj : (grid0.coords t 2).val < 32 := (grid0.coords t 2).isLt
    exact ⟨⟨2 * (grid0.coords t 1).val + h.val, by omega⟩, ⟨256 * (grid0.coords t 2).val + r.val, by omega⟩,
      score_eq m c t b hb h r _ rfl _ rfl⟩
  unfold outsAt0
  refine (out_at c (grid0.coords t) _ _ _ _ _ _ _ _ _ _ _ (fun h r x => ?_) (fun h r => ?_) r d h hh).trans ?_
  · obtain ⟨H, R, e⟩ := hS h r
    rw [e]; exact scores_ne_top _ _ hq hk _ _ _ _
  · obtain ⟨H, R, e⟩ := hS h r
    rw [e]; exact scores_zero _ _ hq hk _ _ _
  rw [score_eq m c t b hb h r H hH R hR]
  refine (Finset.sum_congr rfl fun x hx => ?_).trans
    (Cert.ReferenceIdeal.Attn.res_at (m ((c : Thread nD τ).loc main_arg0)) (m ((c : Thread nD τ).loc main_arg1)) (m ((c : Thread nD τ).loc main_arg2)) b H R
      ⟨d.val % 64, by omega⟩ e (by simp only []; omega) (S := scores (m ((c : Thread nD τ).loc main_arg0)) (m ((c : Thread nD τ).loc main_arg1)) b H R)
      (V := lane (m ((c : Thread nD τ).loc main_arg2)) b e) (fun x => logits_eq _ _ b H R x) (fun x => lane_at _ b e x)).symm
  congr 1
  unfold value lane
  have hx' : x < 8192 := Finset.mem_range.1 hx
  rw [dif_pos hx', dif_pos hx', v_at m c t b ⟨x, hx'⟩ d e he hb]

/-- The result array after the run, where every query and key is real. -/
theorem final (c : Dev nD)
    (hq : AllReal (m ((c : Thread nD τ).loc main_arg0)))
    (hk : AllReal (m ((c : Thread nD τ).loc main_arg1))) :
    (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have h1 : (grid0.coords t 1).val < 8 := (grid0.coords t 1).isLt
  have h2 : (grid0.coords t 2).val < 32 := (grid0.coords t 2).isLt
  obtain ⟨r, hr⟩ : ∃ r : Fin 256, r = y 1 := ⟨y 1, rfl⟩
  obtain ⟨d, hd⟩ : ∃ d : Fin 128, d = y 2 := ⟨y 2, rfl⟩
  obtain ⟨R, hR⟩ : ∃ R : Fin 8192, R.val = 256 * (grid0.coords t 2).val + r.val := ⟨⟨256 * (grid0.coords t 2).val + r.val, by omega⟩, rfl⟩
  obtain ⟨e, he⟩ : ∃ e : Fin 1024, e.val = 128 * (grid0.coords t 1).val + d.val := ⟨⟨128 * (grid0.coords t 1).val + d.val, by omega⟩, rfl⟩
  obtain ⟨b, hb⟩ : ∃ b : Fin 2, b.val = (grid0.coords t 0).val := ⟨grid0.coords t 0, rfl⟩
  have hy : y = ix3 0 r d := by subst hr hd; blk_ext
  have hE : (win0_3.blk t).view.emb y = ix3 b R e := by subst hy; blk_ext [idx t]
  refine (congrArg (outsAt0 m c t) hy).trans ((block_at m c t hq hk b hb r R hR d e he).trans ?_)
  exact (congrArg (REF (m ((c : Thread nD τ).loc main_arg0)) (m ((c : Thread nD τ).loc main_arg1)) (m ((c : Thread nD τ).loc main_arg2))) hE).symm

end Cert.KernelIdeal.Attn

end
-- ==== Proof.Rows.Math.lean ====
/- The row mathematics of the trunk's dense calls over the extended reals: the root-mean-square norm of a row, the squared-ReLU
   MLP on a row, and a sum over 4096 hidden units as four sums of 1024. -/
module

public import Idealize.ShloMosaic.Lib.Pointwise

@[expose] public section

noncomputable section

namespace Cert.Rows

open Idealize.ShloMosaic

/-- One entry of the root-mean-square norm of the row `x` with gains `g`. -/
def norm (x g : Fin 1024 → EReal) (d : Fin 1024) : EReal :=
  x d * Ideal.rsqrt (Ideal.div (∑ k, x k * x k) (Ideal.ofBits .f32 0x44800000#32) + Ideal.ofBits .f32 0x358637BD#32) * g d

/-- All rows' root-mean-square norms. -/
def normRows (x : FVec Ideal ⟨2, ![16384, 1024]⟩ .f32) (g : FVec Ideal ⟨1, ![1024]⟩ .f32) : FVec Ideal ⟨2, ![16384, 1024]⟩ .f32 := fun i =>
  norm (fun k => x (ix2 (i 0) k)) (fun k => g (ix1 k)) (i 1)

/-- Every group's chunks times the group's weights, the groups side by side. -/
def summaryRows (u : FVec Ideal ⟨3, ![64, 256, 1024]⟩ .f32) (r : FVec Ideal ⟨3, ![64, 1024, 128]⟩ .bf16) : FVec Ideal ⟨2, ![256, 8192]⟩ .f32 := fun i =>
  have hi : (i 1).val < 8192 := (i 1).isLt
  ∑ k : Fin 1024, u (ix3 ⟨(i 1).val / 128, by omega⟩ (i 0) k) * r (ix3 ⟨(i 1).val / 128, by omega⟩ k ⟨(i 1).val % 128, by omega⟩)

/-- The tanh approximation of the Gaussian error linear unit. -/
def gelu (y : EReal) : EReal :=
  Ideal.ofBits .f32 0x3F000000#32 * y
    * (Ideal.ofBits .f32 0x3F800000#32 + Ideal.tanh (Ideal.ofBits .f32 0x3F4C422A#32 * (y + Ideal.ofBits .f32 0x3D372713#32 * (y * y * y))))

/-- The weight of input `k` of a group's chunk for its output `p`: the table's entry at the lag between them, zero for a later input. -/
def lag (w : FVec Ideal ⟨3, ![64, 128, 1024]⟩ .bf16) (q : Fin 64) (k p : Fin 1024) : EReal :=
  if 128 * (k.val / 128) ≤ p.val then w (ix3 q ⟨k.val % 128, by omega⟩ ⟨p.val - 128 * (k.val / 128), by omega⟩) else 0

/-- Every group's chunks' activated outputs: what the entering state adds, the skip, and the causal convolution of the chunk's inputs. -/
def chunkRows (u : FVec Ideal ⟨3, ![64, 256, 1024]⟩ .f32) (s : FVec Ideal ⟨2, ![256, 8192]⟩ .f32) (w : FVec Ideal ⟨3, ![64, 128, 1024]⟩ .bf16)
    (t : FVec Ideal ⟨3, ![64, 1024, 128]⟩ .bf16) (d : FVec Ideal ⟨3, ![64, 1, 1024]⟩ .f32) : FVec Ideal ⟨3, ![64, 256, 1024]⟩ .bf16 := fun i =>
  have h0 : (i 0).val < 64 := (i 0).isLt
  gelu ((∑ k : Fin 128, s (ix2 (i 1) ⟨128 * (i 0).val + k.val, by omega⟩) * t (ix3 (i 0) (i 2) k)) + d (ix3 (i 0) 0 (i 2)) * u (ix3 (i 0) (i 1) (i 2))
    + ∑ k : Fin 1024, u (ix3 (i 0) (i 1) k) * lag w (i 0) k (i 2))

/-- One hidden unit of the MLP of a row `y`, its squared ReLU. -/
def hidden {n : ℕ} (y : Fin 1024 → EReal) (w : Fin 1024 → Fin n → EReal) (f : Fin n) : EReal :=
  max (∑ d, y d * w d f) 0 * max (∑ d, y d * w d f) 0

/-- A hidden unit reads its own column of the weights only. -/
theorem hidden_congr {n n' : ℕ} (y : Fin 1024 → EReal) (w : Fin 1024 → Fin n → EReal) (w' : Fin 1024 → Fin n' → EReal) (f : Fin n) (f' : Fin n')
    (h : ∀ k, w k f = w' k f') : hidden y w f = hidden y w' f' := by
  unfold hidden
  simp only [h]

/-- One entry of a row after the MLP's residual step. -/
def mlp (x g : Fin 1024 → EReal) (w : Fin 1024 → Fin 4096 → EReal) (u : Fin 4096 → Fin 1024 → EReal) (d : Fin 1024) : EReal :=
  x d + ∑ f, hidden (norm x g) w f * u f d

/-- All rows after the MLP's residual step. -/
def mlpRows (x : FVec Ideal ⟨2, ![16384, 1024]⟩ .f32) (g : FVec Ideal ⟨1, ![1024]⟩ .f32) (w : FVec Ideal ⟨2, ![1024, 4096]⟩ .f32)
    (u : FVec Ideal ⟨2, ![4096, 1024]⟩ .f32) : FVec Ideal ⟨2, ![16384, 1024]⟩ .f32 := fun i =>
  mlp (fun k => x (ix2 (i 0) k)) (fun k => g (ix1 k)) (fun k f => w (ix2 k f)) (fun f k => u (ix2 f k)) (i 1)

/-- All rows after adding the heads' outputs times the output weights. -/
def outRows (x : FVec Ideal ⟨2, ![16384, 1024]⟩ .f32) (o : FVec Ideal ⟨2, ![16384, 1024]⟩ .bf16) (w : FVec Ideal ⟨2, ![1024, 1024]⟩ .f32) :
    FVec Ideal ⟨2, ![16384, 1024]⟩ .f32 := fun i =>
  x (ix2 (i 0) (i 1)) + ∑ k : Fin 1024, o (ix2 (i 0) k) * w (ix2 k (i 1))

/-- One entry of a row after the gated projection's residual step. -/
def glu (x z : Fin 1024 → EReal) (w : Fin 1024 → Fin 2048 → EReal) (d : Fin 1024) : EReal :=
  x d + (∑ k, z k * w k ⟨d.val, by omega⟩) * Ideal.logistic (∑ k, z k * w k ⟨1024 + d.val, by omega⟩)

/-- All rows after the gated projection's residual step. -/
def gluRows (x : FVec Ideal ⟨2, ![16384, 1024]⟩ .f32) (z : FVec Ideal ⟨2, ![16384, 1024]⟩ .bf16) (w : FVec Ideal ⟨2, ![1024, 2048]⟩ .f32) :
    FVec Ideal ⟨2, ![16384, 1024]⟩ .f32 := fun i =>
  glu (fun k => x (ix2 (i 0) k)) (fun k => z (ix2 (i 0) k)) (fun k f => w (ix2 k f)) (i 1)

/-- One entry of a row after the last MLP's residual step and the final norm. -/
def last (x g : Fin 1024 → EReal) (w : Fin 1024 → Fin 4096 → EReal) (u : Fin 4096 → Fin 1024 → EReal) (q : Fin 1024 → EReal) (d : Fin 1024) : EReal :=
  norm (mlp x g w u) q d

/-- Every sequence's rows after the last MLP's residual step and the final norm. -/
def lastRows (x : FVec Ideal ⟨3, ![2, 8192, 1024]⟩ .f32) (g : FVec Ideal ⟨1, ![1024]⟩ .f32) (w : FVec Ideal ⟨2, ![1024, 4096]⟩ .f32)
    (u : FVec Ideal ⟨2, ![4096, 1024]⟩ .f32) (q : FVec Ideal ⟨1, ![1024]⟩ .f32) : FVec Ideal ⟨3, ![2, 8192, 1024]⟩ .f32 := fun i =>
  last (fun k => x (ix3 (i 0) (i 1) k)) (fun k => g (ix1 k)) (fun k f => w (ix2 k f)) (fun f k => u (ix2 f k)) (fun k => q (ix1 k)) (i 2)

/-- A sum over 4096 as four sums over 1024. -/
theorem sum_four (F : Fin 4096 → EReal) : ∑ f, F f
    = (∑ f : Fin 1024, F ⟨f.val, by omega⟩) + (∑ f : Fin 1024, F ⟨1024 + f.val, by omega⟩)
      + (∑ f : Fin 1024, F ⟨2048 + f.val, by omega⟩) + ∑ f : Fin 1024, F ⟨3072 + f.val, by omega⟩ := by
  refine (Fin.sum_univ_add (a := 3072) (b := 1024) F).trans ?_
  congr 1
  refine (Fin.sum_univ_add (a := 2048) (b := 1024) fun i => F (Fin.castAdd 1024 i)).trans ?_
  congr 1
  exact Fin.sum_univ_add (a := 1024) (b := 1024) fun i => F (Fin.castAdd 1024 (Fin.castAdd 1024 i))

end Cert.Rows

end
-- ==== Proof.Rows.MlpOut.lean ====
/- The MLP call's body at one row block, read at an element. -/
module

public import proofs.«01_k».proof.Proof.Rows.Math
public import proofs.«01_k».proof.Proof.Gen.MlpIdeal.Value
public import Idealize.ShloMosaic.Lib.Pipeline.ValueKit
public import Idealize.ShloMosaic.Lib.Pointwise

@[expose] public section

set_option maxRecDepth 16384

noncomputable section

namespace Cert.MlpIdeal.Rows

open Cert.MlpIdeal Cert.MlpIdeal.Gen Idealize.ShloMosaic Idealize.ShloMosaic.TcCoe Cert.Rows
open Idealize.ShloMosaic.Pipeline (Dat)

/-- The normed row block. -/
theorem pay2_at (x : Vec Ideal S512x1024 .f32) (g : Vec Ideal S1x1024 .f32) (r : Fin 512) (d : Fin 1024) :
    k0_pay2 x g (ix2 r d) = norm (fun k => x (ix2 r k)) (fun k => g (ix2 0 k)) d := by
  pointwise [k0_pay2]
  rfl

/-- Two chunks of hidden units added to the row block. -/
theorem pay3_at (x : Vec Ideal S512x1024 .f32) (g : Vec Ideal S1x1024 .f32) (w0 u0 w1 u1 : Vec Ideal S1024x1024 .bf16) (r : Fin 512) (d : Fin 1024) :
    k0_pay3 x g w0 u0 w1 u1 (ix2 r d) = x (ix2 r d)
      + (∑ f, hidden (fun k => k0_pay2 x g (ix2 r k)) (fun k f => w0 (ix2 k f)) f * u0 (ix2 f d))
      + ∑ f, hidden (fun k => k0_pay2 x g (ix2 r k)) (fun k f => w1 (ix2 k f)) f * u1 (ix2 f d) := by
  pointwise [k0_pay3]
  rfl

/-- Two more chunks. -/
theorem pay1_at (y : FVec Ideal S512x1024 .bf16) (a : FVec Ideal S512x1024 .f32) (w0 u0 w1 u1 : Vec Ideal S1024x1024 .bf16) (r : Fin 512) (d : Fin 1024) :
    k0_pay1 y a w0 u0 w1 u1 (ix2 r d) = a (ix2 r d)
      + (∑ f, hidden (fun k => y (ix2 r k)) (fun k f => w0 (ix2 k f)) f * u0 (ix2 f d))
      + ∑ f, hidden (fun k => y (ix2 r k)) (fun k f => w1 (ix2 k f)) f * u1 (ix2 f d) := by
  pointwise [k0_pay1]
  rfl

/-- The stored block: each row after the MLP's residual step. -/
theorem out_at (x0 : Vec Ideal S512x1024 .f32) (x1 : Vec Ideal S1x1024 .f32) (x2 : Vec Ideal S1024x4096 .bf16) (x3 : Vec Ideal S4096x1024 .bf16)
    (x4 : Vec Ideal S1x1024 .f32) (r : Fin 512) (d : Fin 1024) :
    out0_5 x0 x1 x2 x3 x4 (ix2 r d)
      = mlp (fun k => x0 (ix2 r k)) (fun k => x1 (ix2 0 k)) (fun k f => x2 (ix2 k f)) (fun f k => x3 (ix2 f k)) d := by
  frame_out
  rw [pay1_at, pay3_at]
  simp only [pay2_at]
  unfold mlp
  rw [sum_four, ← add_assoc, ← add_assoc, ← add_assoc]
  congr 1
  congr 1
  congr 1
  congr 1
  all_goals
    refine Finset.sum_congr rfl fun f _ => ?_
    congr 1
    · refine hidden_congr _ _ _ _ _ fun k => ?_
      pointwise; blk_ext
    · pointwise; blk_ext

/-- The windows' block indices. -/
theorem idx : ∀ t : Fin cfg0.N, win0_0.index t = ![(grid0.coords t 0).val, 0] ∧ win0_1.index t = ![0, 0] ∧ win0_2.index t = ![0, 0]
    ∧ win0_3.index t = ![0, 0] ∧ win0_4.index t = ![0, 0] ∧ win0_5.index t = ![(grid0.coords t 0).val, 0] :=
  (by decide +kernel : ∀ t : Fin grid0.N, _)

variable (m : (ℓ : Loc nD τ sig) → Buf (Elt Ideal) ℓ)

/-- The row block's entries. -/
theorem x_at (c : Dev nD) (t : Fin cfg0.N) (r : Fin 512) (d : Fin 1024) (R : Fin 16384) (hR : R.val = 512 * (grid0.coords t 0).val + r.val) :
    iblk m c 0 t (ix2 r d) = m ((c : Thread nD τ).loc main_arg0) (ix2 R d) := by
  blk_ext [iblk, V, idx t]

/-- The gains' entries. -/
theorem g_at (c : Dev nD) (t : Fin cfg0.N) (d : Fin 1024) :
    iblk m c 1 t (ix2 0 d) = m ((c : Thread nD τ).loc main_arg1) (ix1 d) := by
  blk_ext! [iblk, V, idx t]

/-- The first weights' entries. -/
theorem w_at (c : Dev nD) (t : Fin cfg0.N) (k : Fin 1024) (f : Fin 4096) :
    iblk m c 2 t (ix2 k f) = m ((c : Thread nD τ).loc main_arg2) (ix2 k f) := by
  blk_ext! [iblk, V, idx t]

/-- The second weights' entries. -/
theorem u_at (c : Dev nD) (t : Fin cfg0.N) (f : Fin 4096) (k : Fin 1024) :
    iblk m c 3 t (ix2 f k) = m ((c : Thread nD τ).loc main_arg3) (ix2 f k) := by
  blk_ext! [iblk, V, idx t]

/-- The result array after the run. -/
theorem final (c : Dev nD) : (dats m 0 c).arrAt 5 (cfgs 0).N
    = mlpRows (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  have h0 : (grid0.coords t 0).val < 32 := (grid0.coords t 0).isLt
  obtain ⟨r, hr⟩ : ∃ r : Fin 512, r = y 0 := ⟨y 0, rfl⟩
  obtain ⟨d, hd⟩ : ∃ d : Fin 1024, d = y 1 := ⟨y 1, rfl⟩
  obtain ⟨R, hR⟩ : ∃ R : Fin 16384, R.val = 512 * (grid0.coords t 0).val + r.val := ⟨⟨512 * (grid0.coords t 0).val + r.val, by omega⟩, rfl⟩
  have hy : y = ix2 r d := by subst hr hd; blk_ext
  have hE : (win0_5.blk t).view.emb y = ix2 R d := by subst hy; blk_ext [idx t]
  refine (congrArg (out0_5 (iblk m c 0 t) (iblk m c 1 t) (iblk m c 2 t) (iblk m c 3 t) (iblk m c 4 t)) hy).trans ((out_at _ _ _ _ _ r d).trans ?_)
  refine Eq.trans ?_ (congrArg (mlpRows _ _ _ _) hE).symm
  simp only [x_at m c t r _ R hR, g_at m c t, w_at m c t, u_at m c t]
  rfl

end Cert.MlpIdeal.Rows

end
-- ==== Proof.Rows.MlpRef.lean ====
/- The MLP reference's run, its result as a function of the arguments. -/
module

public import proofs.«01_k».proof.Proof.Rows.Math
public import proofs.«01_k».proof.Proof.Gen.MlpReferenceIdeal.Run
public import Idealize.ShloMosaic.Lib.Pointwise
public import Idealize.ShloMosaic.Lib.Pipeline.ValueKit

@[expose] public section

set_option maxRecDepth 16384

noncomputable section

namespace Cert.MlpReferenceIdeal.Rows

open Cert.MlpReferenceIdeal Cert.MlpReferenceIdeal.Gen Idealize.ShloMosaic Idealize.ShloMosaic.TcCoe Idealize.SL.Sem Cert.Rows

/-- The reference ends with every row after the MLP's residual step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = mlpRows (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run (F := Ideal) m ρ)
  funext i
  obtain ⟨r, d, rfl⟩ : ∃ (r : Fin 16384) (d : Fin 1024), i = ix2 r d := ⟨i 0, i 1, by blk_ext⟩
  pointwise
  rfl

end Cert.MlpReferenceIdeal.Rows

end
-- ==== Proof.Rows.LastOut.lean ====
/- The last MLP call's body at one row block, read at an element. -/
module

public import proofs.«01_k».proof.Proof.Rows.Math
public import proofs.«01_k».proof.Proof.Gen.LastIdeal.Frame
public import Idealize.ShloMosaic.Lib.Pipeline.ValueKit
public import Idealize.ShloMosaic.Lib.Pointwise

@[expose] public section

set_option maxRecDepth 16384

noncomputable section

namespace Cert.LastIdeal.Rows

open Cert.LastIdeal Cert.LastIdeal.Gen Idealize.ShloMosaic Idealize.ShloMosaic.TcCoe Cert.Rows
open Idealize.ShloMosaic.Pipeline (Dat)
open Idealize.SL.Sem

/-- The normed row block. -/
theorem pay2_at (x : Vec Ideal S512x1024 .f32) (g : Vec Ideal S1x1024 .f32) (r : Fin 512) (d : Fin 1024) :
    k0_pay2 x g (ix2 r d) = norm (fun k => x (ix2 r k)) (fun k => g (ix2 0 k)) d := by
  pointwise [k0_pay2, k0_pay1]
  rfl

/-- The first chunk of hidden units added to the row block. -/
theorem pay3_at (x : Vec Ideal S512x1024 .f32) (g : Vec Ideal S1x1024 .f32) (w0 u0 : Vec Ideal S1024x1024 .bf16) (r : Fin 512) (d : Fin 1024) :
    k0_pay3 x g w0 u0 (ix2 r d) = x (ix2 r d)
      + ∑ f, hidden (fun k => k0_pay2 x g (ix2 r k)) (fun k f => w0 (ix2 k f)) f * u0 (ix2 f d) := by
  pointwise [k0_pay3, k0_pay1]
  rfl

/-- The second chunk's sum. -/
theorem pay4_at (x : Vec Ideal S512x1024 .f32) (g : Vec Ideal S1x1024 .f32) (w0 u0 : Vec Ideal S1024x1024 .bf16) (r : Fin 512) (d : Fin 1024) :
    k0_pay4 x g w0 u0 (ix2 r d) = ∑ f, hidden (fun k => k0_pay2 x g (ix2 r k)) (fun k f => w0 (ix2 k f)) f * u0 (ix2 f d) := by
  pointwise [k0_pay4]
  rfl

/-- The two remaining chunks added, and the final norm of the row. -/
theorem pay5_at (y : FVec Ideal S512x1024 .bf16) (a b : FVec Ideal S512x1024 .f32) (w0 u0 w1 u1 : Vec Ideal S1024x1024 .bf16)
    (q : Vec Ideal S1x1024 .f32) (r : Fin 512) (d : Fin 1024) :
    k0_pay5 y a b w0 u0 w1 u1 q (ix2 r d) = norm (fun d => a (ix2 r d) + b (ix2 r d)
      + (∑ f, hidden (fun k => y (ix2 r k)) (fun k f => w0 (ix2 k f)) f * u0 (ix2 f d))
      + ∑ f, hidden (fun k => y (ix2 r k)) (fun k f => w1 (ix2 k f)) f * u1 (ix2 f d)) (fun k => q (ix2 0 k)) d := by
  pointwise [k0_pay5]
  rfl

/-- The stored block: each row after the last MLP's residual step and the final norm. -/
theorem out_at (x0 : Vec Ideal S512x1024 .f32) (x1 : Vec Ideal S1x1024 .f32) (x2 : Vec Ideal S1024x4096 .bf16) (x3 : Vec Ideal S4096x1024 .bf16)
    (x4 : Vec Ideal S1x1024 .f32) (r : Fin 512) (d : Fin 1024) :
    out0_5 x0 x1 x2 x3 x4 (ix2 r d)
      = last (fun k => x0 (ix2 r k)) (fun k => x1 (ix2 0 k)) (fun k f => x2 (ix2 k f)) (fun f k => x3 (ix2 f k)) (fun k => x4 (ix2 0 k)) d := by
  frame_out
  rw [pay5_at]
  unfold last
  congr 1
  funext d
  rw [pay3_at, pay4_at]
  simp only [pay2_at]
  unfold mlp
  rw [sum_four, ← add_assoc, ← add_assoc, ← add_assoc]
  congr 1
  congr 1
  congr 1
  congr 1
  all_goals
    refine Finset.sum_congr rfl fun f _ => ?_
    congr 1
    · refine hidden_congr _ _ _ _ _ fun k => ?_
      pointwise; blk_ext
    · pointwise; blk_ext

/-- The windows' block indices. -/
theorem idx : ∀ t : Fin cfg0.N, win0_0.index t = ![(grid0.coords t 0).val, 0] ∧ win0_1.index t = ![0, 0] ∧ win0_2.index t = ![0, 0]
    ∧ win0_3.index t = ![0, 0] ∧ win0_4.index t = ![0, 0] ∧ win0_5.index t = ![(grid0.coords t 0).val, 0] :=
  (by decide +kernel : ∀ t : Fin grid0.N, _)

variable (m : (ℓ : Loc nD τ sig) → Buf (Elt Ideal) ℓ)

/-- The flattened residual stream, as the region finds it. -/
theorem V_v0 (c : Dev nD) : V m c main_v0
    = shapeCast S16384x1024 (m ((c : Thread nD τ).loc main_arg0) : FVec Ideal S2x8192x1024 .f32) shapeCasts_S2x8192x1024_S16384x1024 := by
  change StableHlo.after hostOps0 _ _ = _
  after_results
  rfl

/-- The first norm's gains, as the region finds them. -/
theorem V_v3 (c : Dev nD) : V m c main_v3
    = shapeCast S1x1024 (m ((c : Thread nD τ).loc main_arg1) : FVec Ideal S1024 .f32) shapeCasts_S1024_S1x1024 := by
  change StableHlo.after hostOps0 _ _ = _
  after_results
  rfl

/-- The final norm's gains, as the region finds them. -/
theorem V_v4 (c : Dev nD) : V m c main_v4
    = shapeCast S1x1024 (m ((c : Thread nD τ).loc main_arg4) : FVec Ideal S1024 .f32) shapeCasts_S1024_S1x1024 := by
  change StableHlo.after hostOps0 _ _ = _
  after_results
  rfl

/-- The row block's entries: row `8192 * b + l` of the flattened residual stream is position `l` of sequence `b`. -/
theorem x_at (c : Dev nD) (t : Fin cfg0.N) (r : Fin 512) (d : Fin 1024) (b : Fin 2) (l : Fin 8192)
    (hR : 8192 * b.val + l.val = 512 * (grid0.coords t 0).val + r.val) :
    iblk m c 0 t (ix2 r d) = m ((c : Thread nD τ).loc main_arg0) (ix3 b l d) := by
  refine (congrFun (V_v0 m c) ((win0_0.blk t).view.emb (ix2 r d))).trans ?_
  have h0 : (grid0.coords t 0).val < 32 := (grid0.coords t 0).isLt
  obtain ⟨R, hR'⟩ : ∃ R : Fin 16384, R.val = 512 * (grid0.coords t 0).val + r.val := ⟨⟨512 * (grid0.coords t 0).val + r.val, by omega⟩, rfl⟩
  have hE : (win0_0.blk t).view.emb (ix2 r d) = ix2 R d := by blk_ext [idx t]
  refine (congrArg _ hE).trans (shapeCast_apply _ _ _ (ix3 b l d) ?_)
  rw [Shape.rowMajor_val_three, Shape.rowMajor_val_two]
  show (b.val * 8192 + l.val) * 1024 + d.val = R.val * 1024 + d.val
  omega

/-- The gains' entries. -/
theorem g_at (c : Dev nD) (t : Fin cfg0.N) (d : Fin 1024) :
    iblk m c 1 t (ix2 0 d) = m ((c : Thread nD τ).loc main_arg1) (ix1 d) := by
  refine (congrFun (V_v3 m c) ((win0_1.blk t).view.emb (ix2 0 d))).trans ?_
  have hE : (win0_1.blk t).view.emb (ix2 0 d) = ix2 0 d := by blk_ext [idx t]
  refine (congrArg _ hE).trans ?_
  pointwise

/-- The first weights' entries. -/
theorem w_at (c : Dev nD) (t : Fin cfg0.N) (k : Fin 1024) (f : Fin 4096) :
    iblk m c 2 t (ix2 k f) = m ((c : Thread nD τ).loc main_arg2) (ix2 k f) := by
  blk_ext! [iblk, V, V0, idx t]

/-- The second weights' entries. -/
theorem u_at (c : Dev nD) (t : Fin cfg0.N) (f : Fin 4096) (k : Fin 1024) :
    iblk m c 3 t (ix2 f k) = m ((c : Thread nD τ).loc main_arg3) (ix2 f k) := by
  blk_ext! [iblk, V, V0, idx t]

/-- The final gains' entries. -/
theorem q_at (c : Dev nD) (t : Fin cfg0.N) (d : Fin 1024) :
    iblk m c 4 t (ix2 0 d) = m ((c : Thread nD τ).loc main_arg4) (ix1 d) := by
  refine (congrFun (V_v4 m c) ((win0_4.blk t).view.emb (ix2 0 d))).trans ?_
  have hE : (win0_4.blk t).view.emb (ix2 0 d) = ix2 0 d := by blk_ext [idx t]
  refine (congrArg _ hE).trans ?_
  pointwise

/-- The result, at the launch's arguments. -/
abbrev G (c : Dev nD) : FVec Ideal ⟨3, ![2, 8192, 1024]⟩ .f32 :=
  lastRows (m ((c : Thread nD τ).loc main_arg0)) (m ((c : Thread nD τ).loc main_arg1)) (m ((c : Thread nD τ).loc main_arg2))
    (m ((c : Thread nD τ).loc main_arg3)) (m ((c : Thread nD τ).loc main_arg4))

/-- The result with its sequences' rows one after another. -/
def flat (c : Dev nD) : FVec Ideal ⟨2, ![16384, 1024]⟩ .f32 := fun i =>
  G m c (ix3 ⟨(i 0).val / 8192, by have h : (i 0).val < 16384 := (i 0).isLt; omega⟩ ⟨(i 0).val % 8192, by omega⟩ (i 1))

/-- The result array after the region. -/
theorem final (c : Dev nD) : (dats m 0 c).arrAt 5 (cfgs 0).N = flat m c := by
  refine (dats m 0 c).arrAt_eq_of_covers 5 _ (by decide +kernel) fun t _ y => ?_
  blk_simp
  rw [after0_5]
  have h0 : (grid0.coords t 0).val < 32 := (grid0.coords t 0).isLt
  obtain ⟨r, hr⟩ : ∃ r : Fin 512, r = y 0 := ⟨y 0, rfl⟩
  obtain ⟨d, hd⟩ : ∃ d : Fin 1024, d = y 1 := ⟨y 1, rfl⟩
  obtain ⟨R, hR⟩ : ∃ R : Fin 16384, R.val = 512 * (grid0.coords t 0).val + r.val := ⟨⟨512 * (grid0.coords t 0).val + r.val, by omega⟩, rfl⟩
  have hy : y = ix2 r d := by subst hr hd; blk_ext
  have hE : (win0_5.blk t).view.emb y = ix2 R d := by subst hy; blk_ext [idx t]
  refine (congrArg (out0_5 (iblk m c 0 t) (iblk m c 1 t) (iblk m c 2 t) (iblk m c 3 t) (iblk m c 4 t)) hy).trans ((out_at _ _ _ _ _ r d).trans ?_)
  refine Eq.trans ?_ (congrArg (flat m c) hE).symm
  have hb : 8192 * (R.val / 8192) + R.val % 8192 = 512 * (grid0.coords t 0).val + r.val := by omega
  simp only [x_at m c t r _ ⟨R.val / 8192, by omega⟩ ⟨R.val % 8192, by omega⟩ hb, g_at m c t, w_at m c t, u_at m c t, q_at m c t]
  rfl

/-- The last operation lays the rows out by sequence again. -/
theorem tail_eq (c : Dev nD) : Pipeline.afterTail₀ cfgs (dats m) 0 (V0 m) [hostOps1] c main_v6 = G m c := by
  unfold Pipeline.afterTail₀
  have h5 : Pipeline.withArrays (cfgs 0).spec c (V0 m c) (fun w => (dats m 0 c).arrAt w (cfgs 0).N) (Proc.devRef .tc main_v5) = flat m c :=
    (Pipeline.withArrays_arr (cfgs 0).spec launch0.win.arr_inj c (V0 m c) _ 5).trans (final m c)
  generalize Pipeline.withArrays (cfgs 0).spec c (V0 m c) (fun w => (dats m 0 c).arrAt w (cfgs 0).N) = W at h5
  have h6 : StableHlo.after (List.flatten [hostOps1]) W (Proc.devRef .tc main_v6)
      = shapeCast S2x8192x1024 (W (Proc.devRef .tc main_v5) : FVec Ideal S16384x1024 .f32) shapeCasts_S16384x1024_S2x8192x1024 := by
    change StableHlo.after hostOps1 _ _ = _
    after_results
    rfl
  rw [h6, h5]
  funext i
  obtain ⟨b, l, d, rfl⟩ : ∃ (b : Fin 2) (l : Fin 8192) (d : Fin 1024), i = ix3 b l d := ⟨i 0, i 1, i 2, by blk_ext⟩
  have hb := b.isLt
  have hl := l.isLt
  refine (shapeCast_apply (flat m c) _ _ (ix2 ⟨8192 * b.val + l.val, by omega⟩ d) ?_).trans ?_
  · rw [Shape.rowMajor_val_three, Shape.rowMajor_val_two]
    show (8192 * b.val + l.val) * 1024 + d.val = (b.val * 8192 + l.val) * 1024 + d.val
    omega
  · refine congrArg (G m c) ?_
    have e1 : (8192 * b.val + l.val) / 8192 = b.val := by omega
    have e2 : (8192 * b.val + l.val) % 8192 = l.val := by omega
    blk_ext

/-- The run: the result array as a function of the arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v6) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).2 main_v6 (Pipeline.mem_restRefs_of main_v6 (by decide) (by decide))).trans (tail_eq m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩)
    (run_main m ρ)

end Cert.LastIdeal.Rows

end
-- ==== Proof.Rows.LastRef.lean ====
/- The last MLP reference's run, its result as a function of the arguments. -/
module

public import proofs.«01_k».proof.Proof.Rows.Math
public import proofs.«01_k».proof.Proof.Gen.LastReferenceIdeal.Run
public import Idealize.ShloMosaic.Lib.Pointwise
public import Idealize.ShloMosaic.Lib.Pipeline.ValueKit

@[expose] public section

set_option maxRecDepth 16384

noncomputable section

namespace Cert.LastReferenceIdeal.Rows

open Cert.LastReferenceIdeal Cert.LastReferenceIdeal.Gen Idealize.ShloMosaic Idealize.ShloMosaic.TcCoe Idealize.SL.Sem Cert.Rows

/-- The reference ends with every row after the last MLP's residual step and the final norm, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = lastRows (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run (F := Ideal) m ρ)
  unfold Value.res_main_v30
  funext i
  obtain ⟨b, l, d, rfl⟩ : ∃ (b : Fin 2) (l : Fin 8192) (d : Fin 1024), i = ix3 b l d := ⟨i 0, i 1, i 2, by blk_ext⟩
  pointwise
  rfl

end Cert.LastReferenceIdeal.Rows

end
-- ==== Proof.Rows.OutOut.lean ====
/- The output projection call's body at one row block, read at an element. -/
module

public import proofs.«01_k».proof.Proof.Rows.Math
public import proofs.«01_k».proof.Proof.Gen.OutIdeal.Value
public import Idealize.ShloMosaic.Lib.Pipeline.ValueKit
public import Idealize.ShloMosaic.Lib.Pointwise

@[expose] public section

set_option maxRecDepth 16384

noncomputable section

namespace Cert.OutIdeal.Rows

open Cert.OutIdeal Cert.OutIdeal.Gen Idealize.ShloMosaic Idealize.ShloMosaic.TcCoe Cert.Rows
open Idealize.ShloMosaic.Pipeline (Dat)

/-- The stored payload's entries. -/
theorem pay1_at (x : Vec Ideal S512x1024 .f32) (o : Vec Ideal S512x1024 .bf16) (w : Vec Ideal S1024x1024 .bf16) (r : Fin 512) (d : Fin 1024) :
    k0_pay1 x o w (ix2 r d) = x (ix2 r d) + ∑ k : Fin 1024, o (ix2 r k) * w (ix2 k d) := by
  pointwise [k0_pay1]

/-- The stored block's entries. -/
theorem out_at (x : Vec Ideal S512x1024 .f32) (o : Vec Ideal S512x1024 .bf16) (w : Vec Ideal S1024x1024 .bf16) (r : Fin 512) (d : Fin 1024) :
    out0_3 x o w (ix2 r d) = x (ix2 r d) + ∑ k : Fin 1024, o (ix2 r k) * w (ix2 k d) := by
  frame_out
  exact pay1_at _ _ _ r d

/-- The windows' block indices. -/
theorem idx : ∀ t : Fin cfg0.N, win0_0.index t = ![(grid0.coords t 0).val, 0] ∧ win0_1.index t = ![(grid0.coords t 0).val, 0]
    ∧ win0_2.index t = ![0, 0] ∧ win0_3.index t = ![(grid0.coords t 0).val, 0] :=
  (by decide +kernel : ∀ t : Fin grid0.N, _)

variable (m : (ℓ : Loc nD τ sig) → Buf (Elt Ideal) ℓ)

/-- The residual row block's entries. -/
theorem x_at (c : Dev nD) (t : Fin cfg0.N) (r : Fin 512) (d : Fin 1024) (R : Fin 16384) (hR : R.val = 512 * (grid0.coords t 0).val + r.val) :
    iblk m c 0 t (ix2 r d) = m ((c : Thread nD τ).loc main_arg0) (ix2 R d) := by
  blk_ext [iblk, V, idx t]

/-- The projected row block's entries. -/
theorem o_at (c : Dev nD) (t : Fin cfg0.N) (r : Fin 512) (d : Fin 1024) (R : Fin 16384) (hR : R.val = 512 * (grid0.coords t 0).val + r.val) :
    iblk m c 1 t (ix2 r d) = m ((c : Thread nD τ).loc main_arg1) (ix2 R d) := by
  blk_ext [iblk, V, idx t]

/-- The weights' entries. -/
theorem w_at (c : Dev nD) (t : Fin cfg0.N) (k : Fin 1024) (f : Fin 1024) :
    iblk m c 2 t (ix2 k f) = m ((c : Thread nD τ).loc main_arg2) (ix2 k f) := by
  blk_ext! [iblk, V, idx t]

/-- The result array after the run. -/
theorem final (c : Dev nD) : (dats m 0 c).arrAt 3 (cfgs 0).N
    = outRows (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have h0 : (grid0.coords t 0).val < 32 := (grid0.coords t 0).isLt
  obtain ⟨r, hr⟩ : ∃ r : Fin 512, r = y 0 := ⟨y 0, rfl⟩
  obtain ⟨d, hd⟩ : ∃ d : Fin 1024, d = y 1 := ⟨y 1, rfl⟩
  obtain ⟨R, hR⟩ : ∃ R : Fin 16384, R.val = 512 * (grid0.coords t 0).val + r.val := ⟨⟨512 * (grid0.coords t 0).val + r.val, by omega⟩, rfl⟩
  have hy : y = ix2 r d := by subst hr hd; blk_ext
  have hE : (win0_3.blk t).view.emb y = ix2 R d := by subst hy; blk_ext [idx t]
  refine (congrArg (out0_3 (iblk m c 0 t) (iblk m c 1 t) (iblk m c 2 t)) hy).trans ((out_at _ _ _ r d).trans ?_)
  refine Eq.trans ?_ (congrArg (outRows _ _ _) hE).symm
  simp only [x_at m c t r _ R hR, o_at m c t r _ R hR, w_at m c t]
  rfl

end Cert.OutIdeal.Rows

end
-- ==== Proof.Rows.OutRef.lean ====
/- The output projection reference's run, its result as a function of the arguments. -/
module

public import proofs.«01_k».proof.Proof.Rows.Math
public import proofs.«01_k».proof.Proof.Gen.OutReferenceIdeal.Run
public import Idealize.ShloMosaic.Lib.Pointwise
public import Idealize.ShloMosaic.Lib.Pipeline.ValueKit

@[expose] public section

set_option maxRecDepth 16384

noncomputable section

namespace Cert.OutReferenceIdeal.Rows

open Cert.OutReferenceIdeal Cert.OutReferenceIdeal.Gen Idealize.ShloMosaic Idealize.ShloMosaic.TcCoe Idealize.SL.Sem Cert.Rows

/-- The reference ends with every row after the output projection's residual step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = outRows (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  funext i
  obtain ⟨r, d, rfl⟩ : ∃ (r : Fin 16384) (d : Fin 1024), i = ix2 r d := ⟨i 0, i 1, by blk_ext⟩
  pointwise
  rfl

end Cert.OutReferenceIdeal.Rows

end
-- ==== Proof.Rows.GluOut.lean ====
/- The gated projection call's body at one row block, read at an element. -/
module

public import proofs.«01_k».proof.Proof.Rows.Math
public import proofs.«01_k».proof.Proof.Gen.GluIdeal.Value
public import Idealize.ShloMosaic.Lib.Pipeline.ValueKit
public import Idealize.ShloMosaic.Lib.Pointwise

@[expose] public section

set_option maxRecDepth 16384

noncomputable section

namespace Cert.GluIdeal.Rows

open Cert.GluIdeal Cert.GluIdeal.Gen Idealize.ShloMosaic Idealize.ShloMosaic.TcCoe Cert.Rows
open Idealize.ShloMosaic.Pipeline (Dat)

/-- The stored payload's entries. -/
theorem pay1_at (x : Vec Ideal S512x1024 .f32) (o : Vec Ideal S512x1024 .bf16) (w : Vec Ideal S1024x2048 .bf16) (r : Fin 512) (d : Fin 1024) :
    k0_pay1 o w x (ix2 r d) = glu (fun k => x (ix2 r k)) (fun k => o (ix2 r k)) (fun k f => w (ix2 k f)) d := by
  pointwise [k0_pay1]
  rfl

/-- The stored block's entries. -/
theorem out_at (x : Vec Ideal S512x1024 .f32) (o : Vec Ideal S512x1024 .bf16) (w : Vec Ideal S1024x2048 .bf16) (r : Fin 512) (d : Fin 1024) :
    out0_3 x o w (ix2 r d) = glu (fun k => x (ix2 r k)) (fun k => o (ix2 r k)) (fun k f => w (ix2 k f)) d := by
  frame_out
  exact pay1_at _ _ _ r d

/-- The windows' block indices. -/
theorem idx : ∀ t : Fin cfg0.N, win0_0.index t = ![(grid0.coords t 0).val, 0] ∧ win0_1.index t = ![(grid0.coords t 0).val, 0]
    ∧ win0_2.index t = ![0, 0] ∧ win0_3.index t = ![(grid0.coords t 0).val, 0] :=
  (by decide +kernel : ∀ t : Fin grid0.N, _)

variable (m : (ℓ : Loc nD τ sig) → Buf (Elt Ideal) ℓ)

/-- The residual row block's entries. -/
theorem x_at (c : Dev nD) (t : Fin cfg0.N) (r : Fin 512) (d : Fin 1024) (R : Fin 16384) (hR : R.val = 512 * (grid0.coords t 0).val + r.val) :
    iblk m c 0 t (ix2 r d) = m ((c : Thread nD τ).loc main_arg0) (ix2 R d) := by
  blk_ext [iblk, V, idx t]

/-- The projected row block's entries. -/
theorem o_at (c : Dev nD) (t : Fin cfg0.N) (r : Fin 512) (d : Fin 1024) (R : Fin 16384) (hR : R.val = 512 * (grid0.coords t 0).val + r.val) :
    iblk m c 1 t (ix2 r d) = m ((c : Thread nD τ).loc main_arg1) (ix2 R d) := by
  blk_ext [iblk, V, idx t]

/-- The weights' entries. -/
theorem w_at (c : Dev nD) (t : Fin cfg0.N) (k : Fin 1024) (f : Fin 2048) :
    iblk m c 2 t (ix2 k f) = m ((c : Thread nD τ).loc main_arg2) (ix2 k f) := by
  blk_ext! [iblk, V, idx t]

/-- The result array after the run. -/
theorem final (c : Dev nD) : (dats m 0 c).arrAt 3 (cfgs 0).N
    = gluRows (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have h0 : (grid0.coords t 0).val < 32 := (grid0.coords t 0).isLt
  obtain ⟨r, hr⟩ : ∃ r : Fin 512, r = y 0 := ⟨y 0, rfl⟩
  obtain ⟨d, hd⟩ : ∃ d : Fin 1024, d = y 1 := ⟨y 1, rfl⟩
  obtain ⟨R, hR⟩ : ∃ R : Fin 16384, R.val = 512 * (grid0.coords t 0).val + r.val := ⟨⟨512 * (grid0.coords t 0).val + r.val, by omega⟩, rfl⟩
  have hy : y = ix2 r d := by subst hr hd; blk_ext
  have hE : (win0_3.blk t).view.emb y = ix2 R d := by subst hy; blk_ext [idx t]
  refine (congrArg (out0_3 (iblk m c 0 t) (iblk m c 1 t) (iblk m c 2 t)) hy).trans ((out_at _ _ _ r d).trans ?_)
  refine Eq.trans ?_ (congrArg (gluRows _ _ _) hE).symm
  simp only [x_at m c t r _ R hR, o_at m c t r _ R hR, w_at m c t]
  rfl

end Cert.GluIdeal.Rows

end
-- ==== Proof.Rows.GluRef.lean ====
/- The gated projection reference's run, its result as a function of the arguments. -/
module

public import proofs.«01_k».proof.Proof.Rows.Math
public import proofs.«01_k».proof.Proof.Gen.GluReferenceIdeal.Run
public import Idealize.ShloMosaic.Lib.Pointwise
public import Idealize.ShloMosaic.Lib.Pipeline.ValueKit

@[expose] public section

set_option maxRecDepth 16384

noncomputable section

namespace Cert.GluReferenceIdeal.Rows

open Cert.GluReferenceIdeal Cert.GluReferenceIdeal.Gen Idealize.ShloMosaic Idealize.ShloMosaic.TcCoe Idealize.SL.Sem Cert.Rows

/-- The reference ends with every row after the gated projection's residual step, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = gluRows (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  funext i
  obtain ⟨r, d, rfl⟩ : ∃ (r : Fin 16384) (d : Fin 1024), i = ix2 r d := ⟨i 0, i 1, by blk_ext⟩
  pointwise
  rfl

end Cert.GluReferenceIdeal.Rows

end
-- ==== Proof.Rows.QFinite.lean ====
/- The query call's precondition decoded: every running sum is a real number. -/
module

public import proofs.«01_k».proof.Proof.Attn.Finite

@[expose] public section

set_option maxRecDepth 16384

noncomputable section

namespace Cert.Pre_finite_sums

open Idealize.ShloMosaic

/-- The side conditions of the precondition's operations. -/
theorem facts : Facts := ⟨by decide⟩

/-- Where the precondition holds the running sums are real. -/
theorem real [self : Facts] {x : FVec Ideal S2x8192x1024 .f32} {g : FVec Ideal S1024 .f32} {w : FVec Ideal S1024x1024 .f32} {f : FVec Ideal S2x8192x128 .f32}
    (h : fn (F := Ideal) x g w f = fun _ => 1#1) (j : S2x8192x128.Idx) : (f j : EReal) ≠ ⊤ ∧ (f j : EReal) ≠ ⊥ :=
  Cert.Pre_finite_queries_keys.real_of_abs_lt _ (congrFun h j)

end Cert.Pre_finite_sums

end
-- ==== Proof.Rows.QMath.lean ====
/- The entries of the augmented queries over the extended reals: the scaled projection of a normed row, the row's running sum of log gates,
   three ones and zeros. -/
module

public import proofs.«01_k».proof.Proof.Rows.Math
public import Mathlib.Data.EReal.Operations

@[expose] public section

noncomputable section

namespace Cert.Rows

open Idealize.ShloMosaic

/-- The queries' scale, an eighth. -/
def eighth : EReal := Ideal.ofBits .f32 0x3E000000#32

/-- The scale is a real number not below zero. -/
theorem eighth_real : 0 ≤ eighth ∧ eighth ≠ ⊤ := by
  have e : eighth = ((1 / 8 : ℝ) : EReal) := by
    unfold eighth
    have e1 : (1040187392 >>> 23 % 256 : ℕ) = 124 := by decide
    have e2 : ¬ BitVec.extractLsb' 31 1 1040187392#32 = 1#1 := by decide
    simp only [Ideal.ofBits, Ideal.ieee]
    norm_num [e1, e2]
  rw [e]
  exact ⟨by exact_mod_cast (by norm_num : (0 : ℝ) ≤ 1 / 8), EReal.coe_ne_top _⟩

/-- A finite nonnegative factor moves out of a sum. -/
theorem sum_mul {ι : Type} [Fintype ι] (c : EReal) (h0 : 0 ≤ c) (h1 : c ≠ ⊤) (F : ι → EReal) : ∑ k, F k * c = (∑ k, F k) * c := by
  classical
  have key : ∀ s : Finset ι, ∑ k ∈ s, F k * c = (∑ k ∈ s, F k) * c := fun s => by
    induction s using Finset.induction_on with
    | empty => simp
    | insert a s ha ih => rw [Finset.sum_insert ha, Finset.sum_insert ha, ih, EReal.right_distrib_of_nonneg_of_ne_top h0 h1]
  exact key _

/-- One entry of head `h`'s augmented query of a row. -/
def query (x g : Fin 1024 → EReal) (w : Fin 1024 → Fin 1024 → EReal) (f : Fin 128 → EReal) (h : Fin 16) (j : Fin 128) : EReal :=
  if hj : j.val < 64 then (∑ k, norm x g k * w k ⟨64 * h.val + j.val, by omega⟩) * eighth
  else if j.val = 64 then f ⟨h.val, by omega⟩ else if 67 ≤ j.val ∧ j.val < 70 then 1 else 0

/-- All augmented queries. -/
def queryHeads (x : FVec Ideal ⟨3, ![2, 8192, 1024]⟩ .f32) (g : FVec Ideal ⟨1, ![1024]⟩ .f32) (w : FVec Ideal ⟨2, ![1024, 1024]⟩ .f32)
    (f : FVec Ideal ⟨3, ![2, 8192, 128]⟩ .f32) : FVec Ideal ⟨4, ![2, 16, 8192, 128]⟩ .bf16 := fun i =>
  query (fun k => x (ix3 (i 0) (i 2) k)) (fun k => g (ix1 k)) (fun k c => w (ix2 k c)) (fun l => f (ix3 (i 0) (i 2) l)) (i 1) (i 3)

/-- The projection with padded scaled weights, plus the table of ones, plus the sums' three parts placed by 0/1 tables, is the augmented query
    where the sums are real. -/
theorem query_eq (x g : Fin 1024 → EReal) (w : Fin 1024 → Fin 1024 → EReal) (f : Fin 128 → EReal) (h : Fin 16) (j : Fin 128)
    (W : Fin 1024 → EReal) (O : EReal) (S S' S'' : Fin 128 → EReal) (hf : ∀ l, f l ≠ ⊤ ∧ f l ≠ ⊥)
    (hW : ∀ k, W k = if hj : j.val < 64 then w k ⟨64 * h.val + j.val, by omega⟩ * eighth else 0)
    (hO : O = if 67 ≤ j.val ∧ j.val < 70 then 1 else 0)
    (hS : ∀ l, S l = if l.val < 16 ∧ 128 * h.val + j.val = 128 * l.val + 64 then 1 else 0) :
    (∑ k, norm x g k * W k) + O + (∑ l, f l * S l) + (∑ l, (f l - f l) * S' l) + (∑ l, ((f l - f l) - (f l - f l)) * S'' l)
      = query x g w f h j := by
  have e0 : ∀ l, f l - f l = 0 := fun l => EReal.sub_self (hf l).1 (hf l).2
  simp only [e0, sub_zero, zero_mul, Finset.sum_const_zero, add_zero]
  have eS : ∑ l, f l * S l = if j.val = 64 then f ⟨h.val, by omega⟩ else 0 := by
    simp only [hS]
    split
    · rename_i h64
      rw [Finset.sum_eq_single (⟨h.val, by omega⟩ : Fin 128)]
      · rw [if_pos ⟨h.isLt, by rw [h64]⟩, mul_one]
      · intro l _ hl
        rw [if_neg (fun hc => hl (Fin.ext (show l.val = h.val by omega))), mul_zero]
      · intro hn
        exact absurd (Finset.mem_univ _) hn
    · rename_i h64
      refine Finset.sum_eq_zero fun l _ => ?_
      rw [if_neg (fun hc => h64 (by omega)), mul_zero]
  rw [eS, hO]
  unfold query
  by_cases hj : j.val < 64
  · rw [dif_pos hj, if_neg (by omega), if_neg (by omega), add_zero, add_zero, ← sum_mul _ eighth_real.1 eighth_real.2]
    refine Finset.sum_congr rfl fun k _ => ?_
    rw [hW, dif_pos hj, mul_assoc]
  · have eW : ∑ k, norm x g k * W k = 0 := Finset.sum_eq_zero fun k _ => by rw [hW, dif_neg hj, mul_zero]
    rw [eW, dif_neg hj, zero_add]
    by_cases h64 : j.val = 64
    · rw [if_pos h64, if_pos h64, if_neg (by omega), zero_add]
    · rw [if_neg h64, if_neg h64, add_zero]

end Cert.Rows

end
-- ==== Proof.Rows.QOut.lean ====
/- The query projection call's body at one row block, read at an element. -/
module

public import proofs.«01_k».proof.Proof.Rows.QMath
public import proofs.«01_k».proof.Proof.Gen.QIdeal.Value
public import Idealize.ShloMosaic.Lib.Pipeline.ValueKit
public import Idealize.ShloMosaic.Lib.Pointwise

@[expose] public section

set_option maxRecDepth 16384

noncomputable section

namespace Cert.QIdeal.Rows

open Cert.QIdeal Cert.QIdeal.Gen Idealize.ShloMosaic Idealize.ShloMosaic.TcCoe Cert.Rows
open Idealize.ShloMosaic.Pipeline (Dat)

/-- The windows' block indices. -/
theorem idx : ∀ t : Fin cfg0.N, win0_0.index t = ![(grid0.coords t 0).val, (grid0.coords t 1).val, 0] ∧ win0_1.index t = ![0, 0]
    ∧ win0_2.index t = ![0, 0] ∧ win0_3.index t = ![(grid0.coords t 0).val, (grid0.coords t 1).val, 0]
    ∧ win0_4.index t = ![0, 0, 0] ∧ win0_5.index t = ![0, 0]
    ∧ win0_6.index t = ![(grid0.coords t 0).val, 0, (grid0.coords t 1).val, 0] :=
  (by decide +kernel : ∀ t : Fin grid0.N, _)

/-- The projected row's entries before the split over the heads. -/
theorem wide_at (x : Vec Ideal S1x512x1024 .f32) (g : Vec Ideal S1x1024 .f32) (w : Vec Ideal S1024x2048 .bf16) (f : Vec Ideal S1x512x128 .f32)
    (s : Vec Ideal S3x128x2048 .bf16) (o : Vec Ideal S1x2048 .f32) (r : Fin 512) (p : Fin 2048) :
    (k0_pay28 x g w f s o (ix2 r p) : EReal)
      = (∑ k : Fin 1024, norm (fun k => x (ix3 0 r k)) (fun k => g (ix2 0 k)) k * w (ix2 k p)) + o (ix2 0 p)
        + (∑ l : Fin 128, (f (ix3 0 r l) : EReal) * s (ix3 0 l p))
        + (∑ l : Fin 128, ((f (ix3 0 r l) : EReal) - f (ix3 0 r l)) * s (ix3 1 l p))
        + (∑ l : Fin 128, (((f (ix3 0 r l) : EReal) - f (ix3 0 r l)) - ((f (ix3 0 r l) : EReal) - f (ix3 0 r l))) * s (ix3 2 l p)) := by
  unfold k0_pay28 k0_pay27 k0_pay26 k0_pay25
  pointwise [k0_pay12, k0_pay11, k0_pay10, k0_pay9, k0_pay8, k0_pay7, k0_pay6]
  rfl

/-- One head's columns of the projected rows, as they are stored. -/
theorem head_at (Y : FVec Ideal S512x2048 .bf16) (n : ℕ) (hs : Shape.Slices S512x2048 ![0, n] S512x128) (r : Fin 512) (j : Fin 128) (p : Fin 2048)
    (hp : p.val = n + j.val) :
    shapeCast S1x1x512x128 (extractStridedSlice S512x128 ![0, n] Y hs) shapeCasts_S512x128_S1x1x512x128 (ix4 0 0 r j) = Y (ix2 r p) := by
  pointwise
  blk_ext

/-- The stored block's entries. -/
theorem out_at (x : Vec Ideal S1x512x1024 .f32) (g : Vec Ideal S1x1024 .f32) (w : Vec Ideal S1024x2048 .bf16) (f : Vec Ideal S1x512x128 .f32)
    (s : Vec Ideal S3x128x2048 .bf16) (o : Vec Ideal S1x2048 .f32) (h : Fin 16) (r : Fin 512) (j : Fin 128) (p : Fin 2048)
    (hp : p.val = 128 * h.val + j.val) :
    out0_6 x g w f s o (ix4 0 h r j) = k0_pay28 x g w f s o (ix2 r p) := by
  unfold out0_6
  canon_tiles y h
  all_goals
    change h.val = _ at h1
    change r.val = _ at h2
    change j.val = _ at h3
    have hy : y = ix4 0 0 r j := by blk_ext
    refine (congrArg _ hy).trans (head_at (k0_pay28 x g w f s o) _ ?_ r j p ?_)
    · decide
    · omega

variable (m : (ℓ : Loc nD τ sig) → Buf (Elt Ideal) ℓ)

/-- The table that places each head's sum, as the region finds it. -/
theorem V_v21 (c : Dev nD) : V m c main_v21 = (truncf .bf16 (select (andi (cmpi .slt (iotaInDim S3x128x2048 32 1) (broadcastInDim S3x128x2048 ![] bcast_S_S3x128x2048 (constantI S_ 32 16#32)))
      (cmpi .eq (iotaInDim S3x128x2048 32 2)
        (addi (addi (addi (muli (iotaInDim S3x128x2048 32 1) (broadcastInDim S3x128x2048 ![] bcast_S_S3x128x2048 (constantI S_ 32 128#32)))
          (broadcastInDim S3x128x2048 ![] bcast_S_S3x128x2048 (constantI S_ 32 64#32))) (broadcastInDim S3x128x2048 ![] bcast_S_S3x128x2048 (constantI S_ 32 0#32)))
          (iotaInDim S3x128x2048 32 0))))
      (broadcastInDim S3x128x2048 ![] bcast_S_S3x128x2048 (constant S_ .f32 0x3F800000#32 : FVec Ideal S_ .f32))
      (broadcastInDim S3x128x2048 ![] bcast_S_S3x128x2048 (constant S_ .f32 0x00000000#32 : FVec Ideal S_ .f32)) : FVec Ideal S3x128x2048 .f32) bitsLt_bf16_f32 : FVec Ideal S3x128x2048 .bf16) := by
  simp only [V, hostOps0, hostOps0_1, hostOps0_2, hostOps0_3, hostOps0_4, List.flatten_cons, List.flatten_nil, List.append_nil, List.cons_append, List.nil_append]
  after_results
  rfl
/-- The padded weights, as the region finds them. -/
theorem V_v5 (c : Dev nD) : V m c main_v5 = (truncf .bf16 (shapeCast S1024x2048 (pad S1024x16x128 ![0, 0, 0] ![0, 0, 64] ![0, 0, 0]
      (shapeCast S1024x16x64 (mulf (m ((c : Thread nD τ).loc main_arg2) : FVec Ideal S1024x1024 .f32) (broadcastInDim S1024x1024 ![] bcast_S_S1024x1024 (constant S_ .f32 0x3E000000#32 : FVec Ideal S_ .f32)) : FVec Ideal S1024x1024 .f32)
        shapeCasts_S1024x1024_S1024x16x64)
      (sitofp .f32 (constantI S_ 32 0#32) : FVec Ideal S_ .f32) pads_S1024x16x64_S1024x16x128_000_000_0640 h_S_)
      shapeCasts_S1024x16x128_S1024x2048 : FVec Ideal S1024x2048 .f32) bitsLt_bf16_f32 : FVec Ideal S1024x2048 .bf16) := by
  simp only [V, hostOps0, hostOps0_1, hostOps0_2, hostOps0_3, hostOps0_4, List.flatten_cons, List.flatten_nil, List.append_nil, List.cons_append, List.nil_append]
  after_results
  rfl
/-- The ones' table, as the region finds it. -/
theorem V_cst (c : Dev nD) : V m c main_cst = (fun i => FloatOps.ofBits .f32 (lit0 (S1x2048.rowMajor i)) : FVec Ideal S1x2048 .f32) := by
  simp only [V, hostOps0, hostOps0_1, hostOps0_2, hostOps0_3, hostOps0_4, List.flatten_cons, List.flatten_nil, List.append_nil, List.cons_append, List.nil_append]
  after_results
  rfl

/-- The rows' entries. -/
theorem x_at (c : Dev nD) (t : Fin cfg0.N) (r : Fin 512) (d : Fin 1024) (b : Fin 2) (l : Fin 8192) (hb : b.val = (grid0.coords t 0).val)
    (hl : l.val = 512 * (grid0.coords t 1).val + r.val) :
    iblk m c 0 t (ix3 0 r d) = m ((c : Thread nD τ).loc main_arg0) (ix3 b l d) := by
  refine (congrFun (V_main_arg0 m c) ((win0_0.blk t).view.emb (ix3 0 r d))).trans ?_
  have hE : (win0_0.blk t).view.emb (ix3 0 r d) = ix3 b l d := by blk_ext [idx t]
  exact congrArg _ hE

/-- The gains' entries. -/
theorem g_at (c : Dev nD) (t : Fin cfg0.N) (d : Fin 1024) :
    iblk m c 1 t (ix2 0 d) = m ((c : Thread nD τ).loc main_arg1) (ix1 d) := by
  have e : V m c main_v22 = (shapeCast S1x1024 (m ((c : Thread nD τ).loc main_arg1) : FVec Ideal S1024 .f32) shapeCasts_S1024_S1x1024 : FVec Ideal S1x1024 .f32) := by
    simp only [V, hostOps0, hostOps0_1, hostOps0_2, hostOps0_3, hostOps0_4, List.flatten_cons, List.flatten_nil, List.append_nil, List.cons_append, List.nil_append]
    after_results
    rfl
  refine (congrFun e ((win0_1.blk t).view.emb (ix2 0 d))).trans ?_
  have hE : (win0_1.blk t).view.emb (ix2 0 d) = ix2 0 d := by blk_ext [idx t]
  refine (congrArg _ hE).trans ?_
  pointwise

/-- The sums' entries. -/
theorem f_at (c : Dev nD) (t : Fin cfg0.N) (r : Fin 512) (d : Fin 128) (b : Fin 2) (l : Fin 8192) (hb : b.val = (grid0.coords t 0).val)
    (hl : l.val = 512 * (grid0.coords t 1).val + r.val) :
    iblk m c 3 t (ix3 0 r d) = m ((c : Thread nD τ).loc main_arg3) (ix3 b l d) := by
  refine (congrFun (V_main_arg3 m c) ((win0_3.blk t).view.emb (ix3 0 r d))).trans ?_
  have hE : (win0_3.blk t).view.emb (ix3 0 r d) = ix3 b l d := by blk_ext [idx t]
  exact congrArg _ hE

/-- The placing table's entry, computed on words. -/
theorem place (l : Fin 128) (p : Fin 2048) :
    Scalar.select (α := EReal) (IntOp.andi (IntOp.cmpi CmpIPredicate.slt (BitVec.ofNat 32 l.val) 16#32)
        (IntOp.cmpi CmpIPredicate.eq (BitVec.ofNat 32 p.val)
          (IntOp.addi (IntOp.addi (IntOp.addi (IntOp.muli (BitVec.ofNat 32 l.val) 128#32) 64#32) 0#32) 0#32)))
      1 0 = if l.val < 16 ∧ p.val = 128 * l.val + 64 then 1 else 0 := by
  have e1 : ∀ l : Fin 128, IntOp.cmpi CmpIPredicate.slt (BitVec.ofNat 32 l.val) 16#32 = if l.val < 16 then 1#1 else 0#1 := by decide +kernel
  have e2 : ∀ l : Fin 128, IntOp.addi (IntOp.addi (IntOp.addi (IntOp.muli (BitVec.ofNat 32 l.val) 128#32) 64#32) 0#32) 0#32 = BitVec.ofNat 32 (128 * l.val + 64) := by
    decide +kernel
  have e3 : IntOp.cmpi CmpIPredicate.eq (BitVec.ofNat 32 p.val) (BitVec.ofNat 32 (128 * l.val + 64)) = if p.val = 128 * l.val + 64 then 1#1 else 0#1 := by
    have h1 := l.isLt
    have h2 := p.isLt
    by_cases h : p.val = 128 * l.val + 64
    · rw [if_pos h, h]
      simp [IntOp.cmpi]
    · have hn : BitVec.ofNat 32 p.val ≠ BitVec.ofNat 32 (128 * l.val + 64) := fun e => h (by
        have := congrArg BitVec.toNat e
        simp only [BitVec.toNat_ofNat] at this
        omega)
      rw [if_neg h]
      simp only [IntOp.cmpi, beq_false_of_ne hn]
      rfl
  rw [e1, e2, e3]
  by_cases a : l.val < 16 <;> by_cases b : p.val = 128 * l.val + 64 <;> simp [a, b, IntOp.andi, Scalar.select]

/-- The table that places the heads' sums, at an entry of its first part. -/
theorem s_at (c : Dev nD) (t : Fin cfg0.N) (l : Fin 128) (p : Fin 2048) :
    @Eq EReal (iblk m c 4 t (ix3 0 l p)) (if l.val < 16 ∧ p.val = 128 * l.val + 64 then 1 else 0) := by
  refine (congrFun (V_v21 m c) ((win0_4.blk t).view.emb (ix3 0 l p))).trans ?_
  have hE : (win0_4.blk t).view.emb (ix3 0 l p) = ix3 0 l p := by blk_ext [idx t]
  refine (congrArg _ hE).trans ?_
  pointwise
  exact place l p

/-- The table of ones at an entry. -/
theorem o_at (c : Dev nD) (t : Fin cfg0.N) (h : Fin 16) (j : Fin 128) (p : Fin 2048) (hp : p.val = 128 * h.val + j.val) :
    @Eq EReal (iblk m c 5 t (ix2 0 p)) (if 67 ≤ j.val ∧ j.val < 70 then 1 else 0) := by
  refine (congrFun (V_cst m c) ((win0_5.blk t).view.emb (ix2 0 p))).trans ?_
  have hE : (win0_5.blk t).view.emb (ix2 0 p) = ix2 0 p := by blk_ext [idx t]
  have hr : (S1x2048.rowMajor (ix2 0 p) : Fin 2048) = p := Fin.ext (by
    rw [Shape.rowMajor_val_two]
    show 0 * 2048 + p.val = p.val
    omega)
  have hl : ∀ p : Fin 2048, lit0 p = if 67 ≤ p.val % 128 ∧ p.val % 128 < 70 then 0x3F800000#32 else 0x00000000#32 := by decide +kernel
  rw [hE, hr, hl]
  have hm : p.val % 128 = j.val := by omega
  rw [hm]
  by_cases hj : 67 ≤ j.val ∧ j.val < 70
  · rw [if_pos hj, if_pos hj]
    exact Ideal.ofBits_one_f32
  · rw [if_neg hj, if_neg hj]
    exact Ideal.ofBits_zero_f32

/-- The query weights, as extended reals. -/
abbrev weights (c : Dev nD) (k c' : Fin 1024) : EReal := m ((c : Thread nD τ).loc main_arg2) (ix2 k c')

/-- The running sums, as extended reals. -/
abbrev sums (c : Dev nD) (i : S2x8192x128.Idx) : EReal := m ((c : Thread nD τ).loc main_arg3) i

/-- The padded weights at an entry. -/
theorem w_at (c : Dev nD) (t : Fin cfg0.N) (k : Fin 1024) (h : Fin 16) (j : Fin 128) (p : Fin 2048) (hp : p.val = 128 * h.val + j.val) :
    @Eq EReal (iblk m c 2 t (ix2 k p))
      (if hj : j.val < 64 then weights m c k ⟨64 * h.val + j.val, by omega⟩ * eighth else 0) := by
  refine (congrFun (V_v5 m c) ((win0_2.blk t).view.emb (ix2 k p))).trans ?_
  have hE : (win0_2.blk t).view.emb (ix2 k p) = ix2 k p := by blk_ext [idx t]
  refine (congrArg _ hE).trans ?_
  have hz : ∀ Z : FVec Ideal S1024x16x128 .f32,
      @Eq EReal ((truncf .bf16 (shapeCast S1024x2048 Z shapeCasts_S1024x16x128_S1024x2048 : FVec Ideal S1024x2048 .f32) bitsLt_bf16_f32 : FVec Ideal S1024x2048 .bf16) (ix2 k p))
        (Z (ix3 k h j)) := fun Z => by
    refine shapeCast_apply _ _ _ (ix3 k h j) ?_
    rw [Shape.rowMajor_val_three, Shape.rowMajor_val_two]
    show (k.val * 16 + h.val) * 128 + j.val = k.val * 2048 + p.val
    omega
  refine (hz _).trans ?_
  pointwise
  by_cases hj : j.val < 64
  · rw [dif_pos hj, dif_pos hj]
    have ei : (⟨h.val * 64 + j.val, by omega⟩ : Fin 1024) = ⟨64 * h.val + j.val, by omega⟩ := Fin.ext (by simp only; omega)
    exact congrArg (fun c' => weights m c k c' * eighth) ei
  · rw [dif_neg hj, dif_neg hj]
    show (((0#32 : BitVec 32).toInt : ℝ) : EReal) = 0
    simp

/-- The result array after the run where the sums are real. -/
theorem final (c : Dev nD) (hf : ∀ i : S2x8192x128.Idx, sums m c i ≠ ⊤ ∧ sums m c i ≠ ⊥) :
    (dats m 0 c).arrAt 6 (cfgs 0).N
    = queryHeads (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  have h0 : (grid0.coords t 0).val < 2 := (grid0.coords t 0).isLt
  have h1 : (grid0.coords t 1).val < 16 := (grid0.coords t 1).isLt
  obtain ⟨h, hh⟩ : ∃ h : Fin 16, h = y 1 := ⟨y 1, rfl⟩
  obtain ⟨r, hr⟩ : ∃ r : Fin 512, r = y 2 := ⟨y 2, rfl⟩
  obtain ⟨j, hj⟩ : ∃ j : Fin 128, j = y 3 := ⟨y 3, rfl⟩
  obtain ⟨b, hb⟩ : ∃ b : Fin 2, b.val = (grid0.coords t 0).val := ⟨⟨_, h0⟩, rfl⟩
  obtain ⟨l, hl⟩ : ∃ l : Fin 8192, l.val = 512 * (grid0.coords t 1).val + r.val := ⟨⟨512 * (grid0.coords t 1).val + r.val, by omega⟩, rfl⟩
  obtain ⟨p, hp⟩ : ∃ p : Fin 2048, p.val = 128 * h.val + j.val := ⟨⟨128 * h.val + j.val, by omega⟩, rfl⟩
  have hy : y = ix4 0 h r j := by subst hh hr hj; blk_ext
  have hE : (win0_6.blk t).view.emb y = ix4 b h l j := by subst hy; blk_ext [idx t]
  refine (congrArg (out0_6 (iblk m c 0 t) (iblk m c 1 t) (iblk m c 2 t) (iblk m c 3 t) (iblk m c 4 t) (iblk m c 5 t)) hy).trans
    ((out_at _ _ _ _ _ _ h r j p hp).trans ((wide_at _ _ _ _ _ _ r p).trans ?_))
  refine Eq.trans ?_ (congrArg (queryHeads _ _ _ _) hE).symm
  simp only [x_at m c t r _ b l hb hl, g_at m c t, f_at m c t r _ b l hb hl]
  exact query_eq _ _ _ _ h j _ _ _ _ _ (fun l' => hf _) (fun k => w_at m c t k h j p hp) (o_at m c t h j p hp)
    (fun l' => by rw [s_at m c t l' p, hp])

end Cert.QIdeal.Rows

end
-- ==== Proof.Rows.QRef.lean ====
/- The query projection reference's run, its result as a function of the arguments. -/
module

public import proofs.«01_k».proof.Proof.Rows.QMath
public import proofs.«01_k».proof.Proof.Gen.QReferenceIdeal.Run
public import Idealize.ShloMosaic.Lib.Pointwise
public import Idealize.ShloMosaic.Lib.Pipeline.ValueKit

@[expose] public section

set_option maxRecDepth 16384

noncomputable section

namespace Cert.QReferenceIdeal.Rows

open Cert.QReferenceIdeal Cert.QReferenceIdeal.Gen Idealize.ShloMosaic Idealize.ShloMosaic.TcCoe Idealize.SL.Sem Cert.Rows

/-- The reference ends with every head's augmented queries, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = queryHeads (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Value.run (F := Ideal) m ρ)
  funext i
  obtain ⟨b, h, l, j, rfl⟩ : ∃ (b : Fin 2) (h : Fin 16) (l : Fin 8192) (j : Fin 128), i = ix4 b h l j := ⟨i 0, i 1, i 2, i 3, by blk_ext⟩
  pointwise
  refine Eq.trans ?_ (show query _ _ _ _ h j = _ from rfl)
  unfold query
  by_cases hj : j.val < 64
  · rw [dif_pos hj, dif_pos hj]
    have ei : (⟨h.val * 64 + j.val, by omega⟩ : Fin 1024) = ⟨64 * h.val + j.val, by omega⟩ := Fin.ext (by simp only; omega)
    rw [ei]
    rfl
  · rw [dif_neg hj, dif_neg hj]
    by_cases h64 : j.val = 64
    · rw [dif_pos (by omega), if_pos h64]
      rfl
    · rw [dif_neg (by omega), if_neg h64]
      by_cases h67 : j.val < 67
      · rw [dif_pos (by omega), if_neg (by omega)]
      · rw [dif_neg (by omega)]
        by_cases h70 : j.val < 70
        · rw [dif_pos (by omega), if_pos (by omega)]
        · rw [dif_neg (by omega), if_neg (by omega)]

end Cert.QReferenceIdeal.Rows

end
-- ==== Proof.Rows.KvMath.lean ====
/- The mathematics of the key-value projection over the extended reals: the log of a gate, its running sums over a sequence and by row
   blocks, and the entries of the augmented keys. -/
module

public import proofs.«01_k».proof.Proof.Rows.QMath

@[expose] public section

noncomputable section

namespace Cert.Rows

open Idealize.ShloMosaic

/-- The log of the logistic function at a logit. -/
def gate (u : EReal) : EReal := min u 0 - Ideal.log1p (Ideal.exp (0 - max u (-u)))

/-- The log of one plus an exponential is a real number not below zero where the exponent isn't plus infinity. -/
theorem soft_real (v : EReal) (hv : v ≠ ⊤) : ∃ r : ℝ, 0 ≤ r ∧ Ideal.log1p (Ideal.exp v) = (r : EReal) := by
  have key : ∀ e : ℝ, 0 ≤ e → ∃ r : ℝ, 0 ≤ r ∧ Ideal.log1p (e : EReal) = (r : EReal) := fun e he => by
    refine ⟨Real.log (1 + e), Real.log_nonneg (by linarith), ?_⟩
    have h1 : (1 : EReal) + (e : EReal) = ((1 + e : ℝ) : EReal) := by norm_cast
    show Ideal.log (1 + (e : EReal)) = _
    rw [h1]
    show (if (1 + e) ≤ 0 then (⊥ : EReal) else ((Real.log (1 + e) : ℝ) : EReal)) = _
    rw [if_neg (by linarith)]
  induction v with
  | bot => exact key 0 le_rfl
  | top => exact absurd rfl hv
  | coe r => exact key (Real.exp r) (Real.exp_pos r).le

/-- A number or its negation isn't below zero. -/
theorem abs_nonneg (u : EReal) : 0 ≤ max u (-u) := by
  rcases le_total 0 u with h | h
  · exact le_max_of_le_left h
  · exact le_max_of_le_right (EReal.neg_nonneg.mpr h)

/-- Minus a number not below zero isn't above zero. -/
theorem neg_le {v : EReal} (h : 0 ≤ v) : -v ≤ 0 := by
  simpa using EReal.neg_le_neg_iff.mpr h

/-- The log of a gate is real where its logit isn't minus infinity. -/
theorem gate_real (u : EReal) (hu : u ≠ ⊥) : gate u ≠ ⊤ ∧ gate u ≠ ⊥ := by
  have hv : (0 : EReal) - max u (-u) ≠ ⊤ := by
    have h : (0 : EReal) - max u (-u) ≤ 0 := by
      rw [zero_sub]
      exact neg_le (abs_nonneg u)
    exact ne_top_of_le_ne_top EReal.zero_ne_top h
  obtain ⟨r, -, hr⟩ := soft_real _ hv
  obtain ⟨q, hq⟩ : ∃ q : ℝ, min u 0 = (q : EReal) := by
    induction u with
    | bot => exact absurd rfl hu
    | top => exact ⟨0, by simp⟩
    | coe a => exact ⟨min a 0, by norm_cast⟩
  unfold gate
  rw [hr, hq, ← EReal.coe_sub]
  exact ⟨EReal.coe_ne_top _, EReal.coe_ne_bot _⟩

/-- The log of a gate as minus the log of the sum of two exponentials. -/
theorem gate_eq (u z : EReal) [Decidable (-u ≠ -u)] :
    -(if -u ≠ -u then z else max (-u) 0 + Ideal.log1p (Ideal.exp (-max (-u) (-(-u))))) = gate u := by
  rw [if_neg (fun hn => hn rfl), neg_neg, max_comm (-u) u]
  unfold gate
  rw [zero_sub]
  have hv : -max u (-u) ≠ ⊤ := ne_top_of_le_ne_top EReal.zero_ne_top (neg_le (abs_nonneg u))
  obtain ⟨r, -, hr⟩ := soft_real _ hv
  rw [hr, EReal.neg_add (Or.inr (EReal.coe_ne_top _)) (Or.inr (EReal.coe_ne_bot _))]
  congr 1
  rcases le_total 0 u with h | h
  · rw [min_eq_right h, max_eq_right (neg_le h), neg_zero]
  · rw [min_eq_left h, max_eq_left (EReal.neg_nonneg.mpr h), neg_neg]

/-- The logit of head `l`'s gate at a position. -/
def logit (x : FVec Ideal ⟨3, ![2, 8192, 1024]⟩ .f32) (g : FVec Ideal ⟨1, ![1024]⟩ .f32) (w : FVec Ideal ⟨2, ![1024, 2064]⟩ .f32)
    (a : FVec Ideal ⟨1, ![16]⟩ .f32) (b : Fin 2) (s : Fin 8192) (l : Fin 16) : EReal :=
  (∑ k : Fin 1024, norm (fun k => x (ix3 b s k)) (fun k => g (ix1 k)) k * w (ix2 k ⟨2048 + l.val, by omega⟩)) + a (ix1 l)

/-- The log of the gate of lane `l` at a position, zero in the lanes that hold no head. -/
def gates (x : FVec Ideal ⟨3, ![2, 8192, 1024]⟩ .f32) (g : FVec Ideal ⟨1, ![1024]⟩ .f32) (w : FVec Ideal ⟨2, ![1024, 2064]⟩ .f32)
    (a : FVec Ideal ⟨1, ![16]⟩ .f32) (b : Fin 2) (l : Fin 128) (s : ℕ) : EReal :=
  if h : s < 8192 ∧ l.val < 16 then gate (logit x g w a b ⟨s, h.1⟩ ⟨l.val, h.2⟩) else 0

/-- The sum of the logs of the gates over the first `n` positions. -/
def gateSum (x : FVec Ideal ⟨3, ![2, 8192, 1024]⟩ .f32) (g : FVec Ideal ⟨1, ![1024]⟩ .f32) (w : FVec Ideal ⟨2, ![1024, 2064]⟩ .f32)
    (a : FVec Ideal ⟨1, ![16]⟩ .f32) (b : Fin 2) (l : Fin 128) (n : ℕ) : EReal :=
  ∑ s ∈ Finset.range n, gates x g w a b l s

/-- A sum of real numbers is real. -/
theorem sum_real {ι : Type} (F : ι → EReal) (hF : ∀ i, F i ≠ ⊤ ∧ F i ≠ ⊥) (s : Finset ι) : ∑ i ∈ s, F i ≠ ⊤ ∧ ∑ i ∈ s, F i ≠ ⊥ := by
  classical
  induction s using Finset.induction_on with
  | empty => simp
  | insert i s hi ih =>
    rw [Finset.sum_insert hi]
    exact ⟨EReal.add_ne_top (hF i).1 ih.1, EReal.add_ne_bot_iff.mpr ⟨(hF i).2, ih.2⟩⟩

section
variable {x : FVec Ideal ⟨3, ![2, 8192, 1024]⟩ .f32} {g : FVec Ideal ⟨1, ![1024]⟩ .f32} {w : FVec Ideal ⟨2, ![1024, 2064]⟩ .f32}
  {a : FVec Ideal ⟨1, ![16]⟩ .f32}

/-- The logs of the gates are real where no logit is minus infinity. -/
theorem gates_real (h : ∀ b s l, logit x g w a b s l ≠ ⊥) (b : Fin 2) (l : Fin 128) (s : ℕ) : gates x g w a b l s ≠ ⊤ ∧ gates x g w a b l s ≠ ⊥ := by
  unfold gates
  split
  · exact gate_real _ (h _ _ _)
  · exact ⟨EReal.zero_ne_top, EReal.zero_ne_bot⟩

/-- The running sums are real where no logit is minus infinity. -/
theorem gateSum_real (h : ∀ b s l, logit x g w a b s l ≠ ⊥) (b : Fin 2) (l : Fin 128) (n : ℕ) :
    gateSum x g w a b l n ≠ ⊤ ∧ gateSum x g w a b l n ≠ ⊥ :=
  sum_real _ (fun s => gates_real h b l s) _

end

/-- A sum over the indices up to `r` as a range. -/
theorem sum_le {n : ℕ} (F : ℕ → EReal) (r : Fin n) : (∑ s : Fin n, if s.val ≤ r.val then F s.val else 0) = ∑ s ∈ Finset.range (r.val + 1), F s := by
  rw [← Finset.sum_range (fun s => if s ≤ r.val then F s else 0), ← Finset.sum_filter]
  refine Finset.sum_congr ?_ fun _ _ => rfl
  ext s
  have hr := r.isLt
  simp only [Finset.mem_filter, Finset.mem_range]
  omega

/-- A row block's lower triangle of ones times real logs of gates, split in three, over the sums carried from the blocks before, is the running sum. -/
theorem tile_sum (G : ℕ → EReal) (hG : ∀ s, G s ≠ ⊤ ∧ G s ≠ ⊥) (n : ℕ) (r : Fin 512) (T E : Fin 512 → EReal) (cy : EReal)
    (hT : ∀ s, T s = if s.val ≤ r.val then 1 else 0) (hE : ∀ s, E s = G (n + s.val)) (hc : cy = ∑ s ∈ Finset.range n, G s) :
    (∑ s, T s * E s) + (∑ s, T s * (E s - E s)) + (∑ s, T s * ((E s - E s) - (E s - E s))) + cy = ∑ s ∈ Finset.range (n + r.val + 1), G s := by
  have e0 : ∀ s, E s - E s = 0 := fun s => by rw [hE]; exact EReal.sub_self (hG _).1 (hG _).2
  simp only [e0, sub_zero, mul_zero, Finset.sum_const_zero, add_zero]
  have e1 : ∑ s, T s * E s = ∑ s ∈ Finset.range (r.val + 1), G (n + s) := by
    rw [← sum_le (fun s => G (n + s)) r]
    refine Finset.sum_congr rfl fun s _ => ?_
    rw [hT, hE]
    split
    · rw [one_mul]
    · rw [zero_mul]
  rw [e1, hc, add_comm, add_assoc n]
  exact (Finset.sum_range_add G n (r.val + 1)).symm

/-- One entry of head `h`'s augmented key of a row whose running sum of log gates is `f`. -/
def key (x g : Fin 1024 → EReal) (w : Fin 1024 → Fin 2064 → EReal) (f : EReal) (h : Fin 16) (j : Fin 128) : EReal :=
  if hj : j.val < 64 then ∑ k, norm x g k * w k ⟨64 * h.val + j.val, by omega⟩
  else if j.val < 67 then 1 else if j.val = 67 then -f else 0

/-- All augmented keys. -/
def keyHeads (x : FVec Ideal ⟨3, ![2, 8192, 1024]⟩ .f32) (g : FVec Ideal ⟨1, ![1024]⟩ .f32) (w : FVec Ideal ⟨2, ![1024, 2064]⟩ .f32)
    (a : FVec Ideal ⟨1, ![16]⟩ .f32) : FVec Ideal ⟨4, ![2, 16, 8192, 128]⟩ .bf16 := fun i =>
  key (fun k => x (ix3 (i 0) (i 2) k)) (fun k => g (ix1 k)) (fun k c => w (ix2 k c))
    (gateSum x g w a (i 0) ⟨(i 1).val, lt_of_lt_of_le (i 1).isLt (by decide)⟩ ((i 2).val + 1)) (i 1) (i 3)

/-- All values. -/
def valueRows (x : FVec Ideal ⟨3, ![2, 8192, 1024]⟩ .f32) (g : FVec Ideal ⟨1, ![1024]⟩ .f32) (w : FVec Ideal ⟨2, ![1024, 2064]⟩ .f32) :
    FVec Ideal ⟨3, ![2, 8192, 1024]⟩ .bf16 := fun i =>
  ∑ k : Fin 1024, norm (fun k => x (ix3 (i 0) (i 1) k)) (fun k => g (ix1 k)) k * w (ix2 k ⟨1024 + (i 2).val, by have := (i 2).isLt; change (i 2).val < 1024 at this; omega⟩)

/-- All running sums of the logs of the gates, in 128 lanes. -/
def sumRows (x : FVec Ideal ⟨3, ![2, 8192, 1024]⟩ .f32) (g : FVec Ideal ⟨1, ![1024]⟩ .f32) (w : FVec Ideal ⟨2, ![1024, 2064]⟩ .f32)
    (a : FVec Ideal ⟨1, ![16]⟩ .f32) : FVec Ideal ⟨3, ![2, 8192, 128]⟩ .f32 := fun i =>
  gateSum x g w a (i 0) (i 2) ((i 1).val + 1)

/-- The placing table's entry. -/
def minusOne : EReal := Ideal.ofBits .f32 0xBF800000#32

/-- The placing table's entry is minus one. -/
theorem minusOne_eq : minusOne = -1 := by
  unfold minusOne
  have e1 : (3212836864 >>> 23 % 256 : ℕ) = 127 := by decide
  have e2 : BitVec.extractLsb' 31 1 3212836864#32 = 1#1 := by decide
  simp only [Ideal.ofBits, Ideal.ieee]
  norm_num [e1, e2]

/-- The projection with padded weights, plus the table of ones, plus the sums' three parts placed by tables, is the augmented key where the sums
    are real. -/
theorem key_eq (x g : Fin 1024 → EReal) (w : Fin 1024 → Fin 2064 → EReal) (f : Fin 128 → EReal) (h : Fin 16) (j : Fin 128)
    (W : Fin 1024 → EReal) (O : EReal) (S S' S'' : Fin 128 → EReal) (hf : ∀ l, f l ≠ ⊤ ∧ f l ≠ ⊥)
    (hW : ∀ k, W k = if hj : j.val < 64 then w k ⟨64 * h.val + j.val, by omega⟩ else 0)
    (hO : O = if 64 ≤ j.val ∧ j.val < 67 then 1 else 0)
    (hS : ∀ l, S l = if l.val < 16 ∧ 128 * h.val + j.val = 128 * l.val + 67 then -1 else 0) :
    (∑ k, norm x g k * W k) + O + (∑ l, f l * S l) + (∑ l, (f l - f l) * S' l) + (∑ l, ((f l - f l) - (f l - f l)) * S'' l)
      = key x g w (f ⟨h.val, by omega⟩) h j := by
  have e0 : ∀ l, f l - f l = 0 := fun l => EReal.sub_self (hf l).1 (hf l).2
  simp only [e0, sub_zero, zero_mul, Finset.sum_const_zero, add_zero]
  have eS : ∑ l, f l * S l = if j.val = 67 then -f ⟨h.val, by omega⟩ else 0 := by
    simp only [hS]
    split
    · rename_i h67
      rw [Finset.sum_eq_single (⟨h.val, by omega⟩ : Fin 128)]
      · rw [if_pos ⟨h.isLt, by rw [h67]⟩, mul_neg, mul_one]
      · intro l _ hl
        rw [if_neg (fun hc => hl (Fin.ext (show l.val = h.val by omega))), mul_zero]
      · intro hn
        exact absurd (Finset.mem_univ _) hn
    · rename_i h67
      refine Finset.sum_eq_zero fun l _ => ?_
      rw [if_neg (fun hc => h67 (by omega)), mul_zero]
  rw [eS, hO]
  unfold key
  by_cases hj : j.val < 64
  · rw [dif_pos hj, if_neg (by omega), if_neg (by omega), add_zero, add_zero]
    refine Finset.sum_congr rfl fun k _ => ?_
    rw [hW, dif_pos hj]
  · have eW : ∑ k, norm x g k * W k = 0 := Finset.sum_eq_zero fun k _ => by rw [hW, dif_neg hj, mul_zero]
    rw [eW, dif_neg hj, zero_add]
    by_cases h67 : j.val < 67
    · rw [if_pos (by omega), if_pos h67, if_neg (by omega), add_zero]
    · rw [if_neg (by omega), if_neg h67, zero_add]

end Cert.Rows

end
-- ==== Proof.Rows.KvFinite.lean ====
/- The key-value call's precondition decoded: no gate's logit is minus infinity. -/
module

public import proofs.«01_k».proof.Proof.Rows.KvMath
public import proofs.«01_k».proof.Pre_open_gates
public import Idealize.ShloMosaic.Lib.Pointwise

@[expose] public section

set_option maxRecDepth 16384

noncomputable section

namespace Cert.Pre_open_gates

open Idealize.ShloMosaic Cert.Rows

/-- The side conditions of the precondition's operations. -/
theorem facts : Facts := ⟨by decide, by decide, by decide, by decide, by decide, by decide, by decide, by decide, by decide, by decide, by decide, by decide⟩

/-- Where the precondition holds no gate's logit is minus infinity. -/
theorem logit_ne [self : Facts] {x : FVec Ideal S2x8192x1024 .f32} {g : FVec Ideal S1024 .f32} {w : FVec Ideal S1024x2064 .f32} {a : FVec Ideal S16 .f32}
    (h : fn (F := Ideal) x g w a = fun _ => 1#1) (b : Fin 2) (s : Fin 8192) (l : Fin 16) : logit x g w a b s l ≠ ⊥ := by
  have e : fn (F := Ideal) x g w a (ix3 b s l) = Ideal.cmp .ogt (logit x g w a b s l) (Ideal.ofBits .f32 0xFF800000#32) := by
    unfold fn
    pointwise
    rfl
  have hb := e.symm.trans (congrFun h (ix3 b s l))
  intro hl
  rw [hl] at hb
  simp [Ideal.cmp] at hb

end Cert.Pre_open_gates

end
-- ==== Proof.Rows.KvOpen.lean ====
/- What the key-value projection call's body leaves at one row block, opened to the block's payloads. -/
module

public import proofs.«01_k».proof.Proof.Gen.KvIdeal.Value
public import Idealize.ShloMosaic.Lib.Pipeline.ValueKit
public import Idealize.ShloMosaic.Lib.Pointwise

@[expose] public section

set_option maxRecDepth 16384

noncomputable section

namespace Cert.KvIdeal.Rows

open Cert.KvIdeal Cert.KvIdeal.Gen Idealize.ShloMosaic Idealize.ShloMosaic.TcCoe

/-- The gates' logits of a row block. -/
abbrev logits (x : Vec Ideal S1x512x1024 .f32) (g : Vec Ideal S1x1024 .f32) (wf : Vec Ideal S1024x128 .bf16) (bf : Vec Ideal S1x128 .f32) :
    FVec Ideal S512x128 .f32 := k0_pay5 x g wf bf

/-- The zero the gates are clipped at. -/
abbrev clip : Ideal .f32 := FloatOps.ofBits .f32 0#32

/-- The projected keys of a row block with their augmented columns, before the split over the heads, over the carried sums. -/
abbrev keys (x : Vec Ideal S1x512x1024 .f32) (g : Vec Ideal S1x1024 .f32) (wk : Vec Ideal S1024x2048 .bf16) (L : FVec Ideal S512x128 .f32)
    (s : Vec Ideal S3x128x2048 .bf16) (o : Vec Ideal S1x2048 .f32) (cy : Vec Ideal S1x128 .f32) : FVec Ideal S512x2048 .bf16 :=
  k0_pay12 (k0_pay3 x g) (k0_pay9 L clip cy) (k0_pay10 L clip cy) (k0_pay11 L clip cy) wk o
    (View.ld s (Rect.unit ![0, 0, 0] ![1, 128, 2048] inb_S3x128x2048_S1x128x2048_0_0_0))
    (View.ld s (Rect.unit ![1, 0, 0] ![1, 128, 2048] inb_S3x128x2048_S1x128x2048_1_0_0))
    (View.ld s (Rect.unit ![2, 0, 0] ![1, 128, 2048] inb_S3x128x2048_S1x128x2048_2_0_0))

/-- One head's columns of the projected rows, as they are stored. -/
theorem head_at (Y : FVec Ideal S512x2048 .bf16) (n : ℕ) (hs : Shape.Slices S512x2048 ![0, n] S512x128) (r : Fin 512) (j : Fin 128) (p : Fin 2048)
    (hp : p.val = n + j.val) :
    shapeCast S1x1x512x128 (extractStridedSlice S512x128 ![0, n] Y hs) shapeCasts_S512x128_S1x1x512x128 (ix4 0 0 r j) = Y (ix2 r p) := by
  pointwise
  blk_ext

variable (c : Dev nD) (i : grid0.Coords) (arg2 : Memref sig .tc .vmem S1x512x1024 .f32) (harg2 : arg2.IsWhole) (arg3 : Memref sig .tc .vmem S1x1024 .f32)
  (harg3 : arg3.IsWhole) (arg4 : Memref sig .tc .vmem S1024x2048 .bf16) (harg4 : arg4.IsWhole) (arg5 : Memref sig .tc .vmem S1024x1024 .bf16) (harg5 : arg5.IsWhole)
  (arg6 : Memref sig .tc .vmem S1024x128 .bf16) (harg6 : arg6.IsWhole) (arg7 : Memref sig .tc .vmem S1x128 .f32) (harg7 : arg7.IsWhole)
  (arg8 : Memref sig .tc .vmem S3x128x2048 .bf16) (harg8 : arg8.IsWhole) (arg9 : Memref sig .tc .vmem S1x2048 .f32) (harg9 : arg9.IsWhole)
  (arg10 : Memref sig .tc .vmem S1x16x512x128 .bf16) (harg10 : arg10.IsWhole) (arg11 : Memref sig .tc .vmem S1x512x1024 .bf16) (harg11 : arg11.IsWhole)
  (arg12 : Memref sig .tc .vmem S1x512x128 .f32) (harg12 : arg12.IsWhole) (arg13 : Memref sig .tc .vmem S1x128 .f32) (harg13 : arg13.IsWhole)
  (x0 : Vec Ideal S1x512x1024 .f32) (x1 : Vec Ideal S1x1024 .f32) (x2 : Vec Ideal S1024x2048 .bf16) (x3 : Vec Ideal S1024x1024 .bf16)
  (x4 : Vec Ideal S1024x128 .bf16) (x5 : Vec Ideal S1x128 .f32) (x6 : Vec Ideal S3x128x2048 .bf16) (x7 : Vec Ideal S1x2048 .f32) (xs : Vec Ideal S1x128 .f32)

/-- The sums' block at a sequence's first row block. -/
theorem sumsA (hc0 : cond0_0 i) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = k0_pay8 (logits x0 x1 x4 x5) clip (k0_pay2 (F := Ideal)) := by
  frame_out

/-- The sums' block at a later row block. -/
theorem sumsB (hc0 : ¬cond0_0 i) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs
      = k0_pay8 (logits x0 x1 x4 x5) clip xs := by
  frame_out

/-- The carried sums after a sequence's first row block. -/
theorem carryA (hc0 : cond0_0 i) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = k0_pay7 (logits x0 x1 x4 x5) clip (k0_pay2 (F := Ideal)) := by
  frame_out

/-- The carried sums after a later row block. -/
theorem carryB (hc0 : ¬cond0_0 i) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs
      = k0_pay7 (logits x0 x1 x4 x5) clip xs := by
  frame_out

/-- The values' block at a sequence's first row block. -/
theorem valuesA (hc0 : cond0_0 i) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = k0_pay4 x0 x1 x3 := by
  frame_out

/-- The values' block at a later row block. -/
theorem valuesB (hc0 : ¬cond0_0 i) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs
      = k0_pay4 x0 x1 x3 := by
  frame_out

/-- The keys' block at a sequence's first row block. -/
theorem keysA (hc0 : cond0_0 i) (h : Fin 16) (r : Fin 512) (j : Fin 128) (p : Fin 2048) (hp : p.val = 128 * h.val + j.val) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7
        (ix4 0 h r j)
      = keys x0 x1 x2 (logits x0 x1 x4 x5) x6 x7 (k0_pay2 (F := Ideal)) (ix2 r p) := by
  frame_out
  canon_tiles y h
  all_goals
    change h.val = _ at h1
    change r.val = _ at h2
    change j.val = _ at h3
    have hy : y = ix4 0 0 r j := by blk_ext
    refine (congrArg _ hy).trans (head_at (keys x0 x1 x2 (logits x0 x1 x4 x5) x6 x7 (k0_pay2 (F := Ideal))) _ ?_ r j p ?_)
    · decide
    · omega

/-- The keys' block at a later row block. -/
theorem keysB (hc0 : ¬cond0_0 i) (h : Fin 16) (r : Fin 512) (j : Fin 128) (p : Fin 2048) (hp : p.val = 128 * h.val + j.val) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs
        (ix4 0 h r j)
      = keys x0 x1 x2 (logits x0 x1 x4 x5) x6 x7 xs (ix2 r p) := by
  frame_out
  canon_tiles y h
  all_goals
    change h.val = _ at h1
    change r.val = _ at h2
    change j.val = _ at h3
    have hy : y = ix4 0 0 r j := by blk_ext
    refine (congrArg _ hy).trans (head_at (keys x0 x1 x2 (logits x0 x1 x4 x5) x6 x7 xs) _ ?_ r j p ?_)
    · decide
    · omega

end Cert.KvIdeal.Rows

end
-- ==== Proof.Rows.KvBlocks.lean ====
/- The key-value projection call's blocks at a grid point, read at an element. -/
module

public import proofs.«01_k».proof.Proof.Rows.KvOpen
public import proofs.«01_k».proof.Proof.Rows.KvMath
public import Idealize.ShloMosaic.Lib.Pipeline.ValueKit
public import Idealize.ShloMosaic.Lib.Pointwise

@[expose] public section

set_option maxRecDepth 16384

noncomputable section

namespace Cert.KvIdeal.Rows

open Cert.KvIdeal Cert.KvIdeal.Gen Idealize.ShloMosaic Idealize.ShloMosaic.TcCoe Cert.Rows
open Idealize.ShloMosaic.Pipeline (Dat)

/-- The windows' block indices. -/
theorem idx : ∀ t : Fin cfg0.N, win0_0.index t = ![(grid0.coords t 0).val, (grid0.coords t 1).val, 0] ∧ win0_1.index t = ![0, 0]
    ∧ win0_2.index t = ![0, 0] ∧ win0_3.index t = ![0, 0] ∧ win0_4.index t = ![0, 0] ∧ win0_5.index t = ![0, 0]
    ∧ win0_6.index t = ![0, 0, 0] ∧ win0_7.index t = ![0, 0]
    ∧ win0_8.index t = ![(grid0.coords t 0).val, 0, (grid0.coords t 1).val, 0]
    ∧ win0_9.index t = ![(grid0.coords t 0).val, (grid0.coords t 1).val, 0]
    ∧ win0_10.index t = ![(grid0.coords t 0).val, (grid0.coords t 1).val, 0] :=
  (by decide +kernel : ∀ t : Fin grid0.N, _)

/-- A grid point's coordinates. -/
theorem coords_at : ∀ t : Fin cfg0.N, (grid0.coords t 0).val = t.val / 16 ∧ (grid0.coords t 1).val = t.val % 16 :=
  (by decide +kernel : ∀ t : Fin grid0.N, _)

variable (m : (ℓ : Loc nD τ sig) → Buf (Elt Ideal) ℓ)

/-- The table that places each head's sum, as the region finds it. -/
theorem V_v27 (c : Dev nD) : V m c main_v27 = (truncf .bf16 (select (andi (cmpi .slt (iotaInDim S3x128x2048 32 1) (broadcastInDim S3x128x2048 ![] bcast_S_S3x128x2048 (constantI S_ 32 16#32)))
      (cmpi .eq (iotaInDim S3x128x2048 32 2)
        (addi (addi (addi (muli (iotaInDim S3x128x2048 32 1) (broadcastInDim S3x128x2048 ![] bcast_S_S3x128x2048 (constantI S_ 32 128#32)))
          (broadcastInDim S3x128x2048 ![] bcast_S_S3x128x2048 (constantI S_ 32 64#32))) (broadcastInDim S3x128x2048 ![] bcast_S_S3x128x2048 (constantI S_ 32 3#32)))
          (iotaInDim S3x128x2048 32 0))))
      (broadcastInDim S3x128x2048 ![] bcast_S_S3x128x2048 (constant S_ .f32 0xBF800000#32 : FVec Ideal S_ .f32))
      (broadcastInDim S3x128x2048 ![] bcast_S_S3x128x2048 (constant S_ .f32 0x00000000#32 : FVec Ideal S_ .f32)) : FVec Ideal S3x128x2048 .f32) bitsLt_bf16_f32 : FVec Ideal S3x128x2048 .bf16) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The padded key weights, as the region finds them. -/
theorem V_v4 (c : Dev nD) : V m c main_v4 = (truncf .bf16 (shapeCast S1024x2048 (pad S1024x16x128 ![0, 0, 0] ![0, 0, 64] ![0, 0, 0]
      (shapeCast S1024x16x64 (extractStridedSlice S1024x1024 ![0, 0] (m ((c : Thread nD τ).loc main_arg2) : FVec Ideal S1024x2064 .f32) slices_S1024x2064_S1024x1024_0_0 : FVec Ideal S1024x1024 .f32)
        shapeCasts_S1024x1024_S1024x16x64)
      (sitofp .f32 (constantI S_ 32 0#32) : FVec Ideal S_ .f32) pads_S1024x16x64_S1024x16x128_000_000_0640 h_S_)
      shapeCasts_S1024x16x128_S1024x2048 : FVec Ideal S1024x2048 .f32) bitsLt_bf16_f32 : FVec Ideal S1024x2048 .bf16) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The value weights, as the region finds them. -/
theorem V_v6 (c : Dev nD) : V m c main_v6 = (truncf .bf16 (extractStridedSlice S1024x1024 ![0, 1024] (m ((c : Thread nD τ).loc main_arg2) : FVec Ideal S1024x2064 .f32) slices_S1024x2064_S1024x1024_0_1024 : FVec Ideal S1024x1024 .f32) bitsLt_bf16_f32 : FVec Ideal S1024x1024 .bf16) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results

/-- The padded gate weights, as the region finds them. -/
theorem V_v9 (c : Dev nD) : V m c main_v9 = (truncf .bf16 (pad S1024x128 ![0, 0] ![0, 112] ![0, 0]
      (extractStridedSlice S1024x16 ![0, 2048] (m ((c : Thread nD τ).loc main_arg2) : FVec Ideal S1024x2064 .f32) slices_S1024x2064_S1024x16_0_2048 : FVec Ideal S1024x16 .f32)
      (sitofp .f32 (constantI S_ 32 0#32) : FVec Ideal S_ .f32) pads_S1024x16_S1024x128_000_01120 h_S_ : FVec Ideal S1024x128 .f32) bitsLt_bf16_f32 : FVec Ideal S1024x128 .bf16) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The padded gate biases, as the region finds them. -/
theorem V_v11 (c : Dev nD) : V m c main_v11 = (shapeCast S1x128 (pad S128 ![0] ![112] ![0] (m ((c : Thread nD τ).loc main_arg3) : FVec Ideal S16 .f32)
      (sitofp .f32 (constantI S_ 32 0#32) : FVec Ideal S_ .f32) pads_S16_S128_01120 h_S_ : FVec Ideal S128 .f32) shapeCasts_S128_S1x128 : FVec Ideal S1x128 .f32) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The ones' table, as the region finds it. -/
theorem V_cst (c : Dev nD) : V m c main_cst = (fun i => FloatOps.ofBits .f32 (lit0 (S1x2048.rowMajor i)) : FVec Ideal S1x2048 .f32) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The gains, as the region finds them. -/
theorem V_v28 (c : Dev nD) : V m c main_v28 = (shapeCast S1x1024 (m ((c : Thread nD τ).loc main_arg1) : FVec Ideal S1024 .f32) shapeCasts_S1024_S1x1024 : FVec Ideal S1x1024 .f32) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The rows' entries. -/
theorem x_at (c : Dev nD) (t : Fin cfg0.N) (r : Fin 512) (d : Fin 1024) (b : Fin 2) (l : Fin 8192) (hb : b.val = (grid0.coords t 0).val)
    (hl : l.val = 512 * (grid0.coords t 1).val + r.val) :
    iblk m c 0 t (ix3 0 r d) = m ((c : Thread nD τ).loc main_arg0) (ix3 b l d) := by
  refine (congrFun (V_main_arg0 m c) ((win0_0.blk t).view.emb (ix3 0 r d))).trans ?_
  have hE : (win0_0.blk t).view.emb (ix3 0 r d) = ix3 b l d := by blk_ext [idx t]
  exact congrArg _ hE

/-- The gains' entries. -/
theorem g_at (c : Dev nD) (t : Fin cfg0.N) (d : Fin 1024) :
    iblk m c 1 t (ix2 0 d) = m ((c : Thread nD τ).loc main_arg1) (ix1 d) := by
  refine (congrFun (V_v28 m c) ((win0_1.blk t).view.emb (ix2 0 d))).trans ?_
  have hE : (win0_1.blk t).view.emb (ix2 0 d) = ix2 0 d := by blk_ext [idx t]
  refine (congrArg _ hE).trans ?_
  pointwise

/-- The weights, as extended reals. -/
abbrev weights (c : Dev nD) (k : Fin 1024) (q : Fin 2064) : EReal := m ((c : Thread nD τ).loc main_arg2) (ix2 k q)

/-- The gates' biases, as extended reals. -/
abbrev biases (c : Dev nD) (l : Fin 16) : EReal := m ((c : Thread nD τ).loc main_arg3) (ix1 l)

/-- The padded key weights at an entry. -/
theorem wk_at (c : Dev nD) (t : Fin cfg0.N) (k : Fin 1024) (h : Fin 16) (j : Fin 128) (p : Fin 2048) (hp : p.val = 128 * h.val + j.val) :
    @Eq EReal (iblk m c 2 t (ix2 k p))
      (if hj : j.val < 64 then weights m c k ⟨64 * h.val + j.val, by omega⟩ else 0) := by
  refine (congrFun (V_v4 m c) ((win0_2.blk t).view.emb (ix2 k p))).trans ?_
  have hE : (win0_2.blk t).view.emb (ix2 k p) = ix2 k p := by blk_ext [idx t]
  refine (congrArg _ hE).trans ?_
  have hz : ∀ Z : FVec Ideal S1024x16x128 .f32,
      @Eq EReal ((truncf .bf16 (shapeCast S1024x2048 Z shapeCasts_S1024x16x128_S1024x2048 : FVec Ideal S1024x2048 .f32) bitsLt_bf16_f32 : FVec Ideal S1024x2048 .bf16) (ix2 k p))
        (Z (ix3 k h j)) := fun Z => by
    refine shapeCast_apply _ _ _ (ix3 k h j) ?_
    rw [Shape.rowMajor_val_three, Shape.rowMajor_val_two]
    show (k.val * 16 + h.val) * 128 + j.val = k.val * 2048 + p.val
    omega
  refine (hz _).trans ?_
  pointwise
  by_cases hj : j.val < 64
  · rw [dif_pos hj, dif_pos hj]
    exact congrArg (fun q => weights m c k q) (Fin.ext (by simp only; omega))
  · rw [dif_neg hj, dif_neg hj]
    show (((0#32 : BitVec 32).toInt : ℝ) : EReal) = 0
    simp

/-- The value weights at an entry. -/
theorem wv_at (c : Dev nD) (t : Fin cfg0.N) (k : Fin 1024) (p : Fin 1024) :
    @Eq EReal (iblk m c 3 t (ix2 k p)) (weights m c k ⟨1024 + p.val, by omega⟩) := by
  refine (congrFun (V_v6 m c) ((win0_3.blk t).view.emb (ix2 k p))).trans ?_
  have hE : (win0_3.blk t).view.emb (ix2 k p) = ix2 k p := by blk_ext [idx t]
  refine (congrArg _ hE).trans ?_
  pointwise

/-- The gate weights at an entry of a lane that holds a head. -/
theorem wf_at (c : Dev nD) (t : Fin cfg0.N) (k : Fin 1024) (l : Fin 128) (hl : l.val < 16) :
    @Eq EReal (iblk m c 4 t (ix2 k l)) (weights m c k ⟨2048 + l.val, by omega⟩) := by
  refine (congrFun (V_v9 m c) ((win0_4.blk t).view.emb (ix2 k l))).trans ?_
  have hE : (win0_4.blk t).view.emb (ix2 k l) = ix2 k l := by blk_ext [idx t]
  refine (congrArg _ hE).trans ?_
  pointwise
  rw [dif_pos hl]

/-- Biases padded to 128 lanes, at a lane that holds a head. -/
theorem pad_bias (Z : FVec Ideal S16 .f32) (l : Fin 128) (hl : l.val < 16) :
    (shapeCast S1x128 (pad S128 ![0] ![112] ![0] Z (sitofp .f32 (constantI S_ 32 0#32) : FVec Ideal S_ .f32) pads_S16_S128_01120 h_S_ : FVec Ideal S128 .f32)
      shapeCasts_S128_S1x128 : FVec Ideal S1x128 .f32) (ix2 0 l) = Z (ix1 ⟨l.val, hl⟩) := by
  pointwise
  exact dif_pos hl

/-- The gate biases at an entry of a lane that holds a head. -/
theorem bf_at (c : Dev nD) (t : Fin cfg0.N) (l : Fin 128) (hl : l.val < 16) :
    @Eq EReal (iblk m c 5 t (ix2 0 l)) (biases m c ⟨l.val, hl⟩) := by
  refine (congrFun (V_v11 m c) ((win0_5.blk t).view.emb (ix2 0 l))).trans ?_
  have hE : (win0_5.blk t).view.emb (ix2 0 l) = ix2 0 l := by blk_ext [idx t]
  refine (congrArg _ hE).trans ?_
  exact pad_bias _ l hl

/-- The placing table's entry, computed on words. -/
theorem place (l : Fin 128) (p : Fin 2048) :
    Scalar.select (α := EReal) (IntOp.andi (IntOp.cmpi CmpIPredicate.slt (BitVec.ofNat 32 l.val) 16#32)
        (IntOp.cmpi CmpIPredicate.eq (BitVec.ofNat 32 p.val)
          (IntOp.addi (IntOp.addi (IntOp.addi (IntOp.muli (BitVec.ofNat 32 l.val) 128#32) 64#32) 3#32) 0#32)))
      minusOne 0 = if l.val < 16 ∧ p.val = 128 * l.val + 67 then -1 else 0 := by
  have e1 : ∀ l : Fin 128, IntOp.cmpi CmpIPredicate.slt (BitVec.ofNat 32 l.val) 16#32 = if l.val < 16 then 1#1 else 0#1 := by decide +kernel
  have e2 : ∀ l : Fin 128, IntOp.addi (IntOp.addi (IntOp.addi (IntOp.muli (BitVec.ofNat 32 l.val) 128#32) 64#32) 3#32) 0#32 = BitVec.ofNat 32 (128 * l.val + 67) := by
    decide +kernel
  have e3 : IntOp.cmpi CmpIPredicate.eq (BitVec.ofNat 32 p.val) (BitVec.ofNat 32 (128 * l.val + 67)) = if p.val = 128 * l.val + 67 then 1#1 else 0#1 := by
    have h1 := l.isLt
    have h2 := p.isLt
    by_cases h : p.val = 128 * l.val + 67
    · rw [if_pos h, h]
      simp [IntOp.cmpi]
    · have hn : BitVec.ofNat 32 p.val ≠ BitVec.ofNat 32 (128 * l.val + 67) := fun e => h (by
        have := congrArg BitVec.toNat e
        simp only [BitVec.toNat_ofNat] at this
        omega)
      rw [if_neg h]
      simp only [IntOp.cmpi, beq_false_of_ne hn]
      rfl
  rw [e1, e2, e3, minusOne_eq]
  by_cases a : l.val < 16 <;> by_cases b : p.val = 128 * l.val + 67 <;> simp [a, b, IntOp.andi, Scalar.select]

/-- The table that places the heads' sums, at an entry of its first part. -/
theorem s_at (c : Dev nD) (t : Fin cfg0.N) (l : Fin 128) (p : Fin 2048) :
    @Eq EReal (iblk m c 6 t (ix3 0 l p)) (if l.val < 16 ∧ p.val = 128 * l.val + 67 then -1 else 0) := by
  refine (congrFun (V_v27 m c) ((win0_6.blk t).view.emb (ix3 0 l p))).trans ?_
  have hE : (win0_6.blk t).view.emb (ix3 0 l p) = ix3 0 l p := by blk_ext [idx t]
  refine (congrArg _ hE).trans ?_
  pointwise
  exact place l p

/-- The table of ones at an entry. -/
theorem o_at (c : Dev nD) (t : Fin cfg0.N) (h : Fin 16) (j : Fin 128) (p : Fin 2048) (hp : p.val = 128 * h.val + j.val) :
    @Eq EReal (iblk m c 7 t (ix2 0 p)) (if 64 ≤ j.val ∧ j.val < 67 then 1 else 0) := by
  refine (congrFun (V_cst m c) ((win0_7.blk t).view.emb (ix2 0 p))).trans ?_
  have hE : (win0_7.blk t).view.emb (ix2 0 p) = ix2 0 p := by blk_ext [idx t]
  have hr : (S1x2048.rowMajor (ix2 0 p) : Fin 2048) = p := Fin.ext (by
    rw [Shape.rowMajor_val_two]
    show 0 * 2048 + p.val = p.val
    omega)
  have hl : ∀ p : Fin 2048, lit0 p = if 64 ≤ p.val % 128 ∧ p.val % 128 < 67 then 0x3F800000#32 else 0x00000000#32 := by decide +kernel
  rw [hE, hr, hl]
  have hm : p.val % 128 = j.val := by omega
  rw [hm]
  by_cases hj : 64 ≤ j.val ∧ j.val < 67
  · rw [if_pos hj, if_pos hj]
    exact Ideal.ofBits_one_f32
  · rw [if_neg hj, if_neg hj]
    exact Ideal.ofBits_zero_f32

end Cert.KvIdeal.Rows

end
-- ==== Proof.Rows.KvOut.lean ====
/- The key-value projection call's results after the run: the augmented keys, the values and the running sums of the logs of the gates, where no
   gate's logit is minus infinity. -/
module

public import proofs.«01_k».proof.Proof.Rows.KvBlocks

@[expose] public section

set_option maxRecDepth 16384

noncomputable section

namespace Cert.KvIdeal.Rows

open Cert.KvIdeal Cert.KvIdeal.Gen Idealize.ShloMosaic Idealize.ShloMosaic.TcCoe Cert.Rows
open Idealize.ShloMosaic.Pipeline (Dat)

/-- An entry of the lower triangle of ones. -/
abbrev tri (r s : Fin 512) : EReal :=
  (FloatOps.sitofp .f32 (BitVec.setWidth 32 (IntOp.cmpi .sge (BitVec.ofNat 32 r.val) (BitVec.ofNat 32 s.val))) : Ideal .f32)

/-- The lower triangle of ones holds ones up to the diagonal. -/
theorem tri_eq (r s : Fin 512) : tri r s = if s.val ≤ r.val then 1 else 0 := by
  have e : ∀ s : Fin 512, (BitVec.ofNat 32 s.val).toInt = (s.val : ℤ) := by decide +kernel
  have h : IntOp.cmpi .sge (BitVec.ofNat 32 r.val) (BitVec.ofNat 32 s.val) = if s.val ≤ r.val then 1#1 else 0#1 := by
    simp only [IntOp.cmpi, BitVec.sle_eq_decide, e]
    by_cases hs : s.val ≤ r.val <;> simp [hs]
  unfold tri
  rw [h]
  by_cases hs : s.val ≤ r.val
  · rw [if_pos hs, if_pos hs]
    show ((((BitVec.setWidth 32 1#1 : BitVec 32).toInt : ℝ)) : EReal) = 1
    simp
  · rw [if_neg hs, if_neg hs]
    show ((((BitVec.setWidth 32 0#1 : BitVec 32).toInt : ℝ)) : EReal) = 0
    simp

/-- The lanes that hold a head, computed on words. -/
theorem lane (l : Fin 128) : IntOp.cmpi CmpIPredicate.slt (BitVec.ofNat 32 l.val) 16#32 = if l.val < 16 then 1#1 else 0#1 := by
  have e1 : ∀ l : Fin 128, IntOp.cmpi CmpIPredicate.slt (BitVec.ofNat 32 l.val) 16#32 = if l.val < 16 then 1#1 else 0#1 := by decide +kernel
  exact e1 l

/-- A row block's running sums at an entry. -/
theorem block_at (L : FVec Ideal S512x128 .f32) (cy : Vec Ideal S1x128 .f32) (r : Fin 512) (l : Fin 128) (E : Fin 512 → EReal)
    (hE : ∀ s, E s = if l.val < 16 then gate (L (ix2 s l)) else 0) :
    @Eq EReal (k0_pay6 L clip cy (ix2 r l))
      ((∑ s, tri r s * E s) + (∑ s, tri r s * (E s - E s)) + (∑ s, tri r s * ((E s - E s) - (E s - E s))) + cy (ix2 0 l)) := by
  have hE' : E = fun s => if l.val < 16 then gate (L (ix2 s l)) else 0 := funext hE
  subst hE'
  unfold k0_pay6
  pointwise
  rw [lane l]
  by_cases hl : l.val < 16
  · simp only [if_pos hl]
    rfl
  · simp only [if_neg hl, mul_zero]
    rfl

/-- A row block's running sums over the sums carried from the blocks before. -/
theorem block_sum (G : ℕ → EReal) (hG : ∀ s, G s ≠ ⊤ ∧ G s ≠ ⊥) (n : ℕ) (L : FVec Ideal S512x128 .f32) (cy : Vec Ideal S1x128 .f32) (r : Fin 512) (l : Fin 128)
    (hL : ∀ s : Fin 512, (if l.val < 16 then gate (L (ix2 s l)) else 0) = G (n + s.val))
    (hc : @Eq EReal (cy (ix2 0 l)) (∑ s ∈ Finset.range n, G s)) :
    @Eq EReal (k0_pay6 L clip cy (ix2 r l)) (∑ s ∈ Finset.range (n + r.val + 1), G s) :=
  (block_at L cy r l _ (fun _ => rfl)).trans (tile_sum G hG n r _ _ _ (tri_eq r) hL hc)

variable (m : (ℓ : Loc nD τ sig) → Buf (Elt Ideal) ℓ)

/-- The arguments as arrays. -/
abbrev X (c : Dev nD) : FVec Ideal S2x8192x1024 .f32 := m ((c : Thread nD τ).loc main_arg0)
/-- The gains. -/
abbrev Gn (c : Dev nD) : FVec Ideal S1024 .f32 := m ((c : Thread nD τ).loc main_arg1)
/-- The weights. -/
abbrev Wt (c : Dev nD) : FVec Ideal S1024x2064 .f32 := m ((c : Thread nD τ).loc main_arg2)
/-- The gates' biases. -/
abbrev Bi (c : Dev nD) : FVec Ideal S16 .f32 := m ((c : Thread nD τ).loc main_arg3)

/-- The logits' block at a grid point. -/
abbrev logitsAt (c : Dev nD) (t : Fin cfg0.N) : FVec Ideal S512x128 .f32 := logits (iblk m c 0 t) (iblk m c 1 t) (iblk m c 4 t) (iblk m c 5 t)

/-- A logit of a lane that holds a head. -/
theorem logits_at (c : Dev nD) (t : Fin cfg0.N) (r : Fin 512) (l : Fin 128) (hl : l.val < 16) (b : Fin 2) (s : Fin 8192) (hb : b.val = (grid0.coords t 0).val)
    (hs : s.val = 512 * (grid0.coords t 1).val + r.val) :
    @Eq EReal (logitsAt m c t (ix2 r l)) (logit (X m c) (Gn m c) (Wt m c) (Bi m c) b s ⟨l.val, hl⟩) := by
  have e : ∀ (x : Vec Ideal S1x512x1024 .f32) (g : Vec Ideal S1x1024 .f32) (w : Vec Ideal S1024x128 .bf16) (a : Vec Ideal S1x128 .f32),
      @Eq EReal (k0_pay5 x g w a (ix2 r l)) ((∑ k : Fin 1024, norm (fun k => x (ix3 0 r k)) (fun k => g (ix2 0 k)) k * w (ix2 k l)) + a (ix2 0 l)) := fun x g w a => by
    unfold k0_pay5
    pointwise [k0_pay3]
    rfl
  refine (e _ _ _ _).trans ?_
  simp only [x_at m c t r _ b s hb hs, g_at m c t]
  unfold logit
  exact congrArg₂ (fun u v : EReal => u + v) (Finset.sum_congr rfl fun k _ => congrArg (fun u : EReal => norm _ _ k * u) (wf_at m c t k l hl)) (bf_at m c t l hl)

/-- What a grid point finds carried: zeros at a sequence's first row block, what the point before left at a later one. -/
abbrev carried (c : Dev nD) (t : Fin cfg0.N) : Vec Ideal S1x128 .f32 :=
  if t.val % 16 = 0 then k0_pay2 (F := Ideal) else (outsAt0 m c (t.val - 1) (Nat.lt_of_le_of_lt (Nat.sub_le _ _) t.isLt)).2.2.2

/-- What a grid point leaves carried. -/
theorem carry_out (c : Dev nD) (t : Fin cfg0.N) : (outsAt0 m c t.val t.isLt).2.2.2 = k0_pay7 (logitsAt m c t) clip (carried m c t) := by
  by_cases h0 : t.val % 16 = 0
  · refine (congrArg (fun q => q.2.2.2) (outsAt0_A m c t h0)).trans ((carryA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0)).trans ?_)
    unfold carried
    rw [if_pos h0]
  · refine (congrArg (fun q => q.2.2.2) (outsAt0_B m c t h0)).trans ((carryB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (fun h => h0 ((hcond0_0 t).mp h))).trans ?_)
    unfold carried
    rw [if_neg h0]

/-- What a grid point leaves in the sums' block. -/
theorem sums_out (c : Dev nD) (t : Fin cfg0.N) : (outsAt0 m c t.val t.isLt).2.2.1 = k0_pay8 (logitsAt m c t) clip (carried m c t) := by
  by_cases h0 : t.val % 16 = 0
  · have e : (outsAt0 m c t.val t.isLt).2.2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
      simp only [outsAt0_A m c t h0]
    refine e.trans ((sumsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0)).trans ?_)
    unfold carried
    rw [if_pos h0]
  · have e : (outsAt0 m c t.val t.isLt).2.2.1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 := by
      simp only [outsAt0_B m c t h0]
    refine e.trans ((sumsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (fun h => h0 ((hcond0_0 t).mp h))).trans ?_)
    unfold carried
    rw [if_neg h0]

/-- What a grid point leaves in the values' block. -/
theorem values_out (c : Dev nD) (t : Fin cfg0.N) : (outsAt0 m c t.val t.isLt).2.1 = k0_pay4 (iblk m c 0 t) (iblk m c 1 t) (iblk m c 3 t) := by
  by_cases h0 : t.val % 16 = 0
  · have e : (outsAt0 m c t.val t.isLt).2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
      simp only [outsAt0_A m c t h0]
    exact e.trans (valuesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0))
  · have e : (outsAt0 m c t.val t.isLt).2.1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 := by
      simp only [outsAt0_B m c t h0]
    exact e.trans (valuesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (fun h => h0 ((hcond0_0 t).mp h)))

/-- What a grid point leaves in the keys' block. -/
theorem keys_out (c : Dev nD) (t : Fin cfg0.N) (h : Fin 16) (r : Fin 512) (j : Fin 128) (p : Fin 2048) (hp : p.val = 128 * h.val + j.val) :
    (outsAt0 m c t.val t.isLt).1 (ix4 0 h r j)
      = keys (iblk m c 0 t) (iblk m c 1 t) (iblk m c 2 t) (logitsAt m c t) (iblk m c 6 t) (iblk m c 7 t) (carried m c t) (ix2 r p) := by
  by_cases h0 : t.val % 16 = 0
  · have e : (outsAt0 m c t.val t.isLt).1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
      simp only [outsAt0_A m c t h0]
    refine (congrFun e (ix4 0 h r j)).trans ((keysA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) h r j p hp).trans ?_)
    unfold carried
    rw [if_pos h0]
  · have e : (outsAt0 m c t.val t.isLt).1 = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 := by
      simp only [outsAt0_B m c t h0]
    refine (congrFun e (ix4 0 h r j)).trans ((keysB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 (fun h => h0 ((hcond0_0 t).mp h)) h r j p hp).trans ?_)
    unfold carried
    rw [if_neg h0]

section
variable (c : Dev nD) (hf : ∀ b s l, logit (X m c) (Gn m c) (Wt m c) (Bi m c) b s l ≠ ⊥)
include hf

/-- The running sums' block over the right carried sums. -/
theorem block_of (t : Fin cfg0.N) (b : Fin 2) (hb : b.val = (grid0.coords t 0).val) (cy : Vec Ideal S1x128 .f32)
    (hc : ∀ l : Fin 128, @Eq EReal (cy (ix2 0 l)) (gateSum (X m c) (Gn m c) (Wt m c) (Bi m c) b l (512 * (grid0.coords t 1).val))) (r : Fin 512) (l : Fin 128) :
    @Eq EReal (k0_pay6 (logitsAt m c t) clip cy (ix2 r l)) (gateSum (X m c) (Gn m c) (Wt m c) (Bi m c) b l (512 * (grid0.coords t 1).val + r.val + 1)) := by
  refine block_sum (gates (X m c) (Gn m c) (Wt m c) (Bi m c) b l) (fun s => gates_real hf b l s) _ _ _ r l (fun s => ?_) (hc l)
  have h1 : (grid0.coords t 1).val < 16 := (grid0.coords t 1).isLt
  have hs : 512 * (grid0.coords t 1).val + s.val < 8192 := by omega
  unfold gates
  by_cases hl : l.val < 16
  · rw [if_pos hl, dif_pos ⟨hs, hl⟩]
    exact congrArg gate (logits_at m c t s l hl b ⟨_, hs⟩ hb rfl)
  · rw [if_neg hl, dif_neg (fun h => hl h.2)]

/-- At a sequence's first row block nothing is carried. -/
theorem carried_zero (t : Fin cfg0.N) (h0 : t.val % 16 = 0) (b : Fin 2) (l : Fin 128) :
    @Eq EReal (carried m c t (ix2 0 l)) (gateSum (X m c) (Gn m c) (Wt m c) (Bi m c) b l (512 * (grid0.coords t 1).val)) := by
  unfold carried
  rw [if_pos h0, (coords_at t).2, h0]
  refine Eq.trans (b := (0 : EReal)) ?_ ?_
  · unfold k0_pay2
    exact Ideal.ofBits_zero_f32
  · unfold gateSum
    rw [Nat.mul_zero, Finset.range_zero, Finset.sum_empty]

/-- The carried sums after the `n`-th grid point: the sums up to the end of its row block. -/
theorem carry_at (n : ℕ) : ∀ (hn : n < cfg0.N) (b : Fin 2), b.val = n / 16 → ∀ l : Fin 128,
    @Eq EReal ((outsAt0 m c n hn).2.2.2 (ix2 0 l)) (gateSum (X m c) (Gn m c) (Wt m c) (Bi m c) b l (512 * (n % 16 + 1))) := by
  have e : ∀ (L : FVec Ideal S512x128 .f32) (cy : Vec Ideal S1x128 .f32) (l : Fin 128), k0_pay7 L clip cy (ix2 0 l) = k0_pay6 L clip cy (ix2 (511 : Fin 512) l) := fun L cy l => by
    unfold k0_pay7
    pointwise
  induction n with
  | zero =>
    intro hn b hb l
    obtain ⟨c0, c1⟩ := coords_at ⟨0, hn⟩
    refine (congrFun (carry_out m c ⟨0, hn⟩) (ix2 0 l)).trans ((e _ _ l).trans ((block_of m c hf ⟨0, hn⟩ b (by rw [c0, hb]) _ (fun l => ?_) 511 l).trans ?_))
    · exact carried_zero m c hf ⟨0, hn⟩ rfl b l
    · rw [c1]
      rfl
  | succ k ih =>
    intro hn b hb l
    obtain ⟨c0, c1⟩ := coords_at ⟨k + 1, hn⟩
    refine (congrFun (carry_out m c ⟨k + 1, hn⟩) (ix2 0 l)).trans ((e _ _ l).trans ((block_of m c hf ⟨k + 1, hn⟩ b (by rw [c0, hb]) _ (fun l => ?_) 511 l).trans ?_))
    · by_cases h0 : (k + 1) % 16 = 0
      · exact carried_zero m c hf ⟨k + 1, hn⟩ h0 b l
      · unfold carried
        rw [if_neg h0, c1]
        have hm : (k + 1) % 16 = k % 16 + 1 := by omega
        refine (ih (Nat.lt_of_succ_lt hn) b (by omega) l).trans ?_
        show _ = gateSum _ _ _ _ b l (512 * ((k + 1) % 16))
        rw [hm]
    · rw [c1]
      rfl

/-- What a grid point finds carried: the sums up to its row block. -/
theorem carried_at (t : Fin cfg0.N) (b : Fin 2) (hb : b.val = (grid0.coords t 0).val) (l : Fin 128) :
    @Eq EReal (carried m c t (ix2 0 l)) (gateSum (X m c) (Gn m c) (Wt m c) (Bi m c) b l (512 * (grid0.coords t 1).val)) := by
  obtain ⟨c0, c1⟩ := coords_at t
  by_cases h0 : t.val % 16 = 0
  · exact carried_zero m c hf t h0 b l
  · unfold carried
    rw [if_neg h0, c1]
    refine (carry_at m c hf (t.val - 1) _ b (by omega) l).trans ?_
    have hm : (t.val - 1) % 16 + 1 = t.val % 16 := by omega
    rw [hm]

/-- A row block's running sums. -/
theorem running_at (t : Fin cfg0.N) (b : Fin 2) (hb : b.val = (grid0.coords t 0).val) (s : Fin 8192) (r : Fin 512)
    (hs : s.val = 512 * (grid0.coords t 1).val + r.val) (l : Fin 128) :
    @Eq EReal (k0_pay6 (logitsAt m c t) clip (carried m c t) (ix2 r l)) (gateSum (X m c) (Gn m c) (Wt m c) (Bi m c) b l (s.val + 1)) := by
  rw [hs]
  exact block_of m c hf t b hb _ (carried_at m c hf t b hb) r l

/-- The running sums' array after the run. -/
theorem final10 : (dats m 0 c).arrAt 10 (cfgs 0).N = sumRows (X m c) (Gn m c) (Wt m c) (Bi m c) := by
  refine (dats m 0 c).arrAt_eq_of_covers 10 _ (by decide +kernel) fun t _ y => ?_
  blk_simp
  rw [after0_10]
  have h0 : (grid0.coords t 0).val < 2 := (grid0.coords t 0).isLt
  have h1 : (grid0.coords t 1).val < 16 := (grid0.coords t 1).isLt
  obtain ⟨r, hr⟩ : ∃ r : Fin 512, r = y 1 := ⟨y 1, rfl⟩
  obtain ⟨l, hl⟩ : ∃ l : Fin 128, l = y 2 := ⟨y 2, rfl⟩
  obtain ⟨b, hb⟩ : ∃ b : Fin 2, b.val = (grid0.coords t 0).val := ⟨⟨_, h0⟩, rfl⟩
  obtain ⟨s, hs⟩ : ∃ s : Fin 8192, s.val = 512 * (grid0.coords t 1).val + r.val := ⟨⟨512 * (grid0.coords t 1).val + r.val, by omega⟩, rfl⟩
  have hy : y = ix3 0 r l := by subst hr hl; blk_ext
  have hE : (win0_10.blk t).view.emb y = ix3 b s l := by subst hy; blk_ext [idx t]
  have e : ∀ (L : FVec Ideal S512x128 .f32) (cy : Vec Ideal S1x128 .f32), k0_pay8 L clip cy (ix3 0 r l) = k0_pay6 L clip cy (ix2 r l) := fun L cy => by
    unfold k0_pay8
    pointwise
  refine (congrArg (outsAt0 m c t.val t.isLt).2.2.1 hy).trans ((congrFun (sums_out m c t) _).trans ((e _ _).trans ?_))
  refine Eq.trans ?_ (congrArg (sumRows _ _ _ _) hE).symm
  exact running_at m c hf t b hb s r hs l

omit hf in
/-- The values' array after the run. -/
theorem final9 : (dats m 0 c).arrAt 9 (cfgs 0).N = valueRows (X m c) (Gn m c) (Wt m c) := by
  refine (dats m 0 c).arrAt_eq_of_covers 9 _ (by decide +kernel) fun t _ y => ?_
  blk_simp
  rw [after0_9]
  have h0 : (grid0.coords t 0).val < 2 := (grid0.coords t 0).isLt
  have h1 : (grid0.coords t 1).val < 16 := (grid0.coords t 1).isLt
  obtain ⟨r, hr⟩ : ∃ r : Fin 512, r = y 1 := ⟨y 1, rfl⟩
  obtain ⟨p, hp⟩ : ∃ p : Fin 1024, p = y 2 := ⟨y 2, rfl⟩
  obtain ⟨b, hb⟩ : ∃ b : Fin 2, b.val = (grid0.coords t 0).val := ⟨⟨_, h0⟩, rfl⟩
  obtain ⟨s, hs⟩ : ∃ s : Fin 8192, s.val = 512 * (grid0.coords t 1).val + r.val := ⟨⟨512 * (grid0.coords t 1).val + r.val, by omega⟩, rfl⟩
  have hy : y = ix3 0 r p := by subst hr hp; blk_ext
  have hE : (win0_9.blk t).view.emb y = ix3 b s p := by subst hy; blk_ext [idx t]
  have e : ∀ (x : Vec Ideal S1x512x1024 .f32) (g : Vec Ideal S1x1024 .f32) (w : Vec Ideal S1024x1024 .bf16),
      @Eq EReal (k0_pay4 x g w (ix3 0 r p)) (∑ k : Fin 1024, norm (fun k => x (ix3 0 r k)) (fun k => g (ix2 0 k)) k * w (ix2 k p)) := fun x g w => by
    unfold k0_pay4
    pointwise [k0_pay3]
    rfl
  refine (congrArg (outsAt0 m c t.val t.isLt).2.1 hy).trans ((congrFun (values_out m c t) _).trans ((e _ _ _).trans ?_))
  refine Eq.trans ?_ (congrArg (valueRows _ _ _) hE).symm
  simp only [x_at m c t r _ b s hb hs, g_at m c t]
  exact Finset.sum_congr rfl fun k _ => congrArg (fun u : EReal => norm _ _ k * u) (wv_at m c t k p)

omit hf in
/-- The projected keys' entries before the split over the heads. -/
theorem wide_at (x : Vec Ideal S1x512x1024 .f32) (g : Vec Ideal S1x1024 .f32) (w : Vec Ideal S1024x2048 .bf16) (L : FVec Ideal S512x128 .f32)
    (q : Vec Ideal S3x128x2048 .bf16) (o : Vec Ideal S1x2048 .f32) (cy : Vec Ideal S1x128 .f32) (r : Fin 512) (p : Fin 2048) (F : Fin 128 → EReal)
    (hF : ∀ l, F l = k0_pay6 L clip cy (ix2 r l)) :
    @Eq EReal (keys x g w L q o cy (ix2 r p))
      ((∑ k : Fin 1024, norm (fun k => x (ix3 0 r k)) (fun k => g (ix2 0 k)) k * w (ix2 k p)) + o (ix2 0 p)
        + (∑ l : Fin 128, F l * q (ix3 0 l p)) + (∑ l : Fin 128, (F l - F l) * q (ix3 1 l p))
        + (∑ l : Fin 128, ((F l - F l) - (F l - F l)) * q (ix3 2 l p))) := by
  have hF' : F = fun l => k0_pay6 L clip cy (ix2 r l) := funext hF
  subst hF'
  unfold keys
  pointwise [k0_pay12, k0_pay11, k0_pay10, k0_pay9, k0_pay3]
  rfl

/-- The augmented keys' array after the run. -/
theorem final8 : (dats m 0 c).arrAt 8 (cfgs 0).N = keyHeads (X m c) (Gn m c) (Wt m c) (Bi m c) := by
  refine (dats m 0 c).arrAt_eq_of_covers 8 _ (by decide +kernel) fun t _ y => ?_
  blk_simp
  rw [after0_8]
  have h0 : (grid0.coords t 0).val < 2 := (grid0.coords t 0).isLt
  have h1 : (grid0.coords t 1).val < 16 := (grid0.coords t 1).isLt
  obtain ⟨h, hh⟩ : ∃ h : Fin 16, h = y 1 := ⟨y 1, rfl⟩
  obtain ⟨r, hr⟩ : ∃ r : Fin 512, r = y 2 := ⟨y 2, rfl⟩
  obtain ⟨j, hj⟩ : ∃ j : Fin 128, j = y 3 := ⟨y 3, rfl⟩
  obtain ⟨b, hb⟩ : ∃ b : Fin 2, b.val = (grid0.coords t 0).val := ⟨⟨_, h0⟩, rfl⟩
  obtain ⟨s, hs⟩ : ∃ s : Fin 8192, s.val = 512 * (grid0.coords t 1).val + r.val := ⟨⟨512 * (grid0.coords t 1).val + r.val, by omega⟩, rfl⟩
  obtain ⟨p, hp⟩ : ∃ p : Fin 2048, p.val = 128 * h.val + j.val := ⟨⟨128 * h.val + j.val, by omega⟩, rfl⟩
  have hy : y = ix4 0 h r j := by subst hh hr hj; blk_ext
  have hE : (win0_8.blk t).view.emb y = ix4 b h s j := by subst hy; blk_ext [idx t]
  refine (congrArg (outsAt0 m c t.val t.isLt).1 hy).trans ((keys_out m c t h r j p hp).trans ((wide_at _ _ _ _ _ _ _ r p
    (fun l => gateSum (X m c) (Gn m c) (Wt m c) (Bi m c) b l (s.val + 1)) (fun l => (running_at m c hf t b hb s r hs l).symm)).trans ?_))
  refine Eq.trans ?_ (congrArg (keyHeads _ _ _ _) hE).symm
  simp only [x_at m c t r _ b s hb hs, g_at m c t]
  exact key_eq _ _ (fun k q => weights m c k q) (fun l => gateSum (X m c) (Gn m c) (Wt m c) (Bi m c) b l (s.val + 1)) h j _ _ _ _ _
    (fun l => gateSum_real hf b l _) (fun k => wk_at m c t k h j p hp) (o_at m c t h j p hp) (fun l' => by rw [s_at m c t l' p, hp])

end

end Cert.KvIdeal.Rows

end
-- ==== Proof.Rows.KvWindow.lean ====
/- The host's running sum along a sequence over the extended reals, read at an element. -/
module

public import Idealize.ShloMosaic.Lib.Pointwise
public import Idealize.ShloMosaic.Lib.Pipeline.ValueKit

@[expose] public section

set_option maxRecDepth 16384

noncomputable section

namespace Cert.Rows

open Idealize.ShloMosaic

/-- A left fold that adds is the start plus the list's sum. -/
theorem foldl_sum {ι : Type} (F : ι → EReal) (L : List ι) : ∀ v : EReal, L.foldl (fun r n => r + F n) v = v + (L.map F).sum := by
  induction L with
  | nil => intro v; simp
  | cons a L ih => intro v; rw [List.foldl_cons, ih, List.map_cons, List.sum_cons, add_assoc]

/-- The entries along a sequence, zero past its end. -/
def along (x : (⟨3, ![2, 8192, 16]⟩ : Shape).Idx → EReal) (b : Fin 2) (l : Fin 16) (s : ℕ) : EReal :=
  if h : s < 8192 then x (ix3 b ⟨s, h⟩ l) else 0

/-- The host's running sum at a position is the sum of the entries up to it. -/
theorem window_at (x : (⟨3, ![2, 8192, 16]⟩ : Shape).Idx → EReal)
    (h : (⟨3, ![2, 8192, 16]⟩ : Shape).ReduceWindows ![1, 8192, 1] ![1, 1, 1] ![0, 8191, 0] ![0, 0, 0] ⟨3, ![2, 8192, 16]⟩)
    (b : Fin 2) (t : Fin 8192) (l : Fin 16) :
    Ideal.hostReduceWindowAdd ![1, 8192, 1] ![1, 1, 1] ![0, 8191, 0] ![0, 0, 0] h x 0 (ix3 b t l) = ∑ s ∈ Finset.range (t.val + 1), along x b l s := by
  have hN : (⟨3, ![1, 8192, 1]⟩ : Shape).numel = 8192 := by decide +kernel
  have ht := t.isLt
  have hb := b.isLt
  have hl := l.isLt
  unfold Ideal.hostReduceWindowAdd Host.reduceWindow
  refine (foldl_sum _ _ _).trans ?_
  rw [zero_add, ← Fin.sum_univ_def]
  refine (Finset.sum_congr (g := fun n => if 8191 ≤ t.val + n.val then along x b l (t.val + n.val - 8191) else 0) rfl fun n _ => ?_).trans ?_
  · show _ = if 8191 ≤ t.val + n.val then along x b l (t.val + n.val - 8191) else 0
    obtain ⟨i, hi⟩ : ∃ i, i = (⟨3, ![1, 8192, 1]⟩ : Shape).rowMajor.symm n := ⟨_, rfl⟩
    have hn : n.val = ((i 0).val * 8192 + (i 1).val) * 1 + (i 2).val := by
      have := Shape.rowMajor_val_three i
      rw [hi, Equiv.apply_symm_apply] at this
      rw [hi]
      exact this
    have i0 : (i 0).val < 1 := (i 0).isLt
    have i1 : (i 1).val < 8192 := (i 1).isLt
    have i2 : (i 2).val < 1 := (i 2).isLt
    by_cases hc : 8191 ≤ t.val + n.val
    · have hin : ∀ a : Fin 3, (![0, 8191, 0] : Fin 3 → ℕ) a ≤ ((ix3 b t l : (⟨3, ![2, 8192, 16]⟩ : Shape).Idx) a).val * (![1, 1, 1] : Fin 3 → ℕ) a + (i a).val
          ∧ ((ix3 b t l : (⟨3, ![2, 8192, 16]⟩ : Shape).Idx) a).val * (![1, 1, 1] : Fin 3 → ℕ) a + (i a).val - (![0, 8191, 0] : Fin 3 → ℕ) a < (⟨3, ![2, 8192, 16]⟩ : Shape).size a := by
        intro a
        fin_cases a
        · show 0 ≤ b.val * 1 + (i 0).val ∧ b.val * 1 + (i 0).val - 0 < 2
          omega
        · show 8191 ≤ t.val * 1 + (i 1).val ∧ t.val * 1 + (i 1).val - 8191 < 8192
          omega
        · show 0 ≤ l.val * 1 + (i 2).val ∧ l.val * 1 + (i 2).val - 0 < 16
          omega
      rw [hi] at hin
      refine (dif_pos hin).trans ?_
      rw [if_pos hc, along, dif_pos (by omega)]
      refine congrArg x (funext fun a => Fin.ext ?_)
      fin_cases a
      · show b.val * 1 + ((⟨3, ![1, 8192, 1]⟩ : Shape).rowMajor.symm n 0).val - 0 = b.val
        rw [← hi]
        omega
      · show t.val * 1 + ((⟨3, ![1, 8192, 1]⟩ : Shape).rowMajor.symm n 1).val - 8191 = t.val + n.val - 8191
        rw [← hi]
        omega
      · show l.val * 1 + ((⟨3, ![1, 8192, 1]⟩ : Shape).rowMajor.symm n 2).val - 0 = l.val
        rw [← hi]
        omega
    · rw [if_neg hc]
      refine dif_neg fun hin => ?_
      have h1 : 8191 ≤ t.val * 1 + ((⟨3, ![1, 8192, 1]⟩ : Shape).rowMajor.symm n 1).val := (hin 1).1
      rw [← hi] at h1
      omega
  rw [← Finset.sum_range (fun n => if 8191 ≤ t.val + n then along x b l (t.val + n - 8191) else 0), hN]
  generalize t.val = q at ht ⊢
  rw [show 8192 = (8191 - q) + (q + 1) by omega, Finset.sum_range_add, Finset.sum_eq_zero, zero_add]
  · refine Finset.sum_congr rfl fun s _ => ?_
    have e : q + (8191 - q + s) - 8191 = s := by omega
    rw [if_pos (by omega), e]
  · intro s hs
    have := Finset.mem_range.mp hs
    rw [if_neg (by omega)]

/-- The host's running sum at a position as a sum of named entries. -/
theorem cum_at (x : FVec Ideal ⟨3, ![2, 8192, 16]⟩ .f32) (init : FVec Ideal ⟨0, ![]⟩ .f32)
    (h : (⟨3, ![2, 8192, 16]⟩ : Shape).ReduceWindows ![1, 8192, 1] ![1, 1, 1] ![0, 8191, 0] ![0, 0, 0] ⟨3, ![2, 8192, 16]⟩) (hu : 0 < (⟨0, ![]⟩ : Shape).numel)
    (b : Fin 2) (t : Fin 8192) (l : Fin 16) (hi : @Eq EReal (init (Shape.Idx.first hu)) 0) (G : ℕ → EReal) (hG : ∀ s : Fin 8192, @Eq EReal (x (ix3 b s l)) (G s.val)) :
    @Eq EReal (Host.reduceWindowAdd ![1, 8192, 1] ![1, 1, 1] ![0, 8191, 0] ![0, 0, 0] x init h hu (ix3 b t l)) (∑ s ∈ Finset.range (t.val + 1), G s) := by
  have e : @Eq EReal (Host.reduceWindowAdd ![1, 8192, 1] ![1, 1, 1] ![0, 8191, 0] ![0, 0, 0] x init h hu (ix3 b t l))
      (Ideal.hostReduceWindowAdd ![1, 8192, 1] ![1, 1, 1] ![0, 8191, 0] ![0, 0, 0] h x (init (Shape.Idx.first hu)) (ix3 b t l)) := by
    simp only [Host.reduceWindowAdd, Ideal.hostReduceWindowAdd_def]
  rw [e, hi, window_at x h b t l]
  refine Finset.sum_congr rfl fun s hs => ?_
  have := Finset.mem_range.mp hs
  have ht := t.isLt
  have hs' : s < 8192 := by omega
  rw [along, dif_pos hs']
  exact hG ⟨s, hs'⟩

end Cert.Rows

end
-- ==== Proof.Rows.KvRef.lean ====
/- The key-value projection reference's run, its results as functions of the arguments. -/
module

public import proofs.«01_k».proof.Proof.Rows.KvMath
public import proofs.«01_k».proof.Proof.Rows.KvWindow
public import proofs.«01_k».proof.Proof.Gen.KvReferenceIdeal.Run

@[expose] public section

set_option maxRecDepth 16384

noncomputable section

namespace Cert.KvReferenceIdeal.Rows

open Cert.KvReferenceIdeal Cert.KvReferenceIdeal.Gen Idealize.ShloMosaic Idealize.ShloMosaic.TcCoe Idealize.SL.Sem Cert.Rows

/-- The reference ends with every head's augmented keys, the values and the running sums of the logs of the gates, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = keyHeads (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v31) = valueRows (m ((c.tc : Thread nD τ).loc main_arg0)) (m ((c.tc : Thread nD τ).loc main_arg1)) (m ((c.tc : Thread nD τ).loc main_arg2))
      ∧ r.2.mem ((c.tc : Thread nD τ).loc main_v32) = sumRows (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2⟩) (Value.run (F := Ideal) m ρ)
  · clear h
    funext i
    obtain ⟨b, h, l, j, rfl⟩ : ∃ (b : Fin 2) (h : Fin 16) (l : Fin 8192) (j : Fin 128), i = ix4 b h l j := ⟨i 0, i 1, i 2, i 3, by blk_ext⟩
    pointwise [Value.res_main_v29]
    refine Eq.trans ?_ (show key _ _ _ (gateSum _ _ _ _ b ⟨h.val, lt_of_lt_of_le h.isLt (by decide)⟩ (l.val + 1)) h j = _ from rfl)
    unfold key
    by_cases hj : j.val < 64
    · rw [dif_pos hj, dif_pos hj]
      have ei : (⟨h.val * 64 + j.val, by omega⟩ : Fin 2064) = ⟨64 * h.val + j.val, by omega⟩ := Fin.ext (by simp only; omega)
      rw [ei]
      rfl
    · rw [dif_neg hj, dif_neg hj]
      by_cases h67 : j.val < 67
      · rw [dif_pos (by omega), if_pos h67]
      · rw [dif_neg (by omega), if_neg h67]
        by_cases h68 : j.val = 67
        · rw [dif_pos (by omega), if_pos h68]
          unfold gateSum
          refine congrArg (fun e : EReal => -e) (cum_at _ _ _ _ b l _ ?_ _ fun s => ?_)
          · pointwise
          · rw [gates, dif_pos ⟨s.isLt, h.isLt⟩]
            pointwise
            exact gate_eq _ _
        · rw [dif_neg (by omega), if_neg h68]
  · clear h
    funext i
    obtain ⟨b, l, j, rfl⟩ : ∃ (b : Fin 2) (l : Fin 8192) (j : Fin 1024), i = ix3 b l j := ⟨i 0, i 1, i 2, by blk_ext⟩
    pointwise
    rfl
  · clear h
    funext i
    obtain ⟨b, l, j, rfl⟩ : ∃ (b : Fin 2) (l : Fin 8192) (j : Fin 128), i = ix3 b l j := ⟨i 0, i 1, i 2, by blk_ext⟩
    pointwise [Value.res_main_v32]
    refine Eq.trans ?_ (show gateSum _ _ _ _ b j (l.val + 1) = _ from rfl)
    unfold gateSum
    by_cases hj : j.val < 16
    · rw [dif_pos hj]
      refine cum_at _ _ _ _ b l _ ?_ _ fun s => ?_
      · pointwise
      · rw [gates, dif_pos ⟨s.isLt, hj⟩]
        pointwise
        exact gate_eq _ _
    · rw [dif_neg hj]
      refine Eq.trans ?_ (Finset.sum_eq_zero (M := EReal) fun s _ => ?_).symm
      · show (((0#32 : BitVec 32).toInt : ℝ) : EReal) = 0
        simp
      · rw [gates, dif_neg (fun hc => hj hc.2)]

end Cert.KvReferenceIdeal.Rows

end
-- ==== Proof.Rows.NormOut.lean ====
/- The norm call's result after the run, and its reference's. -/
module

public import proofs.«01_k».proof.Proof.Rows.Math
public import proofs.«01_k».proof.Proof.Gen.NormIdeal.Value
public import proofs.«01_k».proof.Proof.Gen.NormReferenceIdeal.Run
public import Idealize.ShloMosaic.Lib.Pipeline.ValueKit
public import Idealize.ShloMosaic.Lib.Pointwise

@[expose] public section

set_option maxRecDepth 16384

noncomputable section

namespace Cert.NormIdeal.Rows

open Cert.NormIdeal Cert.NormIdeal.Gen Idealize.ShloMosaic Idealize.ShloMosaic.TcCoe Cert.Rows
open Idealize.ShloMosaic.Pipeline (Dat)

/-- The stored block's entries. -/
theorem out_at (x : Vec Ideal S512x1024 .f32) (g : Vec Ideal S1x1024 .f32) (r : Fin 512) (d : Fin 1024) :
    out0_2 x g (ix2 r d) = norm (fun k => x (ix2 r k)) (fun k => g (ix2 0 k)) d := by
  have e : ∀ (x : Vec Ideal S512x1024 .f32) (g : Vec Ideal S1x1024 .f32), k0_pay1 x g (ix2 r d) = norm (fun k => x (ix2 r k)) (fun k => g (ix2 0 k)) d := fun x g => by
    pointwise [k0_pay1]
    rfl
  frame_out
  exact e _ _

/-- The windows' block indices. -/
theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

variable (m : (ℓ : Loc nD τ sig) → Buf (Elt Ideal) ℓ)

/-- The row block's entries. -/
theorem x_at (c : Dev nD) (t : Fin cfg0.N) (r : Fin 512) (d : Fin 1024) (R : Fin 16384) (hR : R.val = 512 * (grid0.coords t 0).val + r.val) :
    iblk m c 0 t (ix2 r d) = m ((c : Thread nD τ).loc main_arg0) (ix2 R d) := by
  refine (congrFun (V_main_arg0 m c) ((win0_0.blk t).view.emb (ix2 r d))).trans ?_
  have hE : (win0_0.blk t).view.emb (ix2 r d) = ix2 R d := by blk_ext [idx t]
  exact congrArg _ hE

/-- The gains' entries. -/
theorem g_at (c : Dev nD) (t : Fin cfg0.N) (d : Fin 1024) :
    iblk m c 1 t (ix2 0 d) = m ((c : Thread nD τ).loc main_arg1) (ix1 d) := by
  have e : V m c main_v0 = (shapeCast S1x1024 (m ((c : Thread nD τ).loc main_arg1) : FVec Ideal S1024 .f32) shapeCasts_S1024_S1x1024 : FVec Ideal S1x1024 .f32) := by
    simp only [V, hostOps0, List.flatten_cons, List.flatten_nil, List.append_nil, List.cons_append, List.nil_append]
    after_results
    rfl
  refine (congrFun e ((win0_1.blk t).view.emb (ix2 0 d))).trans ?_
  have hE : (win0_1.blk t).view.emb (ix2 0 d) = ix2 0 d := by blk_ext [idx t]
  refine (congrArg _ hE).trans ?_
  pointwise

/-- The result array after the run. -/
theorem final (c : Dev nD) : (dats m 0 c).arrAt 2 (cfgs 0).N
    = normRows (m ((c : Thread nD τ).loc main_arg0)) (m ((c : Thread nD τ).loc main_arg1)) := by
  refine (dats m 0 c).arrAt_eq_of_covers 2 _ (by decide +kernel) fun t _ y => ?_
  blk_simp
  rw [after0_2]
  have h0 : (grid0.coords t 0).val < 32 := (grid0.coords t 0).isLt
  obtain ⟨r, hr⟩ : ∃ r : Fin 512, r = y 0 := ⟨y 0, rfl⟩
  obtain ⟨d, hd⟩ : ∃ d : Fin 1024, d = y 1 := ⟨y 1, rfl⟩
  obtain ⟨R, hR⟩ : ∃ R : Fin 16384, R.val = 512 * (grid0.coords t 0).val + r.val := ⟨⟨512 * (grid0.coords t 0).val + r.val, by omega⟩, rfl⟩
  have hy : y = ix2 r d := by subst hr hd; blk_ext
  have hE : (win0_2.blk t).view.emb y = ix2 R d := by subst hy; blk_ext [idx t]
  refine (congrArg (out0_2 (iblk m c 0 t) (iblk m c 1 t)) hy).trans ((out_at _ _ r d).trans ?_)
  refine Eq.trans ?_ (congrArg (normRows _ _) hE).symm
  simp only [x_at m c t r _ R hR, g_at m c t]
  rfl

end Cert.NormIdeal.Rows

namespace Cert.NormReferenceIdeal.Rows

open Cert.NormReferenceIdeal Cert.NormReferenceIdeal.Gen Idealize.ShloMosaic Idealize.ShloMosaic.TcCoe Idealize.SL.Sem Cert.Rows

/-- The reference ends with every row normed, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = normRows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext i
  obtain ⟨r, d, rfl⟩ : ∃ (r : Fin 16384) (d : Fin 1024), i = ix2 r d := ⟨i 0, i 1, by blk_ext⟩
  pointwise
  rfl

end Cert.NormReferenceIdeal.Rows

end
-- ==== Proof.Rows.SummaryOut.lean ====
/- The chunk summary call's result after the run, and its reference's. -/
module

public import proofs.«01_k».proof.Proof.Rows.Math
public import proofs.«01_k».proof.Proof.Gen.SummaryIdeal.Value
public import proofs.«01_k».proof.Proof.Gen.SummaryReferenceIdeal.Run
public import Idealize.ShloMosaic.Lib.Pipeline.ValueKit
public import Idealize.ShloMosaic.Lib.Pointwise

@[expose] public section

set_option maxRecDepth 16384

noncomputable section

namespace Cert.SummaryIdeal.Rows

open Cert.SummaryIdeal Cert.SummaryIdeal.Gen Idealize.ShloMosaic Idealize.ShloMosaic.TcCoe Cert.Rows
open Idealize.ShloMosaic.Pipeline (Dat)

/-- The stored block's entries. -/
theorem out_at (u : Vec Ideal S1x256x1024 .f32) (r : Vec Ideal S1x1024x128 .bf16) (n : Fin 256) (l : Fin 128) :
    @Eq EReal (out0_2 u r (ix2 n l)) (∑ k : Fin 1024, u (ix3 0 n k) * r (ix3 0 k l)) := by
  have e : ∀ (u : Vec Ideal S1x256x1024 .f32) (r : Vec Ideal S1x1024x128 .bf16), @Eq EReal (k0_pay1 u r (ix2 n l)) (∑ k : Fin 1024, u (ix3 0 n k) * r (ix3 0 k l)) := fun u r => by
    pointwise [k0_pay1]
  frame_out
  exact e _ _

/-- The windows' block indices. -/
theorem idx : ∀ t : Fin cfg0.N, win0_0.index t = ![(grid0.coords t 0).val, 0, 0] ∧ win0_1.index t = ![(grid0.coords t 0).val, 0, 0]
    ∧ win0_2.index t = ![0, (grid0.coords t 0).val] :=
  (by decide +kernel : ∀ t : Fin grid0.N, _)

variable (m : (ℓ : Loc nD τ sig) → Buf (Elt Ideal) ℓ)

/-- A group's chunks' entries. -/
theorem u_at (c : Dev nD) (t : Fin cfg0.N) (n : Fin 256) (k : Fin 1024) (q : Fin 64) (hq : q.val = (grid0.coords t 0).val) :
    iblk m c 0 t (ix3 0 n k) = m ((c : Thread nD τ).loc main_arg0) (ix3 q n k) := by
  blk_ext [iblk, V, idx t]

/-- A group's weights' entries. -/
theorem r_at (c : Dev nD) (t : Fin cfg0.N) (k : Fin 1024) (l : Fin 128) (q : Fin 64) (hq : q.val = (grid0.coords t 0).val) :
    iblk m c 1 t (ix3 0 k l) = m ((c : Thread nD τ).loc main_arg1) (ix3 q k l) := by
  blk_ext [iblk, V, idx t]

/-- The result array after the run. -/
theorem final (c : Dev nD) : (dats m 0 c).arrAt 2 (cfgs 0).N
    = summaryRows (m ((c : Thread nD τ).loc main_arg0)) (m ((c : Thread nD τ).loc main_arg1)) := by
  refine (dats m 0 c).arrAt_eq_of_covers 2 _ (by decide +kernel) fun t _ y => ?_
  blk_simp
  rw [after0_2]
  have h0 : (grid0.coords t 0).val < 64 := (grid0.coords t 0).isLt
  obtain ⟨n, hn⟩ : ∃ n : Fin 256, n = y 0 := ⟨y 0, rfl⟩
  obtain ⟨l, hl⟩ : ∃ l : Fin 128, l = y 1 := ⟨y 1, rfl⟩
  obtain ⟨q, hq⟩ : ∃ q : Fin 64, q.val = (grid0.coords t 0).val := ⟨⟨_, h0⟩, rfl⟩
  obtain ⟨p, hp⟩ : ∃ p : Fin 8192, p.val = 128 * q.val + l.val := ⟨⟨128 * q.val + l.val, by omega⟩, rfl⟩
  have hy : y = ix2 n l := by subst hn hl; blk_ext
  have hE : (win0_2.blk t).view.emb y = ix2 n p := by subst hy; blk_ext [idx t]
  refine (congrArg (out0_2 (iblk m c 0 t) (iblk m c 1 t)) hy).trans ((out_at _ _ n l).trans ?_)
  refine Eq.trans ?_ (congrArg (summaryRows _ _) hE).symm
  have e1 : ∀ h, (⟨p.val / 128, h⟩ : Fin 64) = q := fun h => Fin.ext (by simp only; omega)
  have e2 : ∀ h, (⟨p.val % 128, h⟩ : Fin 128) = l := fun h => Fin.ext (by simp only; omega)
  simp only [u_at m c t n _ q hq, r_at m c t _ l q hq]
  exact Finset.sum_congr rfl fun k _ => congrArg₂ (fun a b : EReal => a * b)
    (congrArg (fun q' : Fin 64 => (m ((c : Thread nD τ).loc main_arg0) : FVec Ideal S64x256x1024 .f32) (ix3 q' n k)) (e1 _).symm)
    (congrArg₂ (fun (q' : Fin 64) (l' : Fin 128) => (m ((c : Thread nD τ).loc main_arg1) : FVec Ideal S64x1024x128 .bf16) (ix3 q' k l')) (e1 _).symm (e2 _).symm)

end Cert.SummaryIdeal.Rows

namespace Cert.SummaryReferenceIdeal.Rows

open Cert.SummaryReferenceIdeal Cert.SummaryReferenceIdeal.Gen Idealize.ShloMosaic Idealize.ShloMosaic.TcCoe Idealize.SL.Sem Cert.Rows

/-- The reference ends with every group's chunk sums, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = summaryRows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext i
  obtain ⟨n, p, rfl⟩ : ∃ (n : Fin 256) (p : Fin 8192), i = ix2 n p := ⟨i 0, i 1, by blk_ext⟩
  pointwise
  rfl

end Cert.SummaryReferenceIdeal.Rows

end
-- ==== Proof.Rows.ChunkOpen.lean ====
/- The chunk output call's blocks at a grid point as terms of its operands. -/
module

public import proofs.«01_k».proof.Proof.Rows.Math
public import proofs.«01_k».proof.Proof.Gen.ChunkIdeal.Value
public import Idealize.ShloMosaic.Lib.Pipeline.ValueKit
public import Idealize.ShloMosaic.Lib.Pointwise
public import Idealize.ShloMosaic.Lib.WritesUnit

@[expose] public section

set_option maxRecDepth 16384

noncomputable section

namespace Cert.ChunkIdeal.Rows

open Cert.ChunkIdeal Cert.ChunkIdeal.Gen Idealize.ShloMosaic Idealize.ShloMosaic.TcCoe Cert.Rows
open Idealize.ShloMosaic.Pipeline (Dat)

/-- The pieces the weights' eight shifted copies are stored by, over the pieces `L`. -/
abbrev stores (x2 : Vec Ideal S1x128x1024 .bf16) (L : List (View.Piece (Elt Ideal) S1024x1024 .bf16)) : List (View.Piece (Elt Ideal) S1024x1024 .bf16) :=
  ⟨Rect.unit ![896, 896] ![128, 128] inb_S1024x1024_S128x128_896_896, k0_pay11 (View.ld x2 (Rect.unit ![0, 0, 0] ![1, 128, 128] inb_S1x128x1024_S1x128x128_0_0_0))⟩
  :: ⟨Rect.unit ![768, 768] ![128, 256] inb_S1024x1024_S128x256_768_768, k0_pay10 (View.ld x2 (Rect.unit ![0, 0, 0] ![1, 128, 256] inb_S1x128x1024_S1x128x256_0_0_0))⟩
  :: ⟨Rect.unit ![640, 640] ![128, 384] inb_S1024x1024_S128x384_640_640, k0_pay9 (View.ld x2 (Rect.unit ![0, 0, 0] ![1, 128, 384] inb_S1x128x1024_S1x128x384_0_0_0))⟩
  :: ⟨Rect.unit ![512, 512] ![128, 512] inb_S1024x1024_S128x512_512_512, k0_pay8 (k0_pay7 (View.ld x2 (Rect.unit ![0, 0, 0] ![1, 128, 512] inb_S1x128x1024_S1x128x512_0_0_0)))⟩
  :: ⟨Rect.unit ![384, 384] ![128, 640] inb_S1024x1024_S128x640_384_384, k0_pay6 (View.ld x2 (Rect.unit ![0, 0, 0] ![1, 128, 640] inb_S1x128x1024_S1x128x640_0_0_0))⟩
  :: ⟨Rect.unit ![256, 256] ![128, 768] inb_S1024x1024_S128x768_256_256, k0_pay5 (View.ld x2 (Rect.unit ![0, 0, 0] ![1, 128, 768] inb_S1x128x1024_S1x128x768_0_0_0))⟩
  :: ⟨Rect.unit ![128, 128] ![128, 896] inb_S1024x1024_S128x896_128_128, k0_pay4 (View.ld x2 (Rect.unit ![0, 0, 0] ![1, 128, 896] inb_S1x128x1024_S1x128x896_0_0_0))⟩
  :: ⟨Rect.unit ![0, 0] ![128, 1024] inb_S1024x1024_S128x1024_0_0, k0_pay3 x2⟩ :: L

/-- The table after the stores: the weights at the lag on and right of the diagonal blocks, what was there before left of them. -/
def band (x2 : Vec Ideal S1x128x1024 .bf16) (B : Vec Ideal S1024x1024 .bf16) : Vec Ideal S1024x1024 .bf16 := fun y =>
  have h0 : (y 0).val < 1024 := (y 0).isLt
  have h1 : (y 1).val < 1024 := (y 1).isLt
  if 128 * ((y 0).val / 128) ≤ (y 1).val then x2 (ix3 0 ⟨(y 0).val % 128, by omega⟩ ⟨(y 1).val - 128 * ((y 0).val / 128), by omega⟩) else B y

/-- One entry after the newest of the stores: the stored one inside it, what the older pieces left outside. -/
theorem step {sig : RefSig} {κ : Kind} {sp : Space} (v : View sig κ sp S1024x1024 .bf16) (f : v.ty.Contents (Elt Ideal)) (o n : ℕ)
    (inb : ∀ a, (![o, o] : Fin 2 → ℕ) a + (![128, n] : Fin 2 → ℕ) a ≤ S1024x1024.size a)
    (w : (Rect.unit (s := S1024x1024) ![o, o] ![128, n] inb).shape.Idx → Elt Ideal .bf16) (L : List (View.Piece (Elt Ideal) S1024x1024 .bf16)) (r p : Fin 1024)
    (G : Elt Ideal .bf16) (h1 : ∀ (a : Fin 128) (b : Fin n), r.val = o + a.val → p.val = o + b.val → w (ix2 a b) = G)
    (h2 : ¬(o ≤ r.val ∧ r.val < o + 128 ∧ o ≤ p.val ∧ p.val < o + n) → v.read (Elt Ideal) (v.writes (Elt Ideal) f L) (ix2 r p) = G) :
    v.read (Elt Ideal) (v.writes (Elt Ideal) f ((⟨Rect.unit ![o, o] ![128, n] inb, w⟩ : View.Piece (Elt Ideal) S1024x1024 .bf16) :: L)) (ix2 r p) = G := by
  by_cases h : o ≤ r.val ∧ r.val < o + 128 ∧ o ≤ p.val ∧ p.val < o + n
  · refine (View.read_writes_cons_unit_of_mem v f inb w L (ix2 r p) (ix2 (⟨r.val - o, by omega⟩ : Fin 128) (⟨p.val - o, by omega⟩ : Fin n)) rfl
      (Fin.forall_fin_two.mpr ⟨?_, ?_⟩)).trans (h1 _ _ ?_ ?_)
    · show r.val = o + (r.val - o)
      omega
    · show p.val = o + (p.val - o)
      omega
    · simp only
      omega
    · simp only
      omega
  · by_cases hr : o ≤ r.val ∧ r.val < o + 128
    · refine (View.read_writes_cons_unit_of_not_mem v f inb w L (ix2 r p) rfl (1 : Fin 2) ?_).trans (h2 h)
      show p.val < o ∨ o + n ≤ p.val
      omega
    · refine (View.read_writes_cons_unit_of_not_mem v f inb w L (ix2 r p) rfl (0 : Fin 2) ?_).trans (h2 h)
      show r.val < o ∨ o + 128 ≤ r.val
      omega

/-- An entry of the table inside the block row that starts at `o`. -/
theorem band_at (x2 : Vec Ideal S1x128x1024 .bf16) (B : Vec Ideal S1024x1024 .bf16) (r p : Fin 1024) (o n : ℕ) (k : ℕ) (ho : o = 128 * k) (hn : n ≤ 1024) (a : Fin 128) (b : Fin n)
    (hr : r.val = o + a.val) (hp : p.val = o + b.val) : x2 (ix3 0 a ⟨b.val, by omega⟩) = band x2 B (ix2 r p) := by
  have e : r.val / 128 = k := by omega
  have h : 128 * (r.val / 128) ≤ p.val := by omega
  refine Eq.trans ?_ (if_pos h).symm
  have e1 : a = ⟨r.val % 128, by omega⟩ := Fin.ext (by simp only; omega)
  have e2 : (⟨b.val, by omega⟩ : Fin 1024) = ⟨p.val - 128 * (r.val / 128), by omega⟩ := Fin.ext (by simp only; omega)
  exact congrArg₂ (fun a b => x2 (ix3 0 a b)) e1 e2

/-- The table after the eight stores. -/
theorem stores_read {sig : RefSig} {κ : Kind} {sp : Space} (v : View sig κ sp S1024x1024 .bf16) (f : v.ty.Contents (Elt Ideal))
    (x2 : Vec Ideal S1x128x1024 .bf16) (L : List (View.Piece (Elt Ideal) S1024x1024 .bf16)) :
    v.read (Elt Ideal) (v.writes (Elt Ideal) f (stores x2 L)) = band x2 (v.read (Elt Ideal) (v.writes (Elt Ideal) f L)) := by
  funext y
  obtain ⟨r, p, rfl⟩ : ∃ (r : Fin 1024) (p : Fin 1024), y = ix2 r p := ⟨y 0, y 1, by blk_ext⟩
  generalize hB : v.read (Elt Ideal) (v.writes (Elt Ideal) f L) = B
  refine step v f 896 128 _ _ _ r p _ (fun a b hr hp => ?_) fun g7 => step v f 768 256 _ _ _ r p _ (fun a b hr hp => ?_) fun g6 =>
    step v f 640 384 _ _ _ r p _ (fun a b hr hp => ?_) fun g5 => step v f 512 512 _ _ _ r p _ (fun a b hr hp => ?_) fun g4 =>
    step v f 384 640 _ _ _ r p _ (fun a b hr hp => ?_) fun g3 => step v f 256 768 _ _ _ r p _ (fun a b hr hp => ?_) fun g2 =>
    step v f 128 896 _ _ _ r p _ (fun a b hr hp => ?_) fun g1 => step v f 0 1024 _ _ _ r p _ (fun a b hr hp => ?_) fun g0 => ?_
  · refine Eq.trans ?_ (band_at x2 B r p 896 128 7 rfl (by omega) a b hr hp)
    pointwise [k0_pay11]
  · refine Eq.trans ?_ (band_at x2 B r p 768 256 6 rfl (by omega) a b hr hp)
    pointwise [k0_pay10]
  · refine Eq.trans ?_ (band_at x2 B r p 640 384 5 rfl (by omega) a b hr hp)
    pointwise [k0_pay9]
  · refine Eq.trans ?_ (band_at x2 B r p 512 512 4 rfl (by omega) a b hr hp)
    pointwise [k0_pay8, k0_pay7]
  · refine Eq.trans ?_ (band_at x2 B r p 384 640 3 rfl (by omega) a b hr hp)
    pointwise [k0_pay6]
  · refine Eq.trans ?_ (band_at x2 B r p 256 768 2 rfl (by omega) a b hr hp)
    pointwise [k0_pay5]
  · refine Eq.trans ?_ (band_at x2 B r p 128 896 1 rfl (by omega) a b hr hp)
    pointwise [k0_pay4]
  · refine Eq.trans ?_ (band_at x2 B r p 0 1024 0 rfl (by omega) a b hr hp)
    pointwise [k0_pay3]
  · have h := r.isLt
    have h' := p.isLt
    have hn : ¬128 * (r.val / 128) ≤ p.val := by omega
    exact (congrFun hB (ix2 r p)).trans (if_neg hn).symm

/-- The stores over a fill of the whole table. -/
theorem stores_canon (x2 : Vec Ideal S1x128x1024 .bf16) (Z : Vec Ideal S1024x1024 .bf16) :
    View.canon (stores x2 [⟨Rect.unit ![0, 0] ![1024, 1024] inb_S1024x1024_S1024x1024_0_0, Z⟩]) = band x2 Z := by
  refine (View.read_writes_junk_eq_canon VS0_0 _).symm.trans ((stores_read VS0_0 _ x2 _).trans (congrArg (band x2) ?_))
  refine (View.read_writes_junk_eq_canon VS0_0 _).trans ?_
  exact View.canon_cons_unit_lit (Val := Elt Ideal) _ _ _ (by decide)

/-- The output block over a table. -/
abbrev outs (x0 : Vec Ideal S1x256x1024 .f32) (x1 : Vec Ideal S256x128 .f32) (x3 : Vec Ideal S1x1024x128 .bf16) (x4 : Vec Ideal S1x1x1024 .f32) (T : Vec Ideal S1024x1024 .bf16) :
    FVec Ideal S1x256x1024 .bf16 :=
  k0_pay1 (k0_pay13 x0) (k0_pay14 x0 x1 x3 x4) (View.ld T (Rect.unit ![0, 0] ![256, 256] inb_S1024x1024_S256x256_0_0))
    (View.ld T (Rect.unit ![0, 256] ![512, 256] inb_S1024x1024_S512x256_0_256)) (View.ld T (Rect.unit ![0, 512] ![768, 256] inb_S1024x1024_S768x256_0_512))
    (View.ld T (Rect.unit ![0, 768] ![1024, 256] inb_S1024x1024_S1024x256_0_768))

variable (c : Dev nD) (i : grid0.Coords) (arg1 : Memref sig .tc .vmem S1x256x1024 .f32) (harg1 : arg1.IsWhole) (arg2 : Memref sig .tc .vmem S256x128 .f32) (harg2 : arg2.IsWhole)
  (arg3 : Memref sig .tc .vmem S1x128x1024 .bf16) (harg3 : arg3.IsWhole) (arg4 : Memref sig .tc .vmem S1x1024x128 .bf16) (harg4 : arg4.IsWhole)
  (arg5 : Memref sig .tc .vmem S1x1x1024 .f32) (harg5 : arg5.IsWhole) (arg6 : Memref sig .tc .vmem S1x256x1024 .bf16) (harg6 : arg6.IsWhole)
  (arg7 : Memref sig .tc .vmem S1024x1024 .bf16) (harg7 : arg7.IsWhole)
  (x0 : Vec Ideal S1x256x1024 .f32) (x1 : Vec Ideal S256x128 .f32) (x2 : Vec Ideal S1x128x1024 .bf16) (x3 : Vec Ideal S1x1024x128 .bf16)
  (x4 : Vec Ideal S1x1x1024 .f32) (xs : Vec Ideal S1024x1024 .bf16)

/-- The table after the first grid point. -/
theorem carryA (hc0 : cond0_0 i) :
    sout0_A_0 c i arg1 harg1 arg2 harg2 arg3 harg3 arg4 harg4 arg5 harg5 arg6 harg6 arg7 harg7 hc0 x0 x1 x2 x3 x4 = band x2 (k0_pay2 (F := Ideal)) := by
  frame_out
  exact stores_canon x2 _

/-- The table after a later grid point. -/
theorem carryB (hc0 : ¬cond0_0 i) :
    sout0_B_0 c i arg1 harg1 arg2 harg2 arg3 harg3 arg4 harg4 arg5 harg5 arg6 harg6 arg7 harg7 hc0 x0 x1 x2 x3 x4 xs = band x2 xs := by
  frame_out
  refine (stores_read arg7.view _ x2 []).trans (congrArg (band x2) ?_)
  exact harg7.read_unread xs

/-- The output block of the first grid point. -/
theorem outA (hc0 : cond0_0 i) :
    out0_A_5 c i arg1 harg1 arg2 harg2 arg3 harg3 arg4 harg4 arg5 harg5 arg6 harg6 arg7 harg7 hc0 x0 x1 x2 x3 x4 = outs x0 x1 x3 x4 (band x2 (k0_pay2 (F := Ideal))) := by
  frame_out
  have e : ∀ R : Rect S1024x1024, arg7.view.readCov (stores x2 [⟨Rect.unit ![0, 0] ![1024, 1024] inb_S1024x1024_S1024x1024_0_0, k0_pay2 (F := Ideal)⟩]) R.toLoadRect
      = View.ld (band x2 (k0_pay2 (F := Ideal))) R := fun R => (View.readCov_eq_canon' _ _ _).trans (by rw [stores_canon])
  simp only [e]

/-- The output block of a later grid point. -/
theorem outB (hc0 : ¬cond0_0 i) :
    out0_B_5 c i arg1 harg1 arg2 harg2 arg3 harg3 arg4 harg4 arg5 harg5 arg6 harg6 arg7 harg7 hc0 x0 x1 x2 x3 x4 xs = outs x0 x1 x3 x4 (band x2 xs) := by
  frame_out
  have e : View.read (Elt Ideal) arg7.view (arg7.view.writes (Elt Ideal) (harg7.unread xs) (stores x2 [])) = band x2 xs :=
    (stores_read arg7.view _ x2 []).trans (congrArg (band x2) (harg7.read_unread xs))
  simp only [e]

end Cert.ChunkIdeal.Rows

end
-- ==== Proof.Rows.ChunkOut.lean ====
/- The chunk output call's result after the run, and its reference's. -/
module

public import proofs.«01_k».proof.Proof.Rows.ChunkOpen
public import proofs.«01_k».proof.Proof.Gen.ChunkReferenceIdeal.Run

@[expose] public section

set_option maxRecDepth 16384

noncomputable section

namespace Cert.ChunkIdeal.Rows

open Cert.ChunkIdeal Cert.ChunkIdeal.Gen Idealize.ShloMosaic Idealize.ShloMosaic.TcCoe Cert.Rows
open Idealize.ShloMosaic.Pipeline (Dat)

/-- A sum over the first inputs is the sum over all of them when the later ones add nothing. -/
theorem sum_head (n : ℕ) (hn : n ≤ 1024) (f : Fin n → EReal) (g : Fin 1024 → EReal) (h1 : ∀ k : Fin n, f k = g ⟨k.val, by omega⟩)
    (h2 : ∀ k : Fin 1024, n ≤ k.val → g k = 0) : ∑ k, f k = ∑ k, g k := by
  have e1 : ∑ k, f k = ∑ k ∈ Finset.univ.map (Fin.castLEEmb hn), g k := by
    rw [Finset.sum_map]
    exact Finset.sum_congr rfl fun k _ => h1 k
  refine e1.trans (Finset.sum_subset (Finset.subset_univ _) fun k _ hk => h2 k ?_)
  by_contra hlt
  exact hk (Finset.mem_map.mpr ⟨⟨k.val, by omega⟩, Finset.mem_univ _, rfl⟩)

/-- What the entering state and the skip add. -/
theorem state_at (x0 : Vec Ideal S1x256x1024 .f32) (x1 : Vec Ideal S256x128 .f32) (x3 : Vec Ideal S1x1024x128 .bf16) (x4 : Vec Ideal S1x1x1024 .f32) (r : Fin 256) (p : Fin 1024) :
    @Eq EReal (k0_pay14 x0 x1 x3 x4 (ix2 r p)) ((∑ k : Fin 128, x1 (ix2 r k) * x3 (ix3 0 p k)) + x4 (ix3 0 0 p) * x0 (ix3 0 r p)) := by
  pointwise [k0_pay14, k0_pay12]

/-- The chunks' inputs. -/
theorem input_at (x0 : Vec Ideal S1x256x1024 .f32) (r : Fin 256) (p : Fin 1024) : k0_pay13 x0 (ix2 r p) = x0 (ix3 0 r p) := by
  pointwise [k0_pay13, k0_pay12]

/-- The convolution by column tiles, each over the inputs up to its own end. -/
def tiles (v : FVec Ideal S256x1024 .bf16) (a : Vec Ideal S256x256 .bf16) (b : Vec Ideal S512x256 .bf16) (c : Vec Ideal S768x256 .bf16) (d : Vec Ideal S1024x256 .bf16)
    (r : Fin 256) (p : Fin 1024) : EReal :=
  if _h0 : p.val < 256 then ∑ x : Fin 256, v (ix2 r ⟨x.val, by omega⟩) * a (ix2 x ⟨p.val, by omega⟩)
  else if _h1 : p.val - 256 < 256 then ∑ x : Fin 512, v (ix2 r ⟨x.val, by omega⟩) * b (ix2 x ⟨p.val - 256, by omega⟩)
  else if _h2 : p.val - 256 - 256 < 256 then ∑ x : Fin 768, v (ix2 r ⟨x.val, by omega⟩) * c (ix2 x ⟨p.val - 256 - 256, by omega⟩)
  else ∑ x : Fin 1024, v (ix2 r x) * d (ix2 x ⟨p.val - 256 - 256 - 256, by omega⟩)

/-- The stored block's entries by column tiles. -/
theorem pay_at (v : FVec Ideal S256x1024 .bf16) (w : FVec Ideal S256x1024 .f32) (a : Vec Ideal S256x256 .bf16) (b : Vec Ideal S512x256 .bf16) (c : Vec Ideal S768x256 .bf16)
    (d : Vec Ideal S1024x256 .bf16) (r : Fin 256) (p : Fin 1024) : @Eq EReal (k0_pay1 v w a b c d (ix3 0 r p)) (gelu (w (ix2 r p) + tiles v a b c d r p)) := by
  pointwise [k0_pay1, gelu, tiles]

/-- A table that holds zeros left of its diagonal blocks. -/
def Upper (T : Vec Ideal S1024x1024 .bf16) : Prop := ∀ r p : Fin 1024, ¬128 * (r.val / 128) ≤ p.val → @Eq EReal (T (ix2 r p)) 0

/-- The stores keep those zeros. -/
theorem band_upper (x2 : Vec Ideal S1x128x1024 .bf16) (T : Vec Ideal S1024x1024 .bf16) (h : Upper T) : Upper (band x2 T) :=
  fun r p hrp => (if_neg (hrp : ¬128 * (((ix2 r p : S1024x1024.Idx) 0).val / 128) ≤ ((ix2 r p : S1024x1024.Idx) 1).val)).trans (h r p hrp)

/-- The fill of zeros has them. -/
theorem fill_upper : Upper (k0_pay2 (F := Ideal)) := fun r p _ => by
  pointwise [k0_pay2]

/-- A column of the table from its four loads. -/
theorem tiles_at (v : FVec Ideal S256x1024 .bf16) (T : Vec Ideal S1024x1024 .bf16) (h : Upper T) (r : Fin 256) (p : Fin 1024) :
    tiles v (View.ld T (Rect.unit ![0, 0] ![256, 256] inb_S1024x1024_S256x256_0_0))
      (View.ld T (Rect.unit ![0, 256] ![512, 256] inb_S1024x1024_S512x256_0_256)) (View.ld T (Rect.unit ![0, 512] ![768, 256] inb_S1024x1024_S768x256_0_512))
      (View.ld T (Rect.unit ![0, 768] ![1024, 256] inb_S1024x1024_S1024x256_0_768)) r p = ∑ k : Fin 1024, (v (ix2 r k) : EReal) * (T (ix2 k p) : EReal) := by
  have hz : ∀ k : Fin 1024, ¬128 * (k.val / 128) ≤ p.val → (v (ix2 r k) : EReal) * (T (ix2 k p) : EReal) = 0 := fun k hk => by
    rw [h k p hk, mul_zero]
  unfold tiles
  split_ifs with h0 h1 h2
  · refine sum_head 256 (by omega) _ (fun k => (v (ix2 r k) : EReal) * (T (ix2 k p) : EReal)) (fun k => ?_) fun k hk => hz k (by omega)
    refine congrArg (fun e : EReal => (v (ix2 r _) : EReal) * e) (congrArg T ?_)
    blk_ext [Rect.idx_unit_val]
  · refine sum_head 512 (by omega) _ (fun k => (v (ix2 r k) : EReal) * (T (ix2 k p) : EReal)) (fun k => ?_) fun k hk => hz k (by omega)
    refine congrArg (fun e : EReal => (v (ix2 r _) : EReal) * e) (congrArg T ?_)
    blk_ext [Rect.idx_unit_val]
  · refine sum_head 768 (by omega) _ (fun k => (v (ix2 r k) : EReal) * (T (ix2 k p) : EReal)) (fun k => ?_) fun k hk => hz k (by omega)
    refine congrArg (fun e : EReal => (v (ix2 r _) : EReal) * e) (congrArg T ?_)
    blk_ext [Rect.idx_unit_val]
  · refine sum_head 1024 (by omega) _ (fun k => (v (ix2 r k) : EReal) * (T (ix2 k p) : EReal)) (fun k => ?_) fun k hk => hz k (by omega)
    refine congrArg (fun e : EReal => (v (ix2 r _) : EReal) * e) (congrArg T ?_)
    blk_ext [Rect.idx_unit_val]

/-- The windows' block indices. -/
theorem idx : ∀ t : Fin cfg0.N, win0_0.index t = ![(grid0.coords t 0).val, 0, 0] ∧ win0_1.index t = ![0, (grid0.coords t 0).val]
    ∧ win0_2.index t = ![(grid0.coords t 0).val, 0, 0] ∧ win0_3.index t = ![(grid0.coords t 0).val, 0, 0]
    ∧ win0_4.index t = ![(grid0.coords t 0).val, 0, 0] ∧ win0_5.index t = ![(grid0.coords t 0).val, 0, 0] :=
  (by decide +kernel : ∀ t : Fin grid0.N, _)

variable (m : (ℓ : Loc nD τ sig) → Buf (Elt Ideal) ℓ)

/-- A group's chunks' entries. -/
theorem u_at (c : Dev nD) (t : Fin cfg0.N) (n : Fin 256) (k : Fin 1024) (q : Fin 64) (hq : q.val = (grid0.coords t 0).val) :
    iblk m c 0 t (ix3 0 n k) = m ((c : Thread nD τ).loc main_arg0) (ix3 q n k) := by
  blk_ext [iblk, V, idx t]

/-- A group's entering states' entries. -/
theorem s_at (c : Dev nD) (t : Fin cfg0.N) (n : Fin 256) (k : Fin 128) (p : Fin 8192) (hp : p.val = 128 * (grid0.coords t 0).val + k.val) :
    iblk m c 1 t (ix2 n k) = m ((c : Thread nD τ).loc main_arg1) (ix2 n p) := by
  blk_ext [iblk, V, idx t]

/-- A group's convolution weights' entries. -/
theorem w_at (c : Dev nD) (t : Fin cfg0.N) (k : Fin 128) (p : Fin 1024) (q : Fin 64) (hq : q.val = (grid0.coords t 0).val) :
    iblk m c 2 t (ix3 0 k p) = m ((c : Thread nD τ).loc main_arg2) (ix3 q k p) := by
  blk_ext [iblk, V, idx t]

/-- A group's state weights' entries. -/
theorem t_at (c : Dev nD) (t : Fin cfg0.N) (p : Fin 1024) (k : Fin 128) (q : Fin 64) (hq : q.val = (grid0.coords t 0).val) :
    iblk m c 3 t (ix3 0 p k) = m ((c : Thread nD τ).loc main_arg3) (ix3 q p k) := by
  blk_ext [iblk, V, idx t]

/-- A group's skip weights' entries. -/
theorem d_at (c : Dev nD) (t : Fin cfg0.N) (p : Fin 1024) (q : Fin 64) (hq : q.val = (grid0.coords t 0).val) :
    iblk m c 4 t (ix3 0 0 p) = m ((c : Thread nD τ).loc main_arg4) (ix3 q 0 p) := by
  blk_ext [iblk, V, idx t]

/-- What a grid point leaves, over the table it finds. -/
theorem point (c : Dev nD) (t : Fin cfg0.N) : ∃ T : Vec Ideal S1024x1024 .bf16,
    (t.val % 64 = 0 ∧ T = k0_pay2 (F := Ideal) ∨ ¬t.val % 64 = 0 ∧ T = (outsAt0 m c (t.val - 1) (Nat.lt_of_le_of_lt (Nat.sub_le _ _) t.isLt)).2)
    ∧ (outsAt0 m c t.val t.isLt).1 = outs (iblk m c 0 t) (iblk m c 1 t) (iblk m c 3 t) (iblk m c 4 t) (band (iblk m c 2 t) T)
    ∧ (outsAt0 m c t.val t.isLt).2 = band (iblk m c 2 t) T := by
  by_cases h0 : t.val % 64 = 0
  · have e : (outsAt0 m c t.val t.isLt).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) := by
      simp only [outsAt0_A m c t h0]
    exact ⟨_, Or.inl ⟨h0, rfl⟩, e.trans (outA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) ((hcond0_0 t).mpr h0)),
      (congrArg (fun q => q.2) (outsAt0_A m c t h0)).trans (carryA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) ((hcond0_0 t).mpr h0))⟩
  · have e : (outsAt0 m c t.val t.isLt).1 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2 := by
      simp only [outsAt0_B m c t h0]
    exact ⟨_, Or.inr ⟨h0, rfl⟩, e.trans (outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h))),
      (congrArg (fun q => q.2) (outsAt0_B m c t h0)).trans (carryB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (fun h => h0 ((hcond0_0 t).mp h)))⟩

/-- After every grid point the table is the group's weights over zeros. -/
theorem kept (c : Dev nD) (n : ℕ) : ∀ hn : n < cfg0.N, Upper (outsAt0 m c n hn).2 := by
  induction n with
  | zero =>
    intro hn
    obtain ⟨T, hT, _, h2⟩ := point m c ⟨0, hn⟩
    rcases hT with ⟨_, rfl⟩ | ⟨h, _⟩
    · exact h2 ▸ band_upper _ _ fill_upper
    · exact absurd rfl h
  | succ k ih =>
    intro hn
    obtain ⟨T, hT, _, h2⟩ := point m c ⟨k + 1, hn⟩
    rcases hT with ⟨_, rfl⟩ | ⟨_, rfl⟩
    · exact h2 ▸ band_upper _ _ fill_upper
    · exact h2 ▸ band_upper _ _ (ih (Nat.lt_of_succ_lt hn))

/-- A grid point's output block, over a table that is zero left of its diagonal blocks. -/
theorem block (c : Dev nD) (t : Fin cfg0.N) : ∃ T : Vec Ideal S1024x1024 .bf16, Upper T
    ∧ (outsAt0 m c t.val t.isLt).1 = outs (iblk m c 0 t) (iblk m c 1 t) (iblk m c 3 t) (iblk m c 4 t) (band (iblk m c 2 t) T) := by
  obtain ⟨T, hT, h1, _⟩ := point m c t
  rcases hT with ⟨_, rfl⟩ | ⟨_, rfl⟩
  · exact ⟨_, fill_upper, h1⟩
  · exact ⟨_, kept m c _ _, h1⟩

/-- The table's entries are the weights at the lag. -/
theorem band_lag (c : Dev nD) (t : Fin cfg0.N) (T : Vec Ideal S1024x1024 .bf16) (hT : Upper T) (q : Fin 64) (hq : q.val = (grid0.coords t 0).val) (k p : Fin 1024) :
    @Eq EReal (band (iblk m c 2 t) T (ix2 k p)) (lag (m ((c : Thread nD τ).loc main_arg2)) q k p) := by
  by_cases h : 128 * (k.val / 128) ≤ p.val
  · refine Eq.trans (if_pos (show 128 * (((ix2 k p : S1024x1024.Idx) 0).val / 128) ≤ ((ix2 k p : S1024x1024.Idx) 1).val from h)) ?_
    exact (w_at m c t _ _ q hq).trans (if_pos h).symm
  · exact (band_upper _ _ hT k p h).trans (if_neg h).symm

/-- The result array after the run. -/
theorem final (c : Dev nD) : (dats m 0 c).arrAt 5 (cfgs 0).N
    = chunkRows (m ((c : Thread nD τ).loc main_arg0)) (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t _ y => ?_
  blk_simp
  rw [after0_5]
  have h0 : (grid0.coords t 0).val < 64 := (grid0.coords t 0).isLt
  obtain ⟨r, hr⟩ : ∃ r : Fin 256, r = y 1 := ⟨y 1, rfl⟩
  obtain ⟨p, hp⟩ : ∃ p : Fin 1024, p = y 2 := ⟨y 2, rfl⟩
  obtain ⟨q, hq⟩ : ∃ q : Fin 64, q.val = (grid0.coords t 0).val := ⟨⟨_, h0⟩, rfl⟩
  have hy : y = ix3 0 r p := by subst hr hp; blk_ext
  have hE : (win0_5.blk t).view.emb y = ix3 q r p := by subst hy; blk_ext [idx t]
  obtain ⟨T, hT, hB⟩ := block m c t
  refine (congrArg (outsAt0 m c t.val t.isLt).1 hy).trans ((congrFun hB _).trans ((pay_at _ _ _ _ _ _ r p).trans ?_))
  refine Eq.trans ?_ (congrArg (chunkRows _ _ _ _ _) hE).symm
  refine congrArg gelu (congrArg₂ (fun a b : EReal => a + b) ((state_at _ _ _ _ r p).trans ?_) ((tiles_at _ _ (band_upper _ _ hT) r p).trans ?_))
  · refine congrArg₂ (fun a b : EReal => a + b) (Finset.sum_congr rfl fun k _ => congrArg₂ (fun a b : EReal => a * b) ?_ ?_) (congrArg₂ (fun a b : EReal => a * b) ?_ ?_)
    · exact s_at m c t r k _ (congrArg (fun n => 128 * n + k.val) hq)
    · exact t_at m c t p k q hq
    · exact d_at m c t p q hq
    · exact u_at m c t r p q hq
  · exact Finset.sum_congr rfl fun k _ => congrArg₂ (fun a b : EReal => a * b) ((input_at _ r k).trans (u_at m c t r k q hq)) (band_lag m c t T hT q hq k p)

end Cert.ChunkIdeal.Rows

namespace Cert.ChunkReferenceIdeal.Rows

open Cert.ChunkReferenceIdeal Cert.ChunkReferenceIdeal.Gen Idealize.ShloMosaic Idealize.ShloMosaic.TcCoe Idealize.SL.Sem Cert.Rows

/-- The convolution's weights, every input's row of them. -/
def lags (w : FVec Ideal S64x128x1024 .bf16) : FVec Ideal S64x1024x1024 .f32 :=
  (concatenate S64x1024x1024 1 [⟨S64x128x1024, ((pad S64x128x1024 ![0, 0, 0] ![0, 0, 0] ![0, 0, 0] (extf .f32 w bitsLt_bf16_f32) (sitofp .f32 (constantI S_ 32 0#32)) pads_S64x128x1024_S64x128x1024_000_000_000 h_S_) : FVec Ideal S64x128x1024 .f32)⟩, ⟨S64x128x1024, ((pad S64x128x1024 ![0, 0, 128] ![0, 0, 0] ![0, 0, 0] (extractStridedSlice S64x128x896 ![0, 0, 0] (extf .f32 w bitsLt_bf16_f32) slices_S64x128x1024_S64x128x896_0_0_0) (sitofp .f32 (constantI S_ 32 0#32)) pads_S64x128x896_S64x128x1024_000_000_12800 h_S_) : FVec Ideal S64x128x1024 .f32)⟩, ⟨S64x128x1024, ((pad S64x128x1024 ![0, 0, 256] ![0, 0, 0] ![0, 0, 0] (extractStridedSlice S64x128x768 ![0, 0, 0] (extf .f32 w bitsLt_bf16_f32) slices_S64x128x1024_S64x128x768_0_0_0) (sitofp .f32 (constantI S_ 32 0#32)) pads_S64x128x768_S64x128x1024_000_000_25600 h_S_) : FVec Ideal S64x128x1024 .f32)⟩, ⟨S64x128x1024, ((pad S64x128x1024 ![0, 0, 384] ![0, 0, 0] ![0, 0, 0] (extractStridedSlice S64x128x640 ![0, 0, 0] (extf .f32 w bitsLt_bf16_f32) slices_S64x128x1024_S64x128x640_0_0_0) (sitofp .f32 (constantI S_ 32 0#32)) pads_S64x128x640_S64x128x1024_000_000_38400 h_S_) : FVec Ideal S64x128x1024 .f32)⟩, ⟨S64x128x1024, ((pad S64x128x1024 ![0, 0, 512] ![0, 0, 0] ![0, 0, 0] (extractStridedSlice S64x128x512 ![0, 0, 0] (extf .f32 w bitsLt_bf16_f32) slices_S64x128x1024_S64x128x512_0_0_0) (sitofp .f32 (constantI S_ 32 0#32)) pads_S64x128x512_S64x128x1024_000_000_51200 h_S_) : FVec Ideal S64x128x1024 .f32)⟩, ⟨S64x128x1024, ((pad S64x128x1024 ![0, 0, 640] ![0, 0, 0] ![0, 0, 0] (extractStridedSlice S64x128x384 ![0, 0, 0] (extf .f32 w bitsLt_bf16_f32) slices_S64x128x1024_S64x128x384_0_0_0) (sitofp .f32 (constantI S_ 32 0#32)) pads_S64x128x384_S64x128x1024_000_000_64000 h_S_) : FVec Ideal S64x128x1024 .f32)⟩, ⟨S64x128x1024, ((pad S64x128x1024 ![0, 0, 768] ![0, 0, 0] ![0, 0, 0] (extractStridedSlice S64x128x256 ![0, 0, 0] (extf .f32 w bitsLt_bf16_f32) slices_S64x128x1024_S64x128x256_0_0_0) (sitofp .f32 (constantI S_ 32 0#32)) pads_S64x128x256_S64x128x1024_000_000_76800 h_S_) : FVec Ideal S64x128x1024 .f32)⟩, ⟨S64x128x1024, ((pad S64x128x1024 ![0, 0, 896] ![0, 0, 0] ![0, 0, 0] (extractStridedSlice S64x128x128 ![0, 0, 0] (extf .f32 w bitsLt_bf16_f32) slices_S64x128x1024_S64x128x128_0_0_0) (sitofp .f32 (constantI S_ 32 0#32)) pads_S64x128x128_S64x128x1024_000_000_89600 h_S_) : FVec Ideal S64x128x1024 .f32)⟩] concatenates_S64x128x1024_S64x128x1024_S64x128x1024_S64x128x1024_S64x128x1024_S64x128x1024_S64x128x1024_S64x128x1024_S64x1024x1024_d1 : FVec Ideal S64x1024x1024 .f32)

/-- The outputs before their activation. -/
def pre (u : FVec Ideal S64x256x1024 .f32) (s : FVec Ideal S256x8192 .f32) (w : FVec Ideal S64x128x1024 .bf16) (t : FVec Ideal S64x1024x128 .bf16) (d : FVec Ideal S64x1x1024 .f32) :
    FVec Ideal S64x256x1024 .f32 :=
  (addf (addf (Host.dotGeneral dot_S64x256x128_S64x128x1024_S64x256x1024_2_1_1_2_0_0 none (transpose S64x256x128 [1, 0, 2] (shapeCast _ s shapeCasts_S256x8192_S256x64x128) transposes_S256x64x128_S64x256x128_1_0_2) (transpose S64x128x1024 [0, 2, 1] (extf .f32 t bitsLt_bf16_f32) transposes_S64x1024x128_S64x128x1024_0_2_1)) (Host.dotGeneral dot_S64x256x1024_S64x1024x1024_S64x256x1024_2_1_1_2_0_0 none u (lags w))) (mulf (broadcastInDim S64x256x1024 ![0, 1, 2] bcast_S64x1x1024_S64x256x1024_0_1_2 d) u))

/-- The activation of an array. -/
def act (y : FVec Ideal S64x256x1024 .f32) : FVec Ideal S64x256x1024 .bf16 :=
  truncf .bf16 (mulf y (mulf (broadcastInDim S64x256x1024 ![] bcast_S_S64x256x1024 (constant S_ .f32 0x3F000000#32)) (addf (broadcastInDim S64x256x1024 ![] bcast_S_S64x256x1024 (constant S_ .f32 0x3F800000#32)) (Host.tanh (mulf (broadcastInDim S64x256x1024 ![] bcast_S_S64x256x1024 (constant S_ .f32 0x3F4C422A#32)) (addf y (mulf (broadcastInDim S64x256x1024 ![] bcast_S_S64x256x1024 (constant S_ .f32 0x3D372713#32)) (mulf (mulf y y) y)))))))) bitsLt_bf16_f32

/-- The convolution's weights at an input that is not later. -/
theorem lags_le (w : FVec Ideal S64x128x1024 .bf16) (q : Fin 64) (k p : Fin 1024) (h : 128 * (k.val / 128) ≤ p.val) :
    @Eq EReal (lags w (ix3 q k p)) (w (ix3 q ⟨k.val % 128, by omega⟩ ⟨p.val - 128 * (k.val / 128), by omega⟩)) := by
  have hw : ∀ (a a' : Fin 128) (b b' : Fin 1024), a.val = a'.val → b.val = b'.val → w (ix3 q a b) = w (ix3 q a' b') := fun a a' b b' ha hb => by
    rw [Fin.ext ha, Fin.ext hb]
  pointwise [lags]
  split_ifs <;> first
    | exact hw _ _ _ _ (by dsimp only; omega) (by dsimp only; omega)
    | (exfalso; omega)

/-- The convolution's weights at a later input. -/
theorem lags_gt (w : FVec Ideal S64x128x1024 .bf16) (q : Fin 64) (k p : Fin 1024) (h : ¬128 * (k.val / 128) ≤ p.val) :
    @Eq EReal (lags w (ix3 q k p)) 0 := by
  have hz : @Eq EReal (FloatOps.sitofp (F := Ideal) FTy.f32 (0#32)) 0 := by
    simp [FloatOps.sitofp]
  pointwise [lags]
  split_ifs <;> first
    | exact hz
    | (exfalso; omega)

/-- The convolution's weights' entries. -/
theorem lags_at (w : FVec Ideal S64x128x1024 .bf16) (q : Fin 64) (k p : Fin 1024) : @Eq EReal (lags w (ix3 q k p)) (lag w q k p) := by
  by_cases h : 128 * (k.val / 128) ≤ p.val
  · exact (lags_le w q k p h).trans (if_pos h).symm
  · exact (lags_gt w q k p h).trans (if_neg h).symm

/-- The outputs' entries before their activation. -/
theorem pre_at (u : FVec Ideal S64x256x1024 .f32) (s : FVec Ideal S256x8192 .f32) (w : FVec Ideal S64x128x1024 .bf16) (t : FVec Ideal S64x1024x128 .bf16)
    (d : FVec Ideal S64x1x1024 .f32) (q : Fin 64) (r : Fin 256) (p : Fin 1024) : @Eq EReal (pre u s w t d (ix3 q r p))
      ((∑ k : Fin 128, s (ix2 r ⟨128 * q.val + k.val, by omega⟩) * t (ix3 q p k)) + d (ix3 q 0 p) * u (ix3 q r p) + ∑ k : Fin 1024, u (ix3 q r k) * lag w q k p) := by
  have e : ∑ k : Fin 1024, (u (ix3 q r k) : EReal) * lag w q k p = ∑ k : Fin 1024, (u (ix3 q r k) : EReal) * (lags w (ix3 q k p) : EReal) :=
    Finset.sum_congr rfl fun k _ => congrArg (fun a : EReal => (u (ix3 q r k) : EReal) * a) (lags_at w q k p).symm
  rw [e]
  unfold pre
  generalize lags w = l
  refine Eq.trans ?_ (add_right_comm _ _ _)
  have e2 : ∀ k : Fin 128, ∀ h, (⟨128 * q.val + k.val, h⟩ : Fin 8192) = ⟨q.val * 128 + k.val, by omega⟩ := fun k h => Fin.ext (by dsimp only; omega)
  simp only [e2]
  pointwise

/-- The activation's entries. -/
theorem act_at (y : FVec Ideal S64x256x1024 .f32) (i : S64x256x1024.Idx) : @Eq EReal (act y i) (gelu (y i)) := by
  have e : ∀ a b c : EReal, a * (b * c) = b * a * c := fun a b c => by rw [← mul_assoc, mul_comm a b]
  pointwise [act, gelu]
  exact e _ _ _

/-- The reference ends with every group's chunks' outputs, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = chunkRows (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run (F := Ideal) m ρ)
  have e : Value.res_main_v40 m c = act (pre (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) := rfl
  refine e.trans ?_
  funext i
  obtain ⟨q, r, p, rfl⟩ : ∃ (q : Fin 64) (r : Fin 256) (p : Fin 1024), i = ix3 q r p := ⟨i 0, i 1, i 2, by blk_ext⟩
  exact (act_at _ _).trans (congrArg gelu (pre_at _ _ _ _ _ q r p))

end Cert.ChunkReferenceIdeal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Lib.Quiescent
public import proofs.«01_k».proof.Proof.Attn.Finite
public import proofs.«01_k».proof.Proof.Attn.Final
public import proofs.«01_k».proof.Proof.Gen.KernelIdeal.Value
public import proofs.«01_k».proof.Proof.Gen.ReferenceIdeal.Run
public import proofs.«01_k».proof.Proof.Gen.Mlp.Frame
public import proofs.«01_k».proof.Proof.Gen.MlpIdeal.Value
public import proofs.«01_k».proof.Proof.Gen.MlpReferenceIdeal.Run
public import proofs.«01_k».proof.Proof.Gen.Last.Frame
public import proofs.«01_k».proof.Proof.Gen.LastIdeal.Frame
public import proofs.«01_k».proof.Proof.Gen.LastReferenceIdeal.Run
public import proofs.«01_k».proof.Proof.Gen.Out.Frame
public import proofs.«01_k».proof.Proof.Gen.OutIdeal.Value
public import proofs.«01_k».proof.Proof.Gen.OutReferenceIdeal.Run
public import proofs.«01_k».proof.Proof.Gen.Glu.Frame
public import proofs.«01_k».proof.Proof.Gen.GluIdeal.Value
public import proofs.«01_k».proof.Proof.Gen.GluReferenceIdeal.Run
public import proofs.«01_k».proof.Proof.Rows.MlpOut
public import proofs.«01_k».proof.Proof.Rows.MlpRef
public import proofs.«01_k».proof.Proof.Rows.LastOut
public import proofs.«01_k».proof.Proof.Rows.LastRef
public import proofs.«01_k».proof.Proof.Rows.OutOut
public import proofs.«01_k».proof.Proof.Rows.OutRef
public import proofs.«01_k».proof.Proof.Rows.GluOut
public import proofs.«01_k».proof.Proof.Rows.GluRef
public import proofs.«01_k».proof.Proof.Rows.QFinite
public import proofs.«01_k».proof.Proof.Rows.QOut
public import proofs.«01_k».proof.Proof.Rows.QRef
public import proofs.«01_k».proof.Proof.Gen.Q.Frame
public import proofs.«01_k».proof.Proof.Gen.QIdeal.Value
public import proofs.«01_k».proof.Proof.Gen.QReferenceIdeal.Run
public import proofs.«01_k».proof.Proof.Rows.KvFinite
public import proofs.«01_k».proof.Proof.Rows.KvOut
public import proofs.«01_k».proof.Proof.Rows.KvRef
public import proofs.«01_k».proof.Proof.Gen.Kv.Frame
public import proofs.«01_k».proof.Proof.Gen.KvIdeal.Value
public import proofs.«01_k».proof.Proof.Gen.KvReferenceIdeal.Run
public import proofs.«01_k».proof.Proof.Rows.NormOut
public import proofs.«01_k».proof.Proof.Gen.Norm.Frame
public import proofs.«01_k».proof.Proof.Gen.NormIdeal.Value
public import proofs.«01_k».proof.Proof.Gen.NormReferenceIdeal.Run
public import proofs.«01_k».proof.Proof.Rows.SummaryOut
public import proofs.«01_k».proof.Proof.Gen.Summary.Frame
public import proofs.«01_k».proof.Proof.Gen.SummaryIdeal.Value
public import proofs.«01_k».proof.Proof.Gen.SummaryReferenceIdeal.Run
public import proofs.«01_k».proof.Proof.Rows.ChunkOut
public import proofs.«01_k».proof.Proof.Gen.Chunk.Frame
public import proofs.«01_k».proof.Proof.Gen.ChunkIdeal.Value
public import proofs.«01_k».proof.Proof.Gen.ChunkReferenceIdeal.Run
public import Idealize.ShloMosaic.Init

@[expose] public section

noncomputable section

namespace Cert.Proof

open Idealize.ShloMosaic Idealize.SL.Sem Cert.Kernel

/-- The printed attention ends with its arguments unchanged and every semaphore at zero. -/
theorem attn_kernel_frame : quiescent_Kernel (hKernel := Cert.Kernel.Gen.facts) :=
  fun m ρ _ => Cert.Kernel.Gen.frame m ρ

/-- So does the idealized attention. -/
theorem attn_ideal_frame : quiescent_KernelIdeal (hKernelIdeal := Cert.KernelIdeal.Gen.facts) :=
  fun m ρ _ => Cert.KernelIdeal.Gen.frame m ρ

/-- So does the reference. -/
theorem attn_reference_frame : quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- The mask's large negative word is named minus infinity. -/
theorem attn_preserves : preserves_Kernel_KernelIdeal :=
  IdealRules.named_const.statement Cert.KernelIdeal.κ "mask" .f32 0xF149F2CA#32 ⊥ rfl

/-- The idealized attention and the reference leave equal results. -/
theorem attn_algebraic : algebraic_KernelIdeal_ReferenceIdeal_pre_finite_queries_keys
    (hKernelIdeal := Cert.KernelIdeal.Gen.facts) (hReferenceIdeal := Cert.ReferenceIdeal.Gen.facts)
    (hPre_finite_queries_keys := Cert.Pre_finite_queries_keys.facts) := by
  intro m g m' g' hpre hag
  have hr := fun c => Cert.Pre_finite_queries_keys.real (self := Cert.Pre_finite_queries_keys.facts) (hpre c)
  refine ⟨fun c => (Cert.KernelIdeal.Gen.dats m 0 c).arrAt 3 (Cert.KernelIdeal.cfgs 0).N, Cert.KernelIdeal.Value.run_blocks m g,
    (θ_run Cert.ReferenceIdeal.defs _ _).mono (fun r h c => ⟨(h c).1.trans ?_, (h c).2⟩) (Cert.ReferenceIdeal.Value.run (F := Ideal) m' g')⟩
  refine (Cert.ReferenceIdeal.Attn.res_eq m' c).trans ?_
  rw [(hag c).1, (hag c).2.1, (hag c).2.2]
  exact (Cert.KernelIdeal.Attn.final m c (fun j => (hr c j).1) (fun j => (hr c j).2)).symm

/-- The printed MLP ends with its arguments unchanged and every semaphore at zero. -/
theorem mlp_kernel_frame : quiescent_Mlp (hMlp := Cert.Mlp.Gen.facts) :=
  fun m ρ _ => Cert.Mlp.Gen.frame m ρ

/-- So does the idealized MLP. -/
theorem mlp_ideal_frame : quiescent_MlpIdeal (hMlpIdeal := Cert.MlpIdeal.Gen.facts) :=
  fun m ρ _ => Cert.MlpIdeal.Gen.frame m ρ

/-- So does the MLP's reference. -/
theorem mlp_reference_frame : quiescent_MlpReferenceIdeal (hMlpReferenceIdeal := Cert.MlpReferenceIdeal.Gen.facts) :=
  fun m ρ _ => (θ_run Cert.MlpReferenceIdeal.defs _ _).mono
    (fun r h => ⟨fun c => (h c).2, Idealize.ShloMosaic.sem_eq_zero_of_no_sems (by decide) r.2⟩) (Cert.MlpReferenceIdeal.Rows.run m ρ)

/-- The idealized MLP and its reference leave equal results. -/
theorem mlp_algebraic : algebraic_MlpIdeal_MlpReferenceIdeal
    (hMlpIdeal := Cert.MlpIdeal.Gen.facts) (hMlpReferenceIdeal := Cert.MlpReferenceIdeal.Gen.facts) := by
  intro m g m' g' _ hag
  refine ⟨fun c => Cert.Rows.mlpRows (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)),
    (θ_run Cert.MlpIdeal.defs _ _).mono (fun r h c => ⟨(h c).1.trans (Cert.MlpIdeal.Rows.final m c), (h c).2⟩) (Cert.MlpIdeal.Value.run_blocks m g),
    (θ_run Cert.MlpReferenceIdeal.defs _ _).mono (fun r h c => ⟨(h c).1.trans ?_, (h c).2⟩) (Cert.MlpReferenceIdeal.Rows.run m' g')⟩
  rw [(hag c).1, (hag c).2.1, (hag c).2.2.1, (hag c).2.2.2.1]

/-- The printed last MLP ends with its arguments unchanged and every semaphore at zero. -/
theorem last_kernel_frame : quiescent_Last (hLast := Cert.Last.Gen.facts) :=
  fun m ρ _ => Cert.Last.Gen.frame m ρ

/-- So does the idealized last MLP. -/
theorem last_ideal_frame : quiescent_LastIdeal (hLastIdeal := Cert.LastIdeal.Gen.facts) :=
  fun m ρ _ => Cert.LastIdeal.Gen.frame m ρ

/-- So does the last MLP's reference. -/
theorem last_reference_frame : quiescent_LastReferenceIdeal (hLastReferenceIdeal := Cert.LastReferenceIdeal.Gen.facts) :=
  fun m ρ _ => (θ_run Cert.LastReferenceIdeal.defs _ _).mono
    (fun r h => ⟨fun c => (h c).2, Idealize.ShloMosaic.sem_eq_zero_of_no_sems (by decide) r.2⟩) (Cert.LastReferenceIdeal.Rows.run m ρ)

/-- The idealized last MLP and its reference leave equal results. -/
theorem last_algebraic : algebraic_LastIdeal_LastReferenceIdeal
    (hLastIdeal := Cert.LastIdeal.Gen.facts) (hLastReferenceIdeal := Cert.LastReferenceIdeal.Gen.facts) := by
  intro m g m' g' _ hag
  refine ⟨fun c => Cert.Rows.lastRows (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)),
    Cert.LastIdeal.Rows.run m g,
    (θ_run Cert.LastReferenceIdeal.defs _ _).mono (fun r h c => ⟨(h c).1.trans ?_, (h c).2⟩) (Cert.LastReferenceIdeal.Rows.run m' g')⟩
  rw [(hag c).1, (hag c).2.1, (hag c).2.2.1, (hag c).2.2.2.1, (hag c).2.2.2.2]

/-- The printed output projection ends with its arguments unchanged and every semaphore at zero. -/
theorem out_kernel_frame : quiescent_Out (hOut := Cert.Out.Gen.facts) :=
  fun m ρ _ => Cert.Out.Gen.frame m ρ

/-- So does the idealized output projection. -/
theorem out_ideal_frame : quiescent_OutIdeal (hOutIdeal := Cert.OutIdeal.Gen.facts) :=
  fun m ρ _ => Cert.OutIdeal.Gen.frame m ρ

/-- So does the output projection's reference. -/
theorem out_reference_frame : quiescent_OutReferenceIdeal (hOutReferenceIdeal := Cert.OutReferenceIdeal.Gen.facts) :=
  fun m ρ _ => (θ_run Cert.OutReferenceIdeal.defs _ _).mono
    (fun r h => ⟨fun c => (h c).2, Idealize.ShloMosaic.sem_eq_zero_of_no_sems (by decide) r.2⟩) (Cert.OutReferenceIdeal.Rows.run m ρ)

/-- The idealized output projection and its reference leave equal results. -/
theorem out_algebraic : algebraic_OutIdeal_OutReferenceIdeal
    (hOutIdeal := Cert.OutIdeal.Gen.facts) (hOutReferenceIdeal := Cert.OutReferenceIdeal.Gen.facts) := by
  intro m g m' g' _ hag
  refine ⟨fun c => Cert.Rows.outRows (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)),
    (θ_run Cert.OutIdeal.defs _ _).mono (fun r h c => ⟨(h c).1.trans (Cert.OutIdeal.Rows.final m c), (h c).2⟩) (Cert.OutIdeal.Value.run_blocks m g),
    (θ_run Cert.OutReferenceIdeal.defs _ _).mono (fun r h c => ⟨(h c).1.trans ?_, (h c).2⟩) (Cert.OutReferenceIdeal.Rows.run m' g')⟩
  rw [(hag c).1, (hag c).2.1, (hag c).2.2]

/-- The printed gated projection ends with its arguments unchanged and every semaphore at zero. -/
theorem glu_kernel_frame : quiescent_Glu (hGlu := Cert.Glu.Gen.facts) :=
  fun m ρ _ => Cert.Glu.Gen.frame m ρ

/-- So does the idealized gated projection. -/
theorem glu_ideal_frame : quiescent_GluIdeal (hGluIdeal := Cert.GluIdeal.Gen.facts) :=
  fun m ρ _ => Cert.GluIdeal.Gen.frame m ρ

/-- So does the gated projection's reference. -/
theorem glu_reference_frame : quiescent_GluReferenceIdeal (hGluReferenceIdeal := Cert.GluReferenceIdeal.Gen.facts) :=
  fun m ρ _ => (θ_run Cert.GluReferenceIdeal.defs _ _).mono
    (fun r h => ⟨fun c => (h c).2, Idealize.ShloMosaic.sem_eq_zero_of_no_sems (by decide) r.2⟩) (Cert.GluReferenceIdeal.Rows.run m ρ)

/-- The idealized gated projection and its reference leave equal results. -/
theorem glu_algebraic : algebraic_GluIdeal_GluReferenceIdeal
    (hGluIdeal := Cert.GluIdeal.Gen.facts) (hGluReferenceIdeal := Cert.GluReferenceIdeal.Gen.facts) := by
  intro m g m' g' _ hag
  refine ⟨fun c => Cert.Rows.gluRows (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)),
    (θ_run Cert.GluIdeal.defs _ _).mono (fun r h c => ⟨(h c).1.trans (Cert.GluIdeal.Rows.final m c), (h c).2⟩) (Cert.GluIdeal.Value.run_blocks m g),
    (θ_run Cert.GluReferenceIdeal.defs _ _).mono (fun r h c => ⟨(h c).1.trans ?_, (h c).2⟩) (Cert.GluReferenceIdeal.Rows.run m' g')⟩
  rw [(hag c).1, (hag c).2.1, (hag c).2.2]

/-- The printed query projection ends with its arguments unchanged and every semaphore at zero. -/
theorem q_kernel_frame : quiescent_Q (hQ := Cert.Q.Gen.facts) :=
  fun m ρ _ => Cert.Q.Gen.frame m ρ

/-- So does the idealized query projection. -/
theorem q_ideal_frame : quiescent_QIdeal (hQIdeal := Cert.QIdeal.Gen.facts) :=
  fun m ρ _ => Cert.QIdeal.Gen.frame m ρ

/-- So does the query projection's reference. -/
theorem q_reference_frame : quiescent_QReferenceIdeal (hQReferenceIdeal := Cert.QReferenceIdeal.Gen.facts) :=
  fun m ρ _ => (θ_run Cert.QReferenceIdeal.defs _ _).mono
    (fun r h => ⟨fun c => (h c).2, Idealize.ShloMosaic.sem_eq_zero_of_no_sems (by decide) r.2⟩) (Cert.QReferenceIdeal.Rows.run m ρ)

/-- Where the running sums are real the idealized query projection and its reference leave equal results. -/
theorem q_algebraic : algebraic_QIdeal_QReferenceIdeal_pre_finite_sums
    (hQIdeal := Cert.QIdeal.Gen.facts) (hQReferenceIdeal := Cert.QReferenceIdeal.Gen.facts)
    (hPre_finite_sums := Cert.Pre_finite_sums.facts) := by
  intro m g m' g' hpre hag
  have hr := fun c => Cert.Pre_finite_sums.real (self := Cert.Pre_finite_sums.facts) (hpre c)
  refine ⟨fun c => Cert.Rows.queryHeads (m ((c.tc : Thread Cert.QIdeal.nD Cert.QIdeal.τ).loc Cert.QIdeal.main_arg0)) (m ((c.tc : Thread Cert.QIdeal.nD Cert.QIdeal.τ).loc Cert.QIdeal.main_arg1)) (m ((c.tc : Thread Cert.QIdeal.nD Cert.QIdeal.τ).loc Cert.QIdeal.main_arg2)) (m ((c.tc : Thread Cert.QIdeal.nD Cert.QIdeal.τ).loc Cert.QIdeal.main_arg3)),
    (θ_run Cert.QIdeal.defs _ _).mono (fun r h c => ⟨(h c).1.trans (Cert.QIdeal.Rows.final m c (hr c)), (h c).2⟩) (Cert.QIdeal.Value.run_blocks m g),
    (θ_run Cert.QReferenceIdeal.defs _ _).mono (fun r h c => ⟨(h c).1.trans ?_, (h c).2⟩) (Cert.QReferenceIdeal.Rows.run m' g')⟩
  rw [(hag c).1, (hag c).2.1, (hag c).2.2.1, (hag c).2.2.2]

/-- The printed key-value projection ends with its arguments unchanged and every semaphore at zero. -/
theorem kv_kernel_frame : quiescent_Kv (hKv := Cert.Kv.Gen.facts) :=
  fun m ρ _ => Cert.Kv.Gen.frame m ρ

/-- So does the idealized key-value projection. -/
theorem kv_ideal_frame : quiescent_KvIdeal (hKvIdeal := Cert.KvIdeal.Gen.facts) :=
  fun m ρ _ => Cert.KvIdeal.Gen.frame m ρ

/-- So does the key-value projection's reference. -/
theorem kv_reference_frame : quiescent_KvReferenceIdeal (hKvReferenceIdeal := Cert.KvReferenceIdeal.Gen.facts) :=
  fun m ρ _ => (θ_run Cert.KvReferenceIdeal.defs _ _).mono
    (fun r h => ⟨fun c => (h c).2.2.2, Idealize.ShloMosaic.sem_eq_zero_of_no_sems (by decide) r.2⟩) (Cert.KvReferenceIdeal.Rows.run m ρ)

/-- Where no gate's logit is minus infinity the idealized key-value projection and its reference leave equal keys, values and running sums. -/
theorem kv_algebraic : algebraic_KvIdeal_KvReferenceIdeal_pre_open_gates
    (hKvIdeal := Cert.KvIdeal.Gen.facts) (hKvReferenceIdeal := Cert.KvReferenceIdeal.Gen.facts)
    (hPre_open_gates := Cert.Pre_open_gates.facts) := by
  intro m g m' g' hpre hag
  have hr := fun c => Cert.Pre_open_gates.logit_ne (self := Cert.Pre_open_gates.facts) (hpre c)
  refine ⟨fun c => Cert.Rows.keyHeads (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)),
    fun c => Cert.Rows.valueRows (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)),
    fun c => Cert.Rows.sumRows (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)),
    (θ_run Cert.KvIdeal.defs _ _).mono (fun r h c => ⟨(h c).1.trans (Cert.KvIdeal.Rows.final8 m c (hr c)), (h c).2.1.trans (Cert.KvIdeal.Rows.final9 m c),
      (h c).2.2.1.trans (Cert.KvIdeal.Rows.final10 m c (hr c)), (h c).2.2.2⟩) (Cert.KvIdeal.Value.run_blocks m g),
    (θ_run Cert.KvReferenceIdeal.defs _ _).mono (fun r h c => ⟨(h c).1.trans ?_, (h c).2.1.trans ?_, (h c).2.2.1.trans ?_, (h c).2.2.2⟩) (Cert.KvReferenceIdeal.Rows.run m' g')⟩
  · rw [(hag c).1, (hag c).2.1, (hag c).2.2.1, (hag c).2.2.2]
  · rw [(hag c).1, (hag c).2.1, (hag c).2.2.1]
  · rw [(hag c).1, (hag c).2.1, (hag c).2.2.1, (hag c).2.2.2]

/-- The printed norm call ends with its arguments unchanged and every semaphore at zero. -/
theorem norm_kernel_frame : quiescent_Norm (hNorm := Cert.Norm.Gen.facts) :=
  fun m ρ _ => Cert.Norm.Gen.frame m ρ

/-- So does the idealized norm call. -/
theorem norm_ideal_frame : quiescent_NormIdeal (hNormIdeal := Cert.NormIdeal.Gen.facts) :=
  fun m ρ _ => Cert.NormIdeal.Gen.frame m ρ

/-- So does the norm call's reference. -/
theorem norm_reference_frame : quiescent_NormReferenceIdeal (hNormReferenceIdeal := Cert.NormReferenceIdeal.Gen.facts) :=
  fun m ρ _ => (θ_run Cert.NormReferenceIdeal.defs _ _).mono
    (fun r h => ⟨fun c => (h c).2, Idealize.ShloMosaic.sem_eq_zero_of_no_sems (by decide) r.2⟩) (Cert.NormReferenceIdeal.Rows.run m ρ)

/-- The idealized norm call and its reference leave equal results. -/
theorem norm_algebraic : algebraic_NormIdeal_NormReferenceIdeal
    (hNormIdeal := Cert.NormIdeal.Gen.facts) (hNormReferenceIdeal := Cert.NormReferenceIdeal.Gen.facts) := by
  intro m g m' g' _ hag
  refine ⟨fun c => Cert.Rows.normRows (m ((c.tc : Thread Cert.NormIdeal.nD Cert.NormIdeal.τ).loc Cert.NormIdeal.main_arg0)) (m ((c.tc : Thread Cert.NormIdeal.nD Cert.NormIdeal.τ).loc Cert.NormIdeal.main_arg1)),
    (θ_run Cert.NormIdeal.defs _ _).mono (fun r h c => ⟨(h c).1.trans (Cert.NormIdeal.Rows.final m c), (h c).2⟩) (Cert.NormIdeal.Value.run_blocks m g),
    (θ_run Cert.NormReferenceIdeal.defs _ _).mono (fun r h c => ⟨(h c).1.trans ?_, (h c).2⟩) (Cert.NormReferenceIdeal.Rows.run m' g')⟩
  rw [(hag c).1, (hag c).2]

/-- The printed chunk summary call ends with its arguments unchanged and every semaphore at zero. -/
theorem summary_kernel_frame : quiescent_Summary (hSummary := Cert.Summary.Gen.facts) :=
  fun m ρ _ => Cert.Summary.Gen.frame m ρ

/-- So does the idealized chunk summary call. -/
theorem summary_ideal_frame : quiescent_SummaryIdeal (hSummaryIdeal := Cert.SummaryIdeal.Gen.facts) :=
  fun m ρ _ => Cert.SummaryIdeal.Gen.frame m ρ

/-- So does the chunk summary call's reference. -/
theorem summary_reference_frame : quiescent_SummaryReferenceIdeal (hSummaryReferenceIdeal := Cert.SummaryReferenceIdeal.Gen.facts) :=
  fun m ρ _ => (θ_run Cert.SummaryReferenceIdeal.defs _ _).mono
    (fun r h => ⟨fun c => (h c).2, Idealize.ShloMosaic.sem_eq_zero_of_no_sems (by decide) r.2⟩) (Cert.SummaryReferenceIdeal.Rows.run m ρ)

/-- The idealized chunk summary call and its reference leave equal results. -/
theorem summary_algebraic : algebraic_SummaryIdeal_SummaryReferenceIdeal
    (hSummaryIdeal := Cert.SummaryIdeal.Gen.facts) (hSummaryReferenceIdeal := Cert.SummaryReferenceIdeal.Gen.facts) := by
  intro m g m' g' _ hag
  refine ⟨fun c => Cert.Rows.summaryRows (m ((c.tc : Thread Cert.SummaryIdeal.nD Cert.SummaryIdeal.τ).loc Cert.SummaryIdeal.main_arg0)) (m ((c.tc : Thread Cert.SummaryIdeal.nD Cert.SummaryIdeal.τ).loc Cert.SummaryIdeal.main_arg1)),
    (θ_run Cert.SummaryIdeal.defs _ _).mono (fun r h c => ⟨(h c).1.trans (Cert.SummaryIdeal.Rows.final m c), (h c).2⟩) (Cert.SummaryIdeal.Value.run_blocks m g),
    (θ_run Cert.SummaryReferenceIdeal.defs _ _).mono (fun r h c => ⟨(h c).1.trans ?_, (h c).2⟩) (Cert.SummaryReferenceIdeal.Rows.run m' g')⟩
  rw [(hag c).1, (hag c).2]

/-- The printed chunk output call ends with its arguments unchanged and every semaphore at zero. -/
theorem chunk_kernel_frame : quiescent_Chunk (hChunk := Cert.Chunk.Gen.facts) :=
  fun m ρ _ => Cert.Chunk.Gen.frame m ρ

/-- So does the idealized chunk output call. -/
theorem chunk_ideal_frame : quiescent_ChunkIdeal (hChunkIdeal := Cert.ChunkIdeal.Gen.facts) :=
  fun m ρ _ => Cert.ChunkIdeal.Gen.frame m ρ

/-- So does the chunk output call's reference. -/
theorem chunk_reference_frame : quiescent_ChunkReferenceIdeal (hChunkReferenceIdeal := Cert.ChunkReferenceIdeal.Gen.facts) :=
  fun m ρ _ => (θ_run Cert.ChunkReferenceIdeal.defs _ _).mono
    (fun r h => ⟨fun c => (h c).2, Idealize.ShloMosaic.sem_eq_zero_of_no_sems (by decide) r.2⟩) (Cert.ChunkReferenceIdeal.Rows.run m ρ)

/-- The idealized chunk output call and its reference leave equal results. -/
theorem chunk_algebraic : algebraic_ChunkIdeal_ChunkReferenceIdeal
    (hChunkIdeal := Cert.ChunkIdeal.Gen.facts) (hChunkReferenceIdeal := Cert.ChunkReferenceIdeal.Gen.facts) := by
  intro m g m' g' _ hag
  refine ⟨fun c => Cert.Rows.chunkRows (m ((c.tc : Thread Cert.ChunkIdeal.nD Cert.ChunkIdeal.τ).loc Cert.ChunkIdeal.main_arg0)) (m ((c.tc : Thread Cert.ChunkIdeal.nD Cert.ChunkIdeal.τ).loc Cert.ChunkIdeal.main_arg1)) (m ((c.tc : Thread Cert.ChunkIdeal.nD Cert.ChunkIdeal.τ).loc Cert.ChunkIdeal.main_arg2)) (m ((c.tc : Thread Cert.ChunkIdeal.nD Cert.ChunkIdeal.τ).loc Cert.ChunkIdeal.main_arg3)) (m ((c.tc : Thread Cert.ChunkIdeal.nD Cert.ChunkIdeal.τ).loc Cert.ChunkIdeal.main_arg4)),
    (θ_run Cert.ChunkIdeal.defs _ _).mono (fun r h c => ⟨(h c).1.trans (Cert.ChunkIdeal.Rows.final m c), (h c).2⟩) (Cert.ChunkIdeal.Value.run_blocks m g),
    (θ_run Cert.ChunkReferenceIdeal.defs _ _).mono (fun r h c => ⟨(h c).1.trans ?_, (h c).2⟩) (Cert.ChunkReferenceIdeal.Rows.run m' g')⟩
  rw [(hag c).1, (hag c).2.1, (hag c).2.2.1, (hag c).2.2.2.1, (hag c).2.2.2.2]

/-- Everything that is claimed. -/
theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.Last.Gen.facts, Cert.LastIdeal.Gen.facts, Cert.LastReferenceIdeal.Gen.facts,
  Cert.Out.Gen.facts, Cert.OutIdeal.Gen.facts, Cert.OutReferenceIdeal.Gen.facts,
  Cert.Glu.Gen.facts, Cert.GluIdeal.Gen.facts, Cert.GluReferenceIdeal.Gen.facts,
  Cert.Q.Gen.facts, Cert.QIdeal.Gen.facts, Cert.QReferenceIdeal.Gen.facts,
  Cert.Kv.Gen.facts, Cert.KvIdeal.Gen.facts, Cert.KvReferenceIdeal.Gen.facts,
  Cert.Norm.Gen.facts, Cert.NormIdeal.Gen.facts, Cert.NormReferenceIdeal.Gen.facts,
  Cert.Summary.Gen.facts, Cert.SummaryIdeal.Gen.facts, Cert.SummaryReferenceIdeal.Gen.facts,
  Cert.Chunk.Gen.facts, Cert.ChunkIdeal.Gen.facts, Cert.ChunkReferenceIdeal.Gen.facts,
  Cert.Pre_finite_queries_keys.facts, Cert.Pre_finite_sums.facts, Cert.Pre_open_gates.facts,
  attn_kernel_frame, attn_ideal_frame, fun m g _ => attn_ideal_frame m g trivial, attn_reference_frame, fun m g _ => attn_reference_frame m g trivial,
  mlp_kernel_frame, mlp_ideal_frame, mlp_reference_frame,
  last_kernel_frame, last_ideal_frame, last_reference_frame,
  out_kernel_frame, out_ideal_frame, out_reference_frame,
  glu_kernel_frame, glu_ideal_frame, glu_reference_frame,
  q_kernel_frame, q_ideal_frame, fun m g _ => q_ideal_frame m g trivial, q_reference_frame, fun m g _ => q_reference_frame m g trivial,
  kv_kernel_frame, kv_ideal_frame, fun m g _ => kv_ideal_frame m g trivial, kv_reference_frame, fun m g _ => kv_reference_frame m g trivial,
  norm_kernel_frame, norm_ideal_frame, norm_reference_frame,
  summary_kernel_frame, summary_ideal_frame, summary_reference_frame,
  chunk_kernel_frame, chunk_ideal_frame, chunk_reference_frame,
  attn_preserves, attn_algebraic,
  trivial, mlp_algebraic, trivial, last_algebraic, trivial, out_algebraic, trivial, glu_algebraic, trivial, q_algebraic,
  trivial, kv_algebraic,
  trivial, norm_algebraic,
  trivial, summary_algebraic,
  trivial, chunk_algebraic⟩

end Cert.Proof

end
